-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v4)) (v2 : (c : Dev Cert.Kernel4Ideal.nD) → Buf (Elt Ideal) ((c.tc : Thread Cert.Kernel4Ideal.nD Cert.Kernel4Ideal.τ).loc Cert.Kernel4Ideal.main_v6)) (v3 : (c : Dev Cert.Kernel4Ideal.nD) → Buf (Elt Ideal) ((c.tc : Thread Cert.Kernel4Ideal.nD Cert.Kernel4Ideal.τ).loc Cert.Kernel4Ideal.main_v8)) (v4 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_v6) = v2 c
          ∧ r.2.mem ((c.tc : Thread Cert.Kernel4Ideal.nD Cert.Kernel4Ideal.τ).loc Cert.Kernel4Ideal.main_v8) = v3 c
          ∧ r.2.mem ((c.tc : Thread Cert.Kernel4Ideal.nD Cert.Kernel4Ideal.τ).loc Cert.Kernel4Ideal.main_v10) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_v13) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4096x5632 : Shape := ⟨3, ![8, 4096, 5632]⟩
abbrev S8x2x512x2x128 : Shape := ⟨5, ![8, 2, 512, 2, 128]⟩
abbrev S8 : Shape := ⟨1, ![8]⟩
abbrev S4096x2x32 : Shape := ⟨3, ![4096, 2, 32]⟩
abbrev S_ : Shape := ⟨0, ![]⟩

class Facts : Prop where
  bitsLt_bf16_f32 : FTy.bits .bf16 < FTy.bits .f32
  bcast_S_S8x4096x5632 : S_.BroadcastsInDim S8x4096x5632 (![] : Fin 0 → Fin S8x4096x5632.rank)
  reducesTo_S8x4096x5632_S_d0_1_2 : S8x4096x5632.ReducesTo [0, 1, 2] S_
  h_S_ : 0 < S_.numel
  bcast_S_S8x2x512x2x128 : S_.BroadcastsInDim S8x2x512x2x128 (![] : Fin 0 → Fin S8x2x512x2x128.rank)
  reducesTo_S8x2x512x2x128_S_d0_1_2_3_4 : S8x2x512x2x128.ReducesTo [0, 1, 2, 3, 4] S_
  bcast_S_S8 : S_.BroadcastsInDim S8 (![] : Fin 0 → Fin S8.rank)
  reducesTo_S8_S_d0 : S8.ReducesTo [0] S_
  bcast_S_S4096x2x32 : S_.BroadcastsInDim S4096x2x32 (![] : Fin 0 → Fin S4096x2x32.rank)
  reducesTo_S4096x2x32_S_d0_1_2 : S4096x2x32.ReducesTo [0, 1, 2] S_

variable [Facts]

def fn_part1 {F : FTy → Type} [FloatOps F] (main_arg4 : FVec F S4096x2x32 .f32) (main_arg5 : FVec F S4096x2x32 .f32) (main_v14 : IVec S_ 1) (main_v15 : FVec F S8 .f32) (main_v16 : FVec F S8 .f32) : IVec S_ 1 :=
  let main_v17 : IVec S8 1 := cmpf .olt main_v15 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v14 main_v18
  let main_v20 : FVec F S4096x2x32 .f32 := Host.absf main_arg4
  let main_cst_6 : FVec F S_ .f32 := constant S_ .f32 0x7F800000#32
  let main_v21 : FVec F S4096x2x32 .f32 := broadcastInDim S4096x2x32 ![] bcast_S_S4096x2x32 main_cst_6
  let main_v22 : IVec S4096x2x32 1 := cmpf .olt main_v20 main_v21
  let main_c_7 : IVec S_ 1 := constantI S_ 1 1#1
  let main_v23 : IVec S_ 1 := (fun x v => Host.reduce IntOp.andi x v reducesTo_S4096x2x32_S_d0_1_2 h_S_) main_v22 main_c_7
  let main_v24 : IVec S_ 1 := andi main_v19 main_v23
  let main_v25 : FVec F S4096x2x32 .f32 := Host.absf main_arg5
  let main_cst_8 : FVec F S_ .f32 := constant S_ .f32 0x7F800000#32
  let main_v26 : FVec F S4096x2x32 .f32 := broadcastInDim S4096x2x32 ![] bcast_S_S4096x2x32 main_cst_8
  let main_v27 : IVec S4096x2x32 1 := cmpf .olt main_v25 main_v26
  let main_c_9 : IVec S_ 1 := constantI S_ 1 1#1
  let main_v28 : IVec S_ 1 := (fun x v => Host.reduce IntOp.andi x v reducesTo_S4096x2x32_S_d0_1_2 h_S_) main_v27 main_c_9
  let main_v29 : IVec S_ 1 := andi main_v24 main_v28
  main_v29

def fn {F : FTy → Type} [FloatOps F] (main_arg0 : FVec F S8x4096x5632 .bf16) (main_arg1 : FVec F S8x2x512x2x128 .f32) (main_arg2 : FVec F S8x2x512x2x128 .f32) (main_arg3 : FVec F S8 .f32) (main_arg4 : FVec F S4096x2x32 .f32) (main_arg5 : FVec F S4096x2x32 .f32) : IVec S_ 1 :=
  let main_v0 : FVec F S8x4096x5632 .f32 := (extf .f32 · bitsLt_bf16_f32) main_arg0
  let main_v1 : FVec F S8x4096x5632 .f32 := Host.absf main_v0
  let main_cst : FVec F S_ .f32 := constant S_ .f32 0x7F800000#32
  let main_v2 : FVec F S8x4096x5632 .f32 := broadcastInDim S8x4096x5632 ![] bcast_S_S8x4096x5632 main_cst
  let main_v3 : IVec S8x4096x5632 1 := cmpf .olt main_v1 main_v2
  let main_c : IVec S_ 1 := constantI S_ 1 1#1
  let main_v4 : IVec S_ 1 := (fun x v => Host.reduce IntOp.andi x v reducesTo_S8x4096x5632_S_d0_1_2 h_S_) main_v3 main_c
  let main_v5 : FVec F S8x2x512x2x128 .f32 := Host.absf main_arg1
  let main_cst_0 : FVec F S_ .f32 := constant S_ .f32 0x7F800000#32
  let main_v6 : FVec F S8x2x512x2x128 .f32 := broadcastInDim S8x2x512x2x128 ![] bcast_S_S8x2x512x2x128 main_cst_0
  let main_v7 : IVec S8x2x512x2x128 1 := cmpf .olt main_v5 main_v6
  let main_c_1 : IVec S_ 1 := constantI S_ 1 1#1
  let main_v8 : IVec S_ 1 := (fun x v => Host.reduce IntOp.andi x v reducesTo_S8x2x512x2x128_S_d0_1_2_3_4 h_S_) main_v7 main_c_1
  let main_v9 : IVec S_ 1 := andi main_v4 main_v8
  let main_v10 : FVec F S8x2x512x2x128 .f32 := Host.absf main_arg2
  let main_cst_2 : FVec F S_ .f32 := constant S_ .f32 0x7F800000#32
  let main_v11 : FVec F S8x2x512x2x128 .f32 := broadcastInDim S8x2x512x2x128 ![] bcast_S_S8x2x512x2x128 main_cst_2
  let main_v12 : IVec S8x2x512x2x128 1 := cmpf .olt main_v10 main_v11
  let main_c_3 : IVec S_ 1 := constantI S_ 1 1#1
  let main_v13 : IVec S_ 1 := (fun x v => Host.reduce IntOp.andi x v reducesTo_S8x2x512x2x128_S_d0_1_2_3_4 h_S_) main_v12 main_c_3
  let main_v14 : IVec S_ 1 := andi main_v9 main_v13
  let main_v15 : FVec F S8 .f32 := Host.absf main_arg3
  let main_cst_4 : FVec F S_ .f32 := constant S_ .f32 0x7F800000#32
  let main_v16 : FVec F S8 .f32 := broadcastInDim S8 ![] bcast_S_S8 main_cst_4
  fn_part1 (F := F) main_arg4 main_arg5 main_v14 main_v15 main_v16
-- ==== Kernel.lean ====
abbrev S8x4096x5632 : Shape := ⟨3, ![8, 4096, 5632]⟩
abbrev S8x2x512x2x128 : Shape := ⟨5, ![8, 2, 512, 2, 128]⟩
abbrev S8 : Shape := ⟨1, ![8]⟩
abbrev S4096x2x32 : Shape := ⟨3, ![4096, 2, 32]⟩
abbrev S8x2x512x256 : Shape := ⟨4, ![8, 2, 512, 256]⟩
abbrev S4096x2x64 : Shape := ⟨3, ![4096, 2, 64]⟩
abbrev S4096x128 : Shape := ⟨2, ![4096, 128]⟩
abbrev S8x4096x1024 : Shape := ⟨3, ![8, 4096, 1024]⟩
abbrev S1x128x1024 : Shape := ⟨3, ![1, 128, 1024]⟩
abbrev S1x4096x256 : Shape := ⟨3, ![1, 4096, 256]⟩
abbrev S1x1x512x256 : Shape := ⟨4, ![1, 1, 512, 256]⟩
abbrev S128x128 : Shape := ⟨2, ![128, 128]⟩
abbrev S384x128 : Shape := ⟨2, ![384, 128]⟩
abbrev S128x384 : Shape := ⟨2, ![128, 384]⟩
abbrev S1x384x128 : Shape := ⟨3, ![1, 384, 128]⟩
abbrev S1x1x512x128 : Shape := ⟨4, ![1, 1, 512, 128]⟩
abbrev S512x128 : Shape := ⟨2, ![512, 128]⟩
abbrev S1x128x128 : Shape := ⟨3, ![1, 128, 128]⟩
abbrev S256x128 : Shape := ⟨2, ![256, 128]⟩
abbrev S256x384 : Shape := ⟨2, ![256, 384]⟩
abbrev S2x128x384 : Shape := ⟨3, ![2, 128, 384]⟩
abbrev S1x128x384 : Shape := ⟨3, ![1, 128, 384]⟩
abbrev S256x512 : Shape := ⟨2, ![256, 512]⟩
abbrev S1 : Shape := ⟨1, ![1]⟩
abbrev S128x1 : Shape := ⟨2, ![128, 1]⟩
abbrev S256x1 : Shape := ⟨2, ![256, 1]⟩
abbrev S256 : Shape := ⟨1, ![256]⟩

abbrev nBuf : Space → Nat
  | .hbm => 14
  | .vmem => 14
  | .smem => 1
  | _ => 0

abbrev bufTy : (tb : Table) → Fin (tcTables nBuf tb) → BufTy
  | .hbm, ⟨0, _⟩ => ⟨S8x4096x5632, .bf16⟩
  | .hbm, ⟨1, _⟩ => ⟨S8x2x512x2x128, .f32⟩
  | .hbm, ⟨2, _⟩ => ⟨S8x2x512x2x128, .f32⟩
  | .hbm, ⟨3, _⟩ => ⟨S8, .f32⟩
  | .hbm, ⟨4, _⟩ => ⟨S4096x2x32, .f32⟩
  | .hbm, ⟨5, _⟩ => ⟨S4096x2x32, .f32⟩
  | .hbm, ⟨6, _⟩ => ⟨S8x2x512x256, .f32⟩
  | .hbm, ⟨7, _⟩ => ⟨S8x2x512x256, .f32⟩
  | .hbm, ⟨8, _⟩ => ⟨S4096x2x64, .f32⟩
  | .hbm, ⟨9, _⟩ => ⟨S4096x128, .f32⟩
  | .hbm, ⟨10, _⟩ => ⟨S4096x2x32, .f32⟩
  | .hbm, ⟨11, _⟩ => ⟨S4096x2x64, .f32⟩
  | .hbm, ⟨12, _⟩ => ⟨S4096x128, .f32⟩
  | .hbm, ⟨13, _⟩ => ⟨S8x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1x512x256, .f32⟩
  | .local _ .vmem, ⟨7, _⟩ => ⟨S1x1x512x256, .f32⟩
  | .local _ .vmem, ⟨8, _⟩ => ⟨S1x1x512x256, .f32⟩
  | .local _ .vmem, ⟨9, _⟩ => ⟨S1x1x512x256, .f32⟩
  | .local _ .vmem, ⟨10, _⟩ => ⟨S4096x128, .f32⟩
  | .local _ .vmem, ⟨11, _⟩ => ⟨S4096x128, .f32⟩
  | .local _ .vmem, ⟨12, _⟩ => ⟨S1x128x1024, .bf16⟩
  | .local _ .vmem, ⟨13, _⟩ => ⟨S1x128x1024, .bf16⟩
  | .local _ .smem, ⟨0, _⟩ => ⟨S8, .f32⟩
  | _, _ => ⟨S8x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 32], ![false, false, false]⟩

def k0_mult1 (i : grid0.Coords) : BitVec 32 :=
  let c3712_i32 : BitVec 32 := 3712#32
  let c0_i32 : BitVec 32 := 0#32
  let arg2 : BitVec 32 := BitVec.ofNat 32 (i 2).val
  let c1_i32 : BitVec 32 := 1#32
  let v0 : BitVec 32 := Scalar.subi arg2 c1_i32
  let c128_i32 : BitVec 32 := 128#32
  let v1 : BitVec 32 := Scalar.muli v0 c128_i32
  let v2 : BitVec 32 := Scalar.maxsi c0_i32 v1
  let v3 : BitVec 32 := Scalar.minsi c3712_i32 v2
  v3
def k0_mult2 (i : grid0.Coords) : BitVec 32 :=
  let arg2 : BitVec 32 := BitVec.ofNat 32 (i 2).val
  let c128_i32_0 : BitVec 32 := 128#32
  let v5 : BitVec 32 := Scalar.muli arg2 c128_i32_0
  v5
def k0_off1 (i : grid0.Coords) : Fin 2 → Nat :=
  let arg2 : BitVec 32 := BitVec.ofNat 32 (i 2).val
  let c128_i32_0 : BitVec 32 := 128#32
  let v5 : BitVec 32 := Scalar.muli arg2 c128_i32_0
  let v6 : BitVec 32 := v5
  let v7 : Index := Scalar.indexCast v6
  let c0 : Index := 0#32
  ![v7.toNat, 0]
def k0_off2 (i : grid0.Coords) : Fin 2 → Nat :=
  let c3712_i32 : BitVec 32 := 3712#32
  let c0_i32 : BitVec 32 := 0#32
  let arg2 : BitVec 32 := BitVec.ofNat 32 (i 2).val
  let c1_i32 : BitVec 32 := 1#32
  let v0 : BitVec 32 := Scalar.subi arg2 c1_i32
  let c128_i32 : BitVec 32 := 128#32
  let v1 : BitVec 32 := Scalar.muli v0 c128_i32
  let v2 : BitVec 32 := Scalar.maxsi c0_i32 v1
  let v3 : BitVec 32 := Scalar.minsi c3712_i32 v2
  let v4 : BitVec 32 := v3
  let v13 : Index := Scalar.indexCast v4
  let c0_2 : Index := 0#32
  ![v13.toNat, 0]
def k0_off3 (i : grid0.Coords) : Fin 3 → Nat :=
  let c0_6 : Index := 0#32
  let c3712_i32 : BitVec 32 := 3712#32
  let c0_i32 : BitVec 32 := 0#32
  let arg2 : BitVec 32 := BitVec.ofNat 32 (i 2).val
  let c1_i32 : BitVec 32 := 1#32
  let v0 : BitVec 32 := Scalar.subi arg2 c1_i32
  let c128_i32 : BitVec 32 := 128#32
  let v1 : BitVec 32 := Scalar.muli v0 c128_i32
  let v2 : BitVec 32 := Scalar.maxsi c0_i32 v1
  let v3 : BitVec 32 := Scalar.minsi c3712_i32 v2
  let v4 : BitVec 32 := v3
  let v32 : Index := Scalar.indexCast v4
  let c0_7 : Index := 0#32
  ![0, v32.toNat, 0]
def k0_off4 (i : grid0.Coords) (c0_i32_51 : BitVec 32) (c0_i32_52 : BitVec 32) : Fin 1 → Nat :=
  let arg1 : BitVec 32 := BitVec.ofNat 32 (i 1).val
  let c2_i32 : BitVec 32 := 2#32
  let v140 : BitVec 32 := Scalar.muli arg1 c2_i32
  let c4_i32 : BitVec 32 := 4#32
  let v141 : BitVec 32 := Scalar.muli v140 c4_i32
  let v142 : BitVec 32 := Scalar.addi v141 c0_i32_51
  let v143 : BitVec 32 := Scalar.addi v142 c0_i32_52
  let v144 : Index := Scalar.indexCast v143
  ![v144.toNat]
def k0_off5 (i : grid0.Coords) : Fin 3 → Nat :=
  let c0_119 : Index := 0#32
  let c3712_i32 : BitVec 32 := 3712#32
  let c0_i32 : BitVec 32 := 0#32
  let arg2 : BitVec 32 := BitVec.ofNat 32 (i 2).val
  let c1_i32 : BitVec 32 := 1#32
  let v0 : BitVec 32 := Scalar.subi arg2 c1_i32
  let c128_i32 : BitVec 32 := 128#32
  let v1 : BitVec 32 := Scalar.muli v0 c128_i32
  let v2 : BitVec 32 := Scalar.maxsi c0_i32 v1
  let v3 : BitVec 32 := Scalar.minsi c3712_i32 v2
  let v4 : BitVec 32 := v3
  let v317 : Index := Scalar.indexCast v4
  let c128_120 : Index := 128#32
  ![0, v317.toNat, 128]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c21_i32 : BitVec 32 := 21#32
  let v0 : BitVec 32 := Scalar.addi c21_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== ReferenceIdeal.lean ====
abbrev S8x4096x5632 : Shape := ⟨3, ![8, 4096, 5632]⟩
abbrev S8x2x512x2x128 : Shape := ⟨5, ![8, 2, 512, 2, 128]⟩
abbrev S8 : Shape := ⟨1, ![8]⟩
abbrev S4096x2x32 : Shape := ⟨3, ![4096, 2, 32]⟩
abbrev S8x4096x1024 : Shape := ⟨3, ![8, 4096, 1024]⟩
abbrev S8x4096x8x128 : Shape := ⟨4, ![8, 4096, 8, 128]⟩
abbrev S8x4096x256 : Shape := ⟨3, ![8, 4096, 256]⟩
abbrev S8x4096x2x128 : Shape := ⟨4, ![8, 4096, 2, 128]⟩
abbrev S4096x1x32 : Shape := ⟨3, ![4096, 1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S8x4096x2x4x128 : Shape := ⟨5, ![8, 4096, 2, 4, 128]⟩
abbrev S8x4096x2x32 : Shape := ⟨4, ![8, 4096, 2, 32]⟩
abbrev S8x1x512x2x128 : Shape := ⟨5, ![8, 1, 512, 2, 128]⟩
abbrev S8x512x2x128 : Shape := ⟨4, ![8, 512, 2, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x2x4096x4096x4 : Shape := ⟨5, ![8, 2, 4096, 4096, 4]⟩
abbrev S8x2x4x4096x4096 : Shape := ⟨5, ![8, 2, 4, 4096, 4096]⟩
abbrev S8x2x512x4096x4 : Shape := ⟨5, ![8, 2, 512, 4096, 4]⟩
abbrev S8x2x4x4096x512 : Shape := ⟨5, ![8, 2, 4, 4096, 512]⟩
abbrev S1x2x4x1x1 : Shape := ⟨5, ![1, 2, 4, 1, 1]⟩
abbrev S8x2x4x4096x1 : Shape := ⟨5, ![8, 2, 4, 4096, 1]⟩
abbrev S8x2x4x4096x4609 : Shape := ⟨5, ![8, 2, 4, 4096, 4609]⟩
abbrev S8x2x4x4096 : Shape := ⟨4, ![8, 2, 4, 4096]⟩
abbrev S8x2x128x4x4096 : Shape := ⟨5, ![8, 2, 128, 4, 4096]⟩

abbrev nBuf : Space → Nat
  | .hbm => 143
  | .vmem => 0
  | .smem => 0
  | _ => 0

abbrev hbmTy0_0 (i : Nat) : BufTy := match i % 128 with
  | 0 => ⟨S8x4096x5632, .bf16⟩
  | 1 => ⟨S8x2x512x2x128, .f32⟩
  | 2 => ⟨S8x2x512x2x128, .f32⟩
  | 3 => ⟨S8, .f32⟩
  | 4 => ⟨S4096x2x32, .f32⟩
  | 5 => ⟨S4096x2x32, .f32⟩
  | 6 => ⟨S8x4096x5632, .f32⟩
  | 7 => ⟨S8x4096x1024, .f32⟩
  | 8 => ⟨S8x4096x8x128, .f32⟩
  | 9 => ⟨S8x4096x256, .f32⟩
  | 10 => ⟨S8x4096x2x128, .f32⟩
  | 11 => ⟨S8x4096x256, .f32⟩
  | 12 => ⟨S8x4096x2x128, .f32⟩
  | 13 => ⟨S4096x1x32, .f32⟩
  | 14 => ⟨S4096x32, .f32⟩
  | 15 => ⟨S1x4096x1x32, .f32⟩
  | 16 => ⟨S4096x1x32, .f32⟩
  | 17 => ⟨S4096x32, .f32⟩
  | 18 => ⟨S1x4096x1x32, .f32⟩
  | 19 => ⟨S4096x1x32, .f32⟩
  | 20 => ⟨S4096x32, .f32⟩
  | 21 => ⟨S1x4096x1x32, .f32⟩
  | 22 => ⟨S4096x1x32, .f32⟩
  | 23 => ⟨S4096x32, .f32⟩
  | 24 => ⟨S1x4096x1x32, .f32⟩
  | 25 => ⟨S8x4096x8x32, .f32⟩
  | 26 => ⟨S8x4096x8x32, .f32⟩
  | 27 => ⟨S8x4096x8x32, .f32⟩
  | 28 => ⟨S8x4096x8x32, .f32⟩
  | 29 => ⟨S8x4096x8x32, .f32⟩
  | 30 => ⟨S8x4096x8x32, .f32⟩
  | 31 => ⟨S8x4096x8x32, .f32⟩
  | 32 => ⟨S8x4096x8x32, .f32⟩
  | 33 => ⟨S8x4096x8x32, .f32⟩
  | 34 => ⟨S8x4096x8x32, .f32⟩
  | 35 => ⟨S8x4096x8x32, .f32⟩
  | 36 => ⟨S8x4096x8x32, .f32⟩
  | 37 => ⟨S8x4096x8x32, .f32⟩
  | 38 => ⟨S8x4096x8x32, .f32⟩
  | 39 => ⟨S8x4096x8x32, .f32⟩
  | 40 => ⟨S8x4096x8x32, .f32⟩
  | 41 => ⟨S8x4096x8x32, .f32⟩
  | 42 => ⟨S8x4096x8x32, .f32⟩
  | 43 => ⟨S8x4096x8x32, .f32⟩
  | 44 => ⟨S8x4096x8x32, .f32⟩
  | 45 => ⟨S8x4096x8x32, .f32⟩
  | 46 => ⟨S8x4096x8x32, .f32⟩
  | 47 => ⟨S8x4096x8x32, .f32⟩
  | 48 => ⟨S8x4096x8x32, .f32⟩
  | 49 => ⟨S8x4096x8x128, .f32⟩
  | 50 => ⟨S8x4096x2x4x128, .f32⟩
  | 51 => ⟨S4096x1x32, .f32⟩
  | 52 => ⟨S4096x32, .f32⟩
  | 53 => ⟨S1x4096x1x32, .f32⟩
  | 54 => ⟨S4096x1x32, .f32⟩
  | 55 => ⟨S4096x32, .f32⟩
  | 56 => ⟨S1x4096x1x32, .f32⟩
  | 57 => ⟨S4096x1x32, .f32⟩
  | 58 => ⟨S4096x32, .f32⟩
  | 59 => ⟨S1x4096x1x32, .f32⟩
  | 60 => ⟨S4096x1x32, .f32⟩
  | 61 => ⟨S4096x32, .f32⟩
  | 62 => ⟨S1x4096x1x32, .f32⟩
  | 63 => ⟨S8x4096x2x32, .f32⟩
  | 64 => ⟨S8x4096x2x32, .f32⟩
  | 65 => ⟨S8x4096x2x32, .f32⟩
  | 66 => ⟨S8x4096x2x32, .f32⟩
  | 67 => ⟨S8x4096x2x32, .f32⟩
  | 68 => ⟨S8x4096x2x32, .f32⟩
  | 69 => ⟨S8x4096x2x32, .f32⟩
  | 70 => ⟨S8x4096x2x32, .f32⟩
  | 71 => ⟨S8x4096x2x32, .f32⟩
  | 72 => ⟨S8x4096x2x32, .f32⟩
  | 73 => ⟨S8x4096x2x32, .f32⟩
  | 74 => ⟨S8x4096x2x32, .f32⟩
  | 75 => ⟨S8x4096x2x32, .f32⟩
  | 76 => ⟨S8x4096x2x32, .f32⟩
  | 77 => ⟨S8x4096x2x32, .f32⟩
  | 78 => ⟨S8x4096x2x32, .f32⟩
  | 79 => ⟨S8x4096x2x32, .f32⟩
  | 80 => ⟨S8x4096x2x32, .f32⟩
  | 81 => ⟨S8x4096x2x32, .f32⟩
  | 82 => ⟨S8x4096x2x32, .f32⟩
  | 83 => ⟨S8x4096x2x32, .f32⟩
  | 84 => ⟨S8x4096x2x32, .f32⟩
  | 85 => ⟨S8x4096x2x32, .f32⟩
  | 86 => ⟨S8x4096x2x32, .f32⟩
  | 87 => ⟨S8x4096x2x128, .f32⟩
  | 88 => ⟨S8x1x512x2x128, .f32⟩
  | 89 => ⟨S8x512x2x128, .f32⟩
  | 90 => ⟨S8x1x512x2x128, .f32⟩
  | 91 => ⟨S8x512x2x128, .f32⟩
  | 92 => ⟨S_, .f32⟩
  | 93 => ⟨S_, .f32⟩
  | 94 => ⟨S4096, .i32⟩
  | 95 => ⟨S4096x1, .i32⟩
  | 96 => ⟨S1x4096, .i32⟩
  | 97 => ⟨S4096x4096, .i32⟩
  | 98 => ⟨S4096x4096, .i32⟩
  | 99 => ⟨S4096x4096, .i32⟩
  | 100 => ⟨S4096x4096, .i32⟩
  | 101 => ⟨S_, .i32⟩
  | 102 => ⟨S4096x4096, .i32⟩
  | 103 => ⟨S4096x4096, .i1⟩
  | 104 => ⟨S8x2x4096x4096x4, .f32⟩
  | 105 => ⟨S8x2x4x4096x4096, .f32⟩
  | 106 => ⟨S8x2x4x4096x4096, .f32⟩
  | 107 => ⟨S8x2x4x4096x4096, .f32⟩
  | 108 => ⟨S_, .f32⟩
  | 109 => ⟨S_, .f32⟩
  | 110 => ⟨S8x2x4x4096x4096, .i1⟩
  | 111 => ⟨S8x2x4x4096x4096, .f32⟩
  | 112 => ⟨S8x2x4x4096x4096, .f32⟩
  | 113 => ⟨S8x2x512x4096x4, .f32⟩
  | 114 => ⟨S8x2x4x4096x512, .f32⟩
  | 115 => ⟨S8x2x4x4096x512, .f32⟩
  | 116 => ⟨S8x2x4x4096x512, .f32⟩
  | 117 => ⟨S1x2x4x1x1, .f32⟩
  | 118 => ⟨S8x2x4x4096x1, .f32⟩
  | 119 => ⟨S8x2x4x4096x4609, .f32⟩
  | 120 => ⟨S_, .f32⟩
  | 121 => ⟨S8x2x4x4096, .f32⟩
  | 122 => ⟨S_, .f32⟩
  | 123 => ⟨S8x2x4x4096, .f32⟩
  | 124 => ⟨S8x2x4x4096, .f32⟩
  | 125 => ⟨S8x2x4x4096x1, .f32⟩
  | 126 => ⟨S8x2x4x4096x4609, .f32⟩
  | 127 => ⟨S8x2x4x4096x4609, .f32⟩
  | _ => ⟨S8x4096x5632, .bf16⟩

abbrev hbmTy0_1 (i : Nat) : BufTy := match i % 128 with
  | 0 => ⟨S8x2x4x4096x4609, .f32⟩
  | 1 => ⟨S_, .f32⟩
  | 2 => ⟨S8x2x4x4096, .f32⟩
  | 3 => ⟨S8x2x4x4096x1, .f32⟩
  | 4 => ⟨S8x2x4x4096x4609, .f32⟩
  | 5 => ⟨S8x2x4x4096x4609, .f32⟩
  | 6 => ⟨S8x2x4x4096x4096, .f32⟩
  | 7 => ⟨S8x2x128x4x4096, .f32⟩
  | 8 => ⟨S8x4096x2x4x128, .f32⟩
  | 9 => ⟨S8x2x4x4096x512, .f32⟩
  | 10 => ⟨S8x2x128x4x4096, .f32⟩
  | 11 => ⟨S8x4096x2x4x128, .f32⟩
  | 12 => ⟨S8x4096x2x4x128, .f32⟩
  | 13 => ⟨S8x4096x1024, .f32⟩
  | 14 => ⟨S8x4096x1024, .bf16⟩
  | _ => ⟨S8x4096x5632, .bf16⟩

abbrev hbmTy (i : Nat) : BufTy := match i / 128 with
  | 0 => hbmTy0_0 i
  | 1 => hbmTy0_1 i
  | _ => ⟨S8x4096x5632, .bf16⟩

abbrev bufTy : (tb : Table) → Fin (tcTables nBuf tb) → BufTy
  | .hbm, ⟨i, _⟩ => hbmTy i
  | _, _ => ⟨S8x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_cst : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_c : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_cst_0 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_cst_1 : Ref sig .tc := ⟨.hbm, 120, rfl⟩
abbrev main_v108 : Ref sig .tc := ⟨.hbm, 121, rfl⟩
abbrev main_cst_2 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_cst_3 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩

abbrev nD : Nat := 1
abbrev τ : Topo := Topo.v7x

variable {F : FTy → Type} [FloatOps F]
-- ==== Kernel3.lean ====
abbrev S32768x4096 : Shape := ⟨2, ![32768, 4096]⟩
abbrev S4096x22016 : Shape := ⟨2, ![4096, 22016]⟩
abbrev S3x22016 : Shape := ⟨2, ![3, 22016]⟩
abbrev S22016 : Shape := ⟨1, ![22016]⟩
abbrev S1x22016 : Shape := ⟨2, ![1, 22016]⟩
abbrev S32768x11008 : Shape := ⟨2, ![32768, 11008]⟩
abbrev S16x4096 : Shape := ⟨2, ![16, 4096]⟩
abbrev S1024x4096 : Shape := ⟨2, ![1024, 4096]⟩
abbrev S4096x512 : Shape := ⟨2, ![4096, 512]⟩
abbrev S3x512 : Shape := ⟨2, ![3, 512]⟩
abbrev S1x512 : Shape := ⟨2, ![1, 512]⟩
abbrev S4096x256 : Shape := ⟨2, ![4096, 256]⟩
abbrev S3x256 : Shape := ⟨2, ![3, 256]⟩
abbrev S1x256 : Shape := ⟨2, ![1, 256]⟩
abbrev S1024x512 : Shape := ⟨2, ![1024, 512]⟩
abbrev S1040x4096 : Shape := ⟨2, ![1040, 4096]⟩
abbrev S16x1 : Shape := ⟨2, ![16, 1]⟩
abbrev S1040x256 : Shape := ⟨2, ![1040, 256]⟩
abbrev S1024x256 : Shape := ⟨2, ![1024, 256]⟩

abbrev nBuf : Space → Nat
  | .hbm => 7
  | .vmem => 26
  | .smem => 0
  | _ => 0

abbrev bufTy : (tb : Table) → Fin (tcTables nBuf tb) → BufTy
  | .hbm, ⟨0, _⟩ => ⟨S32768x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S4096x22016, .bf16⟩
  | .hbm, ⟨5, _⟩ => ⟨S1x22016, .f32⟩
  | .hbm, ⟨6, _⟩ => ⟨S32768x11008, .bf16⟩
  | .local _ .vmem, ⟨0, _⟩ => ⟨S16x4096, .bf16⟩
  | .local _ .vmem, ⟨1, _⟩ => ⟨S16x4096, .bf16⟩
  | .local _ .vmem, ⟨2, _⟩ => ⟨S1024x4096, .bf16⟩
  | .local _ .vmem, ⟨3, _⟩ => ⟨S16x4096, .bf16⟩
  | .local _ .vmem, ⟨4, _⟩ => ⟨S16x4096, .bf16⟩
  | .local _ .vmem, ⟨5, _⟩ => ⟨S4096x512, .bf16⟩
  | .local _ .vmem, ⟨6, _⟩ => ⟨S4096x512, .bf16⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1024x512, .bf16⟩
  | .local _ .vmem, ⟨24, _⟩ => ⟨S1024x512, .bf16⟩
  | .local _ .vmem, ⟨25, _⟩ => ⟨S1040x4096, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 22], ![false, false]⟩

def k0_cond2 (i : grid0.Coords) : BitVec 1 :=
  let arg1 : BitVec 32 := BitVec.ofNat 32 (i 1).val
  let c21_i32 : BitVec 32 := 21#32
  let v3 : BitVec 1 := Scalar.cmpi .slt arg1 c21_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c21_i32_2 : BitVec 32 := 21#32
  let v6 : BitVec 1 := Scalar.cmpi .eq arg1 c21_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  ![c0_i32_0.toNat, v3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  ![c0_i32.toNat, v3.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  ![c0_i32_0.toNat, v3.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  ![c0_i32.toNat, v3.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  ![c0_i32_0.toNat, v3.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  ![c0_i32.toNat, v3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S32768x4096 : Shape := ⟨2, ![32768, 4096]⟩
abbrev S4096x22016 : Shape := ⟨2, ![4096, 22016]⟩
abbrev S3x22016 : Shape := ⟨2, ![3, 22016]⟩
abbrev S22016 : Shape := ⟨1, ![22016]⟩
abbrev S32768x22016 : Shape := ⟨2, ![32768, 22016]⟩
abbrev S8x4096x22016 : Shape := ⟨3, ![8, 4096, 22016]⟩
abbrev S_ : Shape := ⟨0, ![]⟩
abbrev S8x4098x22016 : Shape := ⟨3, ![8, 4098, 22016]⟩
abbrev S1x22016 : Shape := ⟨2, ![1, 22016]⟩
abbrev S1x1x22016 : Shape := ⟨3, ![1, 1, 22016]⟩
abbrev S8x4096x11008 : Shape := ⟨3, ![8, 4096, 11008]⟩
abbrev S32768x11008 : Shape := ⟨2, ![32768, 11008]⟩

abbrev nBuf : Space → Nat
  | .hbm => 50
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S32768x4096, .f32⟩
  | .hbm, ⟨5, _⟩ => ⟨S32768x22016, .f32⟩
  | .hbm, ⟨6, _⟩ => ⟨S8x4096x22016, .f32⟩
  | .hbm, ⟨7, _⟩ => ⟨S_, .i32⟩
  | .hbm, ⟨8, _⟩ => ⟨S_, .f32⟩
  | .hbm, ⟨9, _⟩ => ⟨S8x4098x22016, .f32⟩
  | .hbm, ⟨10, _⟩ => ⟨S8x4096x22016, .f32⟩
  | .hbm, ⟨11, _⟩ => ⟨S1x22016, .f32⟩
  | .hbm, ⟨12, _⟩ => ⟨S22016, .f32⟩
  | .hbm, ⟨13, _⟩ => ⟨S1x1x22016, .f32⟩
  | .hbm, ⟨14, _⟩ => ⟨S8x4096x22016, .f32⟩
  | .hbm, ⟨15, _⟩ => ⟨S8x4096x22016, .f32⟩
  | .hbm, ⟨16, _⟩ => ⟨S_, .f32⟩
  | .hbm, ⟨17, _⟩ => ⟨S8x4096x22016, .f32⟩
  | .hbm, ⟨18, _⟩ => ⟨S8x4096x22016, .f32⟩
  | .hbm, ⟨19, _⟩ => ⟨S8x4096x22016, .f32⟩
  | .hbm, ⟨20, _⟩ => ⟨S1x22016, .f32⟩
  | .hbm, ⟨21, _⟩ => ⟨S22016, .f32⟩
  | .hbm, ⟨22, _⟩ => ⟨S1x1x22016, .f32⟩
  | .hbm, ⟨23, _⟩ => ⟨S8x4096x22016, .f32⟩
  | .hbm, ⟨24, _⟩ => ⟨S8x4096x22016, .f32⟩
  | .hbm, ⟨25, _⟩ => ⟨S8x4096x22016, .f32⟩
  | .hbm, ⟨26, _⟩ => ⟨S8x4096x22016, .f32⟩
  | .hbm, ⟨27, _⟩ => ⟨S1x22016, .f32⟩
  | .hbm, ⟨28, _⟩ => ⟨S22016, .f32⟩
  | .hbm, ⟨29, _⟩ => ⟨S1x1x22016, .f32⟩
  | .hbm, ⟨30, _⟩ => ⟨S8x4096x22016, .f32⟩
  | .hbm, ⟨31, _⟩ => ⟨S8x4096x22016, .f32⟩
  | .hbm, ⟨32, _⟩ => ⟨S8x4096x22016, .f32⟩
  | .hbm, ⟨33, _⟩ => ⟨S1x1x22016, .f32⟩
  | .hbm, ⟨34, _⟩ => ⟨S8x4096x22016, .f32⟩
  | .hbm, ⟨35, _⟩ => ⟨S8x4096x22016, .f32⟩
  | .hbm, ⟨36, _⟩ => ⟨S8x4096x11008, .f32⟩
  | .hbm, ⟨37, _⟩ => ⟨S8x4096x11008, .f32⟩
  | .hbm, ⟨38, _⟩ => ⟨S8x4096x11008, .f32⟩
  | .hbm, ⟨39, _⟩ => ⟨S8x4096x11008, .f32⟩
  | .hbm, ⟨40, _⟩ => ⟨S_, .f32⟩
  | .hbm, ⟨41, _⟩ => ⟨S8x4096x11008, .f32⟩
  | .hbm, ⟨42, _⟩ => ⟨S8x4096x11008, .f32⟩
  | .hbm, ⟨43, _⟩ => ⟨S_, .f32⟩
  | .hbm, ⟨44, _⟩ => ⟨S8x4096x11008, .f32⟩
  | .hbm, ⟨45, _⟩ => ⟨S8x4096x11008, .f32⟩
  | .hbm, ⟨46, _⟩ => ⟨S8x4096x11008, .f32⟩
  | .hbm, ⟨47, _⟩ => ⟨S8x4096x11008, .f32⟩
  | .hbm, ⟨48, _⟩ => ⟨S32768x11008, .f32⟩
  | .hbm, ⟨49, _⟩ => ⟨S32768x11008, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel2.lean ====
abbrev S32768x11008 : Shape := ⟨2, ![32768, 11008]⟩
abbrev S11008x4096 : Shape := ⟨2, ![11008, 4096]⟩
abbrev S32768x4096 : Shape := ⟨2, ![32768, 4096]⟩
abbrev S8x1x4096 : Shape := ⟨3, ![8, 1, 4096]⟩
abbrev S4096 : Shape := ⟨1, ![4096]⟩
abbrev S1x4096 : Shape := ⟨2, ![1, 4096]⟩
abbrev S1024x512 : Shape := ⟨2, ![1024, 512]⟩
abbrev S512x4096 : Shape := ⟨2, ![512, 4096]⟩
abbrev S256x4096 : Shape := ⟨2, ![256, 4096]⟩
abbrev S1x1x4096 : Shape := ⟨3, ![1, 1, 4096]⟩
abbrev S1024x4096 : Shape := ⟨2, ![1024, 4096]⟩
abbrev S1024x1 : Shape := ⟨2, ![1024, 1]⟩
abbrev S1024x256 : Shape := ⟨2, ![1024, 256]⟩
abbrev S1024 : Shape := ⟨1, ![1024]⟩
abbrev S16x4096 : Shape := ⟨2, ![16, 4096]⟩
abbrev S16x1 : Shape := ⟨2, ![16, 1]⟩

abbrev nBuf : Space → Nat
  | .hbm => 8
  | .vmem => 13
  | .smem => 0
  | _ => 0

abbrev bufTy : (tb : Table) → Fin (tcTables nBuf tb) → BufTy
  | .hbm, ⟨0, _⟩ => ⟨S32768x11008, .bf16⟩
  | .hbm, ⟨1, _⟩ => ⟨S11008x4096, .f32⟩
  | .hbm, ⟨2, _⟩ => ⟨S32768x4096, .f32⟩
  | .hbm, ⟨3, _⟩ => ⟨S8x1x4096, .f32⟩
  | .hbm, ⟨4, _⟩ => ⟨S4096, .f32⟩
  | .hbm, ⟨5, _⟩ => ⟨S11008x4096, .bf16⟩
  | .hbm, ⟨6, _⟩ => ⟨S1x4096, .f32⟩
  | .hbm, ⟨7, _⟩ => ⟨S32768x4096, .f32⟩
  | .local _ .vmem, ⟨0, _⟩ => ⟨S1024x512, .bf16⟩
  | .local _ .vmem, ⟨1, _⟩ => ⟨S1024x512, .bf16⟩
  | .local _ .vmem, ⟨2, _⟩ => ⟨S512x4096, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S1024x4096, .f32⟩
  | .local _ .vmem, ⟨12, _⟩ => ⟨S1024x1, .f32⟩
  | _, _ => ⟨S32768x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 26], ![false, false]⟩

def k0_cond4 (i : grid0.Coords) : BitVec 1 :=
  let arg1 : BitVec 32 := BitVec.ofNat 32 (i 1).val
  let c22_i32 : BitVec 32 := 22#32
  let v11 : BitVec 1 := Scalar.cmpi .eq arg1 c22_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult1 (k0_t1 : Fin k0_t1_loop.trips) : BitVec 32 :=
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  v29
def k0_off1 (k0_t1 : Fin k0_t1_loop.trips) : Fin 2 → Nat :=
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  let v30 : BitVec 32 := v29
  let v32 : Index := Scalar.indexCast v30
  let c0_17 : Index := 0#32
  ![v32.toNat, 0]
def k0_off2 (k0_t1 : Fin k0_t1_loop.trips) : Fin 2 → Nat :=
  let c0_i32_16 : BitVec 32 := 0#32
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  let v30 : BitVec 32 := v29
  let v31 : BitVec 32 := Scalar.addi c0_i32_16 v30
  let v34 : Index := Scalar.indexCast v31
  let c0_18 : Index := 0#32
  ![v34.toNat, 0]
def k0_off3 (k0_t1 : Fin k0_t1_loop.trips) : Fin 2 → Nat :=
  let c0_i32_16 : BitVec 32 := 0#32
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  let v30 : BitVec 32 := v29
  let v31 : BitVec 32 := Scalar.addi c0_i32_16 v30
  let v36 : Index := Scalar.indexCast v31
  let c0_19 : Index := 0#32
  ![v36.toNat, 0]
def k0_cond5 (i : grid0.Coords) : BitVec 1 :=
  let arg1 : BitVec 32 := BitVec.ofNat 32 (i 1).val
  let c23_i32 : BitVec 32 := 23#32
  let v14 : BitVec 1 := Scalar.cmpi .eq arg1 c23_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult2 (k0_t2 : Fin k0_t2_loop.trips) : BitVec 32 :=
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  v29
def k0_off4 (k0_t2 : Fin k0_t2_loop.trips) : Fin 2 → Nat :=
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  let v30 : BitVec 32 := v29
  let v32 : Index := Scalar.indexCast v30
  let c0_16 : Index := 0#32
  ![v32.toNat, 0]
def k0_off5 (k0_t2 : Fin k0_t2_loop.trips) : Fin 2 → Nat :=
  let c256_i32 : BitVec 32 := 256#32
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  let v30 : BitVec 32 := v29
  let v31 : BitVec 32 := Scalar.addi c256_i32 v30
  let v34 : Index := Scalar.indexCast v31
  let c0_17 : Index := 0#32
  ![v34.toNat, 0]
def k0_off6 (k0_t2 : Fin k0_t2_loop.trips) : Fin 2 → Nat :=
  let c256_i32 : BitVec 32 := 256#32
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  let v30 : BitVec 32 := v29
  let v31 : BitVec 32 := Scalar.addi c256_i32 v30
  let v36 : Index := Scalar.indexCast v31
  let c0_18 : Index := 0#32
  ![v36.toNat, 0]
def k0_cond6 (i : grid0.Coords) : BitVec 1 :=
  let arg1 : BitVec 32 := BitVec.ofNat 32 (i 1).val
  let c24_i32 : BitVec 32 := 24#32
  let v17 : BitVec 1 := Scalar.cmpi .eq arg1 c24_i32
  let v18 : BitVec 32 := Scalar.extui v17
  let c0_i32_7 : BitVec 32 := 0#32
  let v19 : BitVec 1 := Scalar.cmpi .ne v18 c0_i32_7
  v19

@[reducible] def k0_t3_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult3 (k0_t3 : Fin k0_t3_loop.trips) : BitVec 32 :=
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  v29
def k0_off7 (k0_t3 : Fin k0_t3_loop.trips) : Fin 2 → Nat :=
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  let v30 : BitVec 32 := v29
  let v32 : Index := Scalar.indexCast v30
  let c0_16 : Index := 0#32
  ![v32.toNat, 0]
def k0_off8 (k0_t3 : Fin k0_t3_loop.trips) : Fin 2 → Nat :=
  let c512_i32 : BitVec 32 := 512#32
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  let v30 : BitVec 32 := v29
  let v31 : BitVec 32 := Scalar.addi c512_i32 v30
  let v34 : Index := Scalar.indexCast v31
  let c0_17 : Index := 0#32
  ![v34.toNat, 0]
def k0_off9 (k0_t3 : Fin k0_t3_loop.trips) : Fin 2 → Nat :=
  let c512_i32 : BitVec 32 := 512#32
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  let v30 : BitVec 32 := v29
  let v31 : BitVec 32 := Scalar.addi c512_i32 v30
  let v36 : Index := Scalar.indexCast v31
  let c0_18 : Index := 0#32
  ![v36.toNat, 0]
def k0_cond7 (i : grid0.Coords) : BitVec 1 :=
  let arg1 : BitVec 32 := BitVec.ofNat 32 (i 1).val
  let c25_i32 : BitVec 32 := 25#32
  let v20 : BitVec 1 := Scalar.cmpi .eq arg1 c25_i32
  let v21 : BitVec 32 := Scalar.extui v20
  let c0_i32_8 : BitVec 32 := 0#32
  let v22 : BitVec 1 := Scalar.cmpi .ne v21 c0_i32_8
  v22

@[reducible] def k0_t4_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult4 (k0_t4 : Fin k0_t4_loop.trips) : BitVec 32 :=
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  v29
def k0_off10 (k0_t4 : Fin k0_t4_loop.trips) : Fin 2 → Nat :=
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  let v30 : BitVec 32 := v29
  let v32 : Index := Scalar.indexCast v30
  let c0_16 : Index := 0#32
  ![v32.toNat, 0]
def k0_off11 (k0_t4 : Fin k0_t4_loop.trips) : Fin 2 → Nat :=
  let c768_i32 : BitVec 32 := 768#32
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  let v30 : BitVec 32 := v29
  let v31 : BitVec 32 := Scalar.addi c768_i32 v30
  let v34 : Index := Scalar.indexCast v31
  let c0_17 : Index := 0#32
  ![v34.toNat, 0]
def k0_off12 (k0_t4 : Fin k0_t4_loop.trips) : Fin 2 → Nat :=
  let c768_i32 : BitVec 32 := 768#32
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  let v30 : BitVec 32 := v29
  let v31 : BitVec 32 := Scalar.addi c768_i32 v30
  let v36 : Index := Scalar.indexCast v31
  let c0_18 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.subi arg1 c22_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.subi arg1 c22_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x11008 : Shape := ⟨2, ![32768, 11008]⟩
abbrev S11008x4096 : Shape := ⟨2, ![11008, 4096]⟩
abbrev S32768x4096 : Shape := ⟨2, ![32768, 4096]⟩
abbrev S8x1x4096 : Shape := ⟨3, ![8, 1, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩
abbrev S8x4096x4096 : Shape := ⟨3, ![8, 4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S32768x11008, .bf16⟩
  | .hbm, ⟨1, _⟩ => ⟨S11008x4096, .f32⟩
  | .hbm, ⟨2, _⟩ => ⟨S32768x4096, .f32⟩
  | .hbm, ⟨3, _⟩ => ⟨S8x1x4096, .f32⟩
  | .hbm, ⟨4, _⟩ => ⟨S4096, .f32⟩
  | .hbm, ⟨5, _⟩ => ⟨S32768x11008, .f32⟩
  | .hbm, ⟨6, _⟩ => ⟨S32768x4096, .f32⟩
  | .hbm, ⟨7, _⟩ => ⟨S32768x4096, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x4096, .f32⟩
  | .hbm, ⟨19, _⟩ => ⟨S32768x4096, .f32⟩
  | .hbm, ⟨20, _⟩ => ⟨S1x4096, .f32⟩
  | .hbm, ⟨21, _⟩ => ⟨S32768x4096, .f32⟩
  | .hbm, ⟨22, _⟩ => ⟨S32768x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S32768x4096, .f32⟩
  | _, _ => ⟨S32768x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S4096x4096 : Shape := ⟨2, ![4096, 4096]⟩
abbrev S4096x5632 : Shape := ⟨2, ![4096, 5632]⟩
abbrev S1024x4096 : Shape := ⟨2, ![1024, 4096]⟩
abbrev S4096x512 : Shape := ⟨2, ![4096, 512]⟩
abbrev S1024x512 : Shape := ⟨2, ![1024, 512]⟩
abbrev S16x256x5632 : Shape := ⟨3, ![16, 256, 5632]⟩
abbrev S16x256x1024 : Shape := ⟨3, ![16, 256, 1024]⟩
abbrev S16x256x8x128 : Shape := ⟨4, ![16, 256, 8, 128]⟩
abbrev S16x256x256 : Shape := ⟨3, ![16, 256, 256]⟩
abbrev S16x256x2x128 : Shape := ⟨4, ![16, 256, 2, 128]⟩

abbrev nBuf : Space → Nat
  | .hbm => 13
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x5632, .f32⟩
  | .hbm, ⟨2, _⟩ => ⟨S4096x5632, .bf16⟩
  | .hbm, ⟨3, _⟩ => ⟨S4096x5632, .f32⟩
  | .hbm, ⟨4, _⟩ => ⟨S16x256x5632, .f32⟩
  | .hbm, ⟨5, _⟩ => ⟨S16x256x1024, .f32⟩
  | .hbm, ⟨6, _⟩ => ⟨S16x256x8x128, .f32⟩
  | .hbm, ⟨7, _⟩ => ⟨S16x256x1024, .f32⟩
  | .hbm, ⟨8, _⟩ => ⟨S16x256x8x128, .f32⟩
  | .hbm, ⟨9, _⟩ => ⟨S16x256x256, .f32⟩
  | .hbm, ⟨10, _⟩ => ⟨S16x256x2x128, .f32⟩
  | .hbm, ⟨11, _⟩ => ⟨S16x256x256, .f32⟩
  | .hbm, ⟨12, _⟩ => ⟨S16x256x2x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x4096 : Shape := ⟨2, ![4096, 4096]⟩
abbrev S4096x5632 : Shape := ⟨2, ![4096, 5632]⟩
abbrev S4096x1024 : Shape := ⟨2, ![4096, 1024]⟩
abbrev S4096x256 : Shape := ⟨2, ![4096, 256]⟩
abbrev S16x256x8x128 : Shape := ⟨4, ![16, 256, 8, 128]⟩
abbrev S16x256x2x128 : Shape := ⟨4, ![16, 256, 2, 128]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x5632, .f32⟩
  | .hbm, ⟨2, _⟩ => ⟨S4096x4096, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x256, .f32⟩
  | .hbm, ⟨9, _⟩ => ⟨S4096x256, .f32⟩
  | .hbm, ⟨10, _⟩ => ⟨S4096x1024, .f32⟩
  | .hbm, ⟨11, _⟩ => ⟨S4096x5632, .f32⟩
  | .hbm, ⟨12, _⟩ => ⟨S16x256x8x128, .f32⟩
  | .hbm, ⟨13, _⟩ => ⟨S16x256x8x128, .f32⟩
  | .hbm, ⟨14, _⟩ => ⟨S16x256x2x128, .f32⟩
  | .hbm, ⟨15, _⟩ => ⟨S16x256x2x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel5.lean ====
abbrev S32768x4096 : Shape := ⟨2, ![32768, 4096]⟩
abbrev S4096x5632 : Shape := ⟨2, ![4096, 5632]⟩
abbrev S32768x5632 : Shape := ⟨2, ![32768, 5632]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x5632, .f32⟩
  | .hbm, ⟨2, _⟩ => ⟨S4096x5632, .bf16⟩
  | .hbm, ⟨3, _⟩ => ⟨S32768x5632, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x4096 : Shape := ⟨2, ![32768, 4096]⟩
abbrev S4096x5632 : Shape := ⟨2, ![4096, 5632]⟩
abbrev S32768x5632 : Shape := ⟨2, ![32768, 5632]⟩
abbrev S32768x1024 : Shape := ⟨2, ![32768, 1024]⟩
abbrev S32768x256 : Shape := ⟨2, ![32768, 256]⟩

abbrev nBuf : Space → Nat
  | .hbm => 13
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x5632, .f32⟩
  | .hbm, ⟨2, _⟩ => ⟨S32768x4096, .f32⟩
  | .hbm, ⟨3, _⟩ => ⟨S32768x5632, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x256, .f32⟩
  | .hbm, ⟨9, _⟩ => ⟨S32768x256, .f32⟩
  | .hbm, ⟨10, _⟩ => ⟨S32768x1024, .f32⟩
  | .hbm, ⟨11, _⟩ => ⟨S32768x5632, .f32⟩
  | .hbm, ⟨12, _⟩ => ⟨S32768x5632, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel6.lean ====
abbrev S4096x11008 : Shape := ⟨2, ![4096, 11008]⟩
abbrev S11008x4096 : Shape := ⟨2, ![11008, 4096]⟩
abbrev S4096x4096 : Shape := ⟨2, ![4096, 4096]⟩
abbrev S1x1x4096 : Shape := ⟨3, ![1, 1, 4096]⟩
abbrev S4096 : Shape := ⟨1, ![4096]⟩
abbrev S1x4096 : Shape := ⟨2, ![1, 4096]⟩
abbrev S1024x512 : Shape := ⟨2, ![1024, 512]⟩
abbrev S512x4096 : Shape := ⟨2, ![512, 4096]⟩
abbrev S256x4096 : Shape := ⟨2, ![256, 4096]⟩
abbrev S1024x4096 : Shape := ⟨2, ![1024, 4096]⟩
abbrev S1024x1 : Shape := ⟨2, ![1024, 1]⟩
abbrev S1024x256 : Shape := ⟨2, ![1024, 256]⟩
abbrev S1024 : Shape := ⟨1, ![1024]⟩
abbrev S16x4096 : Shape := ⟨2, ![16, 4096]⟩
abbrev S16x1 : Shape := ⟨2, ![16, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .f32⟩
  | .hbm, ⟨2, _⟩ => ⟨S4096x4096, .f32⟩
  | .hbm, ⟨3, _⟩ => ⟨S1x1x4096, .f32⟩
  | .hbm, ⟨4, _⟩ => ⟨S4096, .f32⟩
  | .hbm, ⟨5, _⟩ => ⟨S11008x4096, .bf16⟩
  | .hbm, ⟨6, _⟩ => ⟨S1x4096, .f32⟩
  | .hbm, ⟨7, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x4096, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S1024x4096, .f32⟩
  | .local _ .vmem, ⟨11, _⟩ => ⟨S1024x1, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 26], ![false, false]⟩

def k0_cond4 (i : grid0.Coords) : BitVec 1 :=
  let arg1 : BitVec 32 := BitVec.ofNat 32 (i 1).val
  let c22_i32 : BitVec 32 := 22#32
  let v11 : BitVec 1 := Scalar.cmpi .eq arg1 c22_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult1 (k0_t1 : Fin k0_t1_loop.trips) : BitVec 32 :=
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  v29
def k0_off1 (k0_t1 : Fin k0_t1_loop.trips) : Fin 2 → Nat :=
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  let v30 : BitVec 32 := v29
  let v32 : Index := Scalar.indexCast v30
  let c0_17 : Index := 0#32
  ![v32.toNat, 0]
def k0_off2 (k0_t1 : Fin k0_t1_loop.trips) : Fin 2 → Nat :=
  let c0_i32_16 : BitVec 32 := 0#32
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  let v30 : BitVec 32 := v29
  let v31 : BitVec 32 := Scalar.addi c0_i32_16 v30
  let v34 : Index := Scalar.indexCast v31
  let c0_18 : Index := 0#32
  ![v34.toNat, 0]
def k0_off3 (k0_t1 : Fin k0_t1_loop.trips) : Fin 2 → Nat :=
  let c0_i32_16 : BitVec 32 := 0#32
  let c0_i32_13 : BitVec 32 := 0#32
  let c1_i32 : BitVec 32 := 1#32
  let arg10 : BitVec 32 := Scf.iv c0_i32_13 c1_i32 k0_t1
  let c16_i32_15 : BitVec 32 := 16#32
  let v29 : BitVec 32 := Scalar.muli arg10 c16_i32_15
  let v30 : BitVec 32 := v29
  let v31 : BitVec 32 := Scalar.addi c0_i32_16 v30
  let v36 : Index := Scalar.indexCast v31
  let c0_19 : Index := 0#32
  ![v36.toNat, 0]
def k0_cond5 (i : grid0.Coords) : BitVec 1 :=
  let arg1 : BitVec 32 := BitVec.ofNat 32 (i 1).val
  let c23_i32 : BitVec 32 := 23#32
  let v14 : BitVec 1 := Scalar.cmpi .eq arg1 c23_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult2 (k0_t2 : Fin k0_t2_loop.trips) : BitVec 32 :=
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  v29
def k0_off4 (k0_t2 : Fin k0_t2_loop.trips) : Fin 2 → Nat :=
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  let v30 : BitVec 32 := v29
  let v32 : Index := Scalar.indexCast v30
  let c0_16 : Index := 0#32
  ![v32.toNat, 0]
def k0_off5 (k0_t2 : Fin k0_t2_loop.trips) : Fin 2 → Nat :=
  let c256_i32 : BitVec 32 := 256#32
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  let v30 : BitVec 32 := v29
  let v31 : BitVec 32 := Scalar.addi c256_i32 v30
  let v34 : Index := Scalar.indexCast v31
  let c0_17 : Index := 0#32
  ![v34.toNat, 0]
def k0_off6 (k0_t2 : Fin k0_t2_loop.trips) : Fin 2 → Nat :=
  let c256_i32 : BitVec 32 := 256#32
  let c0_i32_13 : BitVec 32 := 0#32
  let c1_i32 : BitVec 32 := 1#32
  let arg10 : BitVec 32 := Scf.iv c0_i32_13 c1_i32 k0_t2
  let c16_i32_15 : BitVec 32 := 16#32
  let v29 : BitVec 32 := Scalar.muli arg10 c16_i32_15
  let v30 : BitVec 32 := v29
  let v31 : BitVec 32 := Scalar.addi c256_i32 v30
  let v36 : Index := Scalar.indexCast v31
  let c0_18 : Index := 0#32
  ![v36.toNat, 0]
def k0_cond6 (i : grid0.Coords) : BitVec 1 :=
  let arg1 : BitVec 32 := BitVec.ofNat 32 (i 1).val
  let c24_i32 : BitVec 32 := 24#32
  let v17 : BitVec 1 := Scalar.cmpi .eq arg1 c24_i32
  let v18 : BitVec 32 := Scalar.extui v17
  let c0_i32_7 : BitVec 32 := 0#32
  let v19 : BitVec 1 := Scalar.cmpi .ne v18 c0_i32_7
  v19

@[reducible] def k0_t3_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult3 (k0_t3 : Fin k0_t3_loop.trips) : BitVec 32 :=
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  v29
def k0_off7 (k0_t3 : Fin k0_t3_loop.trips) : Fin 2 → Nat :=
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  let v30 : BitVec 32 := v29
  let v32 : Index := Scalar.indexCast v30
  let c0_16 : Index := 0#32
  ![v32.toNat, 0]
def k0_off8 (k0_t3 : Fin k0_t3_loop.trips) : Fin 2 → Nat :=
  let c512_i32 : BitVec 32 := 512#32
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  let v30 : BitVec 32 := v29
  let v31 : BitVec 32 := Scalar.addi c512_i32 v30
  let v34 : Index := Scalar.indexCast v31
  let c0_17 : Index := 0#32
  ![v34.toNat, 0]
def k0_off9 (k0_t3 : Fin k0_t3_loop.trips) : Fin 2 → Nat :=
  let c512_i32 : BitVec 32 := 512#32
  let c0_i32_13 : BitVec 32 := 0#32
  let c1_i32 : BitVec 32 := 1#32
  let arg10 : BitVec 32 := Scf.iv c0_i32_13 c1_i32 k0_t3
  let c16_i32_15 : BitVec 32 := 16#32
  let v29 : BitVec 32 := Scalar.muli arg10 c16_i32_15
  let v30 : BitVec 32 := v29
  let v31 : BitVec 32 := Scalar.addi c512_i32 v30
  let v36 : Index := Scalar.indexCast v31
  let c0_18 : Index := 0#32
  ![v36.toNat, 0]
def k0_cond7 (i : grid0.Coords) : BitVec 1 :=
  let arg1 : BitVec 32 := BitVec.ofNat 32 (i 1).val
  let c25_i32 : BitVec 32 := 25#32
  let v20 : BitVec 1 := Scalar.cmpi .eq arg1 c25_i32
  let v21 : BitVec 32 := Scalar.extui v20
  let c0_i32_8 : BitVec 32 := 0#32
  let v22 : BitVec 1 := Scalar.cmpi .ne v21 c0_i32_8
  v22

@[reducible] def k0_t4_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult4 (k0_t4 : Fin k0_t4_loop.trips) : BitVec 32 :=
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  v29
def k0_off10 (k0_t4 : Fin k0_t4_loop.trips) : Fin 2 → Nat :=
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  let v30 : BitVec 32 := v29
  let v32 : Index := Scalar.indexCast v30
  let c0_16 : Index := 0#32
  ![v32.toNat, 0]
def k0_off11 (k0_t4 : Fin k0_t4_loop.trips) : Fin 2 → Nat :=
  let c768_i32 : BitVec 32 := 768#32
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  let v30 : BitVec 32 := v29
  let v31 : BitVec 32 := Scalar.addi c768_i32 v30
  let v34 : Index := Scalar.indexCast v31
  let c0_17 : Index := 0#32
  ![v34.toNat, 0]
def k0_off12 (k0_t4 : Fin k0_t4_loop.trips) : Fin 2 → Nat :=
  let c768_i32 : BitVec 32 := 768#32
  let c0_i32_13 : BitVec 32 := 0#32
  let c1_i32 : BitVec 32 := 1#32
  let arg10 : BitVec 32 := Scf.iv c0_i32_13 c1_i32 k0_t4
  let c16_i32_15 : BitVec 32 := 16#32
  let v29 : BitVec 32 := Scalar.muli arg10 c16_i32_15
  let v30 : BitVec 32 := v29
  let v31 : BitVec 32 := Scalar.addi c768_i32 v30
  let v36 : Index := Scalar.indexCast v31
  let c0_18 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.subi arg1 c22_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.subi arg1 c22_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x11008 : Shape := ⟨2, ![4096, 11008]⟩
abbrev S11008x4096 : Shape := ⟨2, ![11008, 4096]⟩
abbrev S4096x4096 : Shape := ⟨2, ![4096, 4096]⟩
abbrev S1x1x4096 : Shape := ⟨3, ![1, 1, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S16x256x4096 : Shape := ⟨3, ![16, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .f32⟩
  | .hbm, ⟨2, _⟩ => ⟨S4096x4096, .f32⟩
  | .hbm, ⟨3, _⟩ => ⟨S1x1x4096, .f32⟩
  | .hbm, ⟨4, _⟩ => ⟨S4096, .f32⟩
  | .hbm, ⟨5, _⟩ => ⟨S4096x11008, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S16x256x4096, .f32⟩
  | .hbm, ⟨24, _⟩ => ⟨S16x256x4096, .f32⟩
  | .hbm, ⟨25, _⟩ => ⟨S16x256x4096, .f32⟩
  | .hbm, ⟨26, _⟩ => ⟨S16x256x4096, .f32⟩
  | .hbm, ⟨27, _⟩ => ⟨S16x256x4096, .f32⟩
  | .hbm, ⟨28, _⟩ => ⟨S4096x4096, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Swa.Tile.lean ====
/-
  What one step of the window attention writes. The body goes through its eight heads two by two: it stacks the two heads'
  turned queries into one tile of 256 rows, scores it against the window and the context, and stores the two halves of the
  result side by side. `tile` is that computation on the step's loads, `out_rows` says that each of the eight stored pieces
  is a half of one of four tiles.
-/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Swa

open Cert.KernelIdeal Cert.KernelIdeal.Gen

variable {F : FTy → Type} [FloatOps F] [Named F]

/-- Which lanes are in the first half of their 64-lane axis group (`lane % 64 < 32`), over any shape's lane numbers. -/
def firstHalf (S : Shape) (lane : IVec S 32) (hb : S.Broadcasts S) : IVec S 1 :=
  let r := remsi lane (broadcast S (64#32))
  cmpi .slt
    (select (andi (xori (cmpi .slt r (broadcast S 0#32)) (broadcastTo S (broadcast S (Scalar.cmpi .slt 64#32 0#32)) hb))
      (cmpi .ne r (broadcast S 0#32))) (addi r (broadcast S 64#32)) r)
    (broadcast S 32#32)

/-- A head's queries turned by their positions' angles. -/
def turnQ (cos sin : Vec F S128x128 .f32) (q : Vec F S1x128x128 .bf16) : FVec F S128x128 .f32 :=
  let x : FVec F S128x128 .f32 := extf .f32 (shapeCast S128x128 q shapeCasts_S1x128x128_S128x128 : FVec F S128x128 .bf16) bitsLt_bf16_f32
  addf (mulf x (shapeCast S128x128 cos shapeCasts_S128x128_S128x128))
    (mulf (select (firstHalf S128x128 (iota .tc S128x128 32 [1] iota_S128x128_d1_w32) broadcasts_S128x128_S128x128)
      (dynamicRotate 1 96#32 none x rotates_S128x128_d1) (dynamicRotate 1 32#32 none x rotates_S128x128_d1))
      (shapeCast S128x128 sin shapeCasts_S128x128_S128x128))

/-- The window's keys turned likewise. -/
def turnK (cos sin : Vec F S384x128 .f32) (k : Vec F S1x384x128 .bf16) : FVec F S384x128 .f32 :=
  let x : FVec F S384x128 .f32 := extf .f32 (shapeCast S384x128 k shapeCasts_S1x384x128_S384x128 : FVec F S384x128 .bf16) bitsLt_bf16_f32
  addf (mulf x (shapeCast S384x128 cos shapeCasts_S384x128_S384x128))
    (mulf (select (firstHalf S384x128 (iota .tc S384x128 32 [1] iota_S384x128_d1_w32) broadcasts_S384x128_S384x128)
      (dynamicRotate 1 96#32 none x rotates_S384x128_d1) (dynamicRotate 1 32#32 none x rotates_S384x128_d1))
      (shapeCast S384x128 sin shapeCasts_S384x128_S384x128))

/-- The two heads' turned queries, one above the other. -/
def queries (cos sin : Vec F S128x128 .f32) (q0 q1 : Vec F S1x128x128 .bf16) : FVec F S256x128 .bf16 :=
  truncf .bf16 (concatenate S256x128 0 [⟨S128x128, turnQ cos sin q0⟩, ⟨S128x128, turnQ cos sin q1⟩]
    concatenates_S128x128_S128x128_S256x128_d0 : FVec F S256x128 .f32) bitsLt_bf16_f32

/-- The scores against the window's keys, in base two, plus the mask. -/
def windowScores (mask : FVec F S128x384 .f32) (q : FVec F S256x128 .bf16) (k : FVec F S384x128 .f32) : FVec F S256x384 .f32 :=
  shapeCast S256x384
    (addf (shapeCast S2x128x384
        (mulf (matmul dot_S256x128_S384x128_S256x384_1_1_0_0_n_n none q (truncf .bf16 k bitsLt_bf16_f32 : FVec F S384x128 .bf16)
            (constant S256x384 .f32 0x00000000#32 : FVec F S256x384 .f32))
          (broadcast S256x384 (Named.named κ "scale_log2e" 0x3E0293EE#32 : F .f32))) shapeCasts_S256x384_S2x128x384)
      (broadcastTo S2x128x384 (shapeCast S1x128x384 mask shapeCasts_S128x384_S1x128x384) broadcasts_S1x128x384_S2x128x384)
      : FVec F S2x128x384 .f32) shapeCasts_S2x128x384_S256x384

/-- The scores against the context's keys, in base two. -/
def contextScores (q : FVec F S256x128 .bf16) (kc : Vec F S1x1x512x128 .f32) : FVec F S256x512 .f32 :=
  mulf (matmul dot_S256x128_S512x128_S256x512_1_1_0_0_n_n none q
      (truncf .bf16 (shapeCast S512x128 kc shapeCasts_S1x1x512x128_S512x128 : FVec F S512x128 .f32) bitsLt_bf16_f32 : FVec F S512x128 .bf16)
      (constant S256x512 .f32 0x00000000#32 : FVec F S256x512 .f32))
    (broadcast S256x512 (Named.named κ "scale_log2e" 0x3E0293EE#32 : F .f32))

/-- The two heads' sinks, in base two. -/
def sinks (s0 s1 : Elt F .f32) : FVec F S256x1 .f32 :=
  concatenate S256x1 0
    [⟨S128x1, broadcast S128x1 (Scalar.mulf s0 (Named.named κ "log2e" 0x3FB8AA3B#32 : F .f32) : F .f32)⟩,
      ⟨S128x1, broadcast S128x1 (Scalar.mulf s1 (Named.named κ "log2e" 0x3FB8AA3B#32 : F .f32) : F .f32)⟩]
    concatenates_S128x1_S128x1_S256x1_d0

/-- The largest score of each row. -/
def rowMax (lw : FVec F S256x384 .f32) (lc : FVec F S256x512 .f32) (sn : FVec F S256x1 .f32) : FVec F S256x1 .f32 :=
  maximumf (maximumf
    (shapeCast S256x1 (multiReduction .maximumf [1] S256 lw 0xFF800000#32 reduces_S256x384_S256 (.inl rfl) rfl) shapeCasts_S256_S256x1)
    (shapeCast S256x1 (multiReduction .maximumf [1] S256 lc 0xFF800000#32 reduces_S256x512_S256 (.inl rfl) rfl) shapeCasts_S256_S256x1)) sn

/-- The weights of the window's keys, not yet divided. -/
def windowWeights (lw : FVec F S256x384 .f32) (m : FVec F S256x1 .f32) : FVec F S256x384 .f32 :=
  exp2 (subf lw (broadcastTo S256x384 m broadcasts_S256x1_S256x384))

/-- The weights of the context's keys, not yet divided. -/
def contextWeights (lc : FVec F S256x512 .f32) (m : FVec F S256x1 .f32) : FVec F S256x512 .f32 :=
  exp2 (subf lc (broadcastTo S256x512 m broadcasts_S256x1_S256x512))

/-- What the weights are divided by. -/
def total (pw : FVec F S256x384 .f32) (pc : FVec F S256x512 .f32) (sn m : FVec F S256x1 .f32) : FVec F S256x1 .f32 :=
  addf (addf
    (shapeCast S256x1 (multiReduction .add [1] S256 pw 0x00000000#32 reduces_S256x384_S256 (.inl rfl) rfl) shapeCasts_S256_S256x1)
    (shapeCast S256x1 (multiReduction .add [1] S256 pc 0x00000000#32 reduces_S256x512_S256 (.inl rfl) rfl) shapeCasts_S256_S256x1))
    (exp2 (subf sn m))

/-- The weighted values over the total. -/
def mixed (pw : FVec F S256x384 .f32) (pc : FVec F S256x512 .f32) (den : FVec F S256x1 .f32) (v : Vec F S1x384x128 .bf16)
    (vc : Vec F S1x1x512x128 .f32) : FVec F S256x128 .f32 :=
  divf (addf
    (matmul dot_S256x384_S384x128_S256x128_1_0_0_1_n_n none (truncf .bf16 pw bitsLt_bf16_f32 : FVec F S256x384 .bf16)
      (shapeCast S384x128 v shapeCasts_S1x384x128_S384x128 : FVec F S384x128 .bf16) (constant S256x128 .f32 0x00000000#32 : FVec F S256x128 .f32))
    (matmul dot_S256x512_S512x128_S256x128_1_0_0_1_n_n none (truncf .bf16 pc bitsLt_bf16_f32 : FVec F S256x512 .bf16)
      (truncf .bf16 (shapeCast S512x128 vc shapeCasts_S1x1x512x128_S512x128 : FVec F S512x128 .f32) bitsLt_bf16_f32 : FVec F S512x128 .bf16)
      (constant S256x128 .f32 0x00000000#32 : FVec F S256x128 .f32)))
    (broadcastTo S256x128 den broadcasts_S256x1_S256x128)

/-- Two heads of one query block: the whole computation on what is loaded. -/
def tile (mask : FVec F S128x384 .f32) (cq sq : Vec F S128x128 .f32) (ck sk : Vec F S384x128 .f32) (k v : Vec F S1x384x128 .bf16)
    (kc vc : Vec F S1x1x512x128 .f32) (q0 q1 : Vec F S1x128x128 .bf16) (s0 s1 : Elt F .f32) : FVec F S256x128 .f32 :=
  let q := queries cq sq q0 q1
  let lw := windowScores mask q (turnK ck sk k)
  let lc := contextScores q kc
  let m := rowMax lw lc (sinks s0 s1)
  let pw := windowWeights lw m
  let pc := contextWeights lc m
  mixed pw pc (total pw pc (sinks s0 s1) m) v vc

/-- The upper half of a tile, as it is stored. -/
def upper (o : FVec F S256x128 .f32) : FVec F S1x128x128 .bf16 :=
  shapeCast S1x128x128 (truncf .bf16 (extractStridedSlice S128x128 ![0, 0] o slices_S256x128_o0_0_S128x128) bitsLt_bf16_f32 : FVec F S128x128 .bf16)
    shapeCasts_S128x128_S1x128x128

/-- The lower half of a tile, as it is stored. -/
def lower (o : FVec F S256x128 .f32) : FVec F S1x128x128 .bf16 :=
  shapeCast S1x128x128 (truncf .bf16 (extractStridedSlice S128x128 ![128, 0] o slices_S256x128_o128_0_S128x128) bitsLt_bf16_f32 : FVec F S128x128 .bf16)
    shapeCasts_S128x128_S1x128x128

section
variable (i : grid0.Coords) (x0 : Vec F S8 .f32) (x1 : Vec F S1x128x1024 .bf16) (x2 x3 : Vec F S1x4096x256 .bf16)
  (x4 x5 : Vec F S1x1x512x256 .f32) (x6 x7 : Vec F S4096x128 .f32)

/-- A tile whose keys and values are the first group's, for two given heads. -/
def tileA (q0 q1 : Vec F S1x128x128 .bf16) (s0 s1 : Elt F .f32) : FVec F S256x128 .f32 :=
  tile (k0_pay8 i) (View.ld x6 (Rect.unit (k0_off1 i) S128x128.size (k0_off1_inb i)))
    (View.ld x7 (Rect.unit (k0_off1 i) S128x128.size (k0_off1_inb i)))
    (View.ld x6 (Rect.unit (k0_off2 i) S384x128.size (k0_off2_inb i))) (View.ld x7 (Rect.unit (k0_off2 i) S384x128.size (k0_off2_inb i)))
    (View.ld x2 (Rect.unit (k0_off3 i) S1x384x128.size (k0_off3_inb i))) (View.ld x3 (Rect.unit (k0_off3 i) S1x384x128.size (k0_off3_inb i)))
    (View.ld x4 (Rect.unit ![0, 0, 0, 0] S1x1x512x128.size inb_S1x1x512x256_S1x1x512x128_0_0_0_0))
    (View.ld x5 (Rect.unit ![0, 0, 0, 0] S1x1x512x128.size inb_S1x1x512x256_S1x1x512x128_0_0_0_0)) q0 q1 s0 s1

/-- A tile whose keys and values are the second group's. -/
def tileB (q0 q1 : Vec F S1x128x128 .bf16) (s0 s1 : Elt F .f32) : FVec F S256x128 .f32 :=
  tile (k0_pay8 i) (View.ld x6 (Rect.unit (k0_off1 i) S128x128.size (k0_off1_inb i)))
    (View.ld x7 (Rect.unit (k0_off1 i) S128x128.size (k0_off1_inb i)))
    (View.ld x6 (Rect.unit (k0_off2 i) S384x128.size (k0_off2_inb i))) (View.ld x7 (Rect.unit (k0_off2 i) S384x128.size (k0_off2_inb i)))
    (View.ld x2 (Rect.unit (k0_off5 i) S1x384x128.size (k0_off5_inb i))) (View.ld x3 (Rect.unit (k0_off5 i) S1x384x128.size (k0_off5_inb i)))
    (View.ld x4 (Rect.unit ![0, 0, 0, 128] S1x1x512x128.size inb_S1x1x512x256_S1x1x512x128_0_0_0_128))
    (View.ld x5 (Rect.unit ![0, 0, 0, 128] S1x1x512x128.size inb_S1x1x512x256_S1x1x512x128_0_0_0_128)) q0 q1 s0 s1

/-- The sink of head `2 * r + s`. -/
def sinkAt (r : Fin 4) (s : Fin 2) : Elt F .f32 :=
  View.ld x0 (Rect.unit (k0_off4 i (BitVec.ofNat 32 (2 * r.val)) (BitVec.ofNat 32 s.val)) S1.size (k0_off4_inb i r s))
    (Shape.Idx.first (by rw [show (Rect.unit (s := S8) (k0_off4 i (BitVec.ofNat 32 (2 * r.val)) (BitVec.ofNat 32 s.val)) S1.size (k0_off4_inb i r s)).shape.numel = 1 from numel1_S1]; exact Nat.one_pos))

def tile0 : FVec F S256x128 .f32 := tileA i x2 x3 x4 x5 x6 x7
  (View.ld x1 (Rect.unit ![0, 0, 0] S1x128x128.size inb_S1x128x1024_S1x128x128_0_0_0))
  (View.ld x1 (Rect.unit ![0, 0, 128] S1x128x128.size inb_S1x128x1024_S1x128x128_0_0_128)) (sinkAt i x0 0 0) (sinkAt i x0 0 1)
def tile1 : FVec F S256x128 .f32 := tileA i x2 x3 x4 x5 x6 x7
  (View.ld x1 (Rect.unit ![0, 0, 256] S1x128x128.size inb_S1x128x1024_S1x128x128_0_0_256))
  (View.ld x1 (Rect.unit ![0, 0, 384] S1x128x128.size inb_S1x128x1024_S1x128x128_0_0_384)) (sinkAt i x0 1 0) (sinkAt i x0 1 1)
def tile2 : FVec F S256x128 .f32 := tileB i x2 x3 x4 x5 x6 x7
  (View.ld x1 (Rect.unit ![0, 0, 512] S1x128x128.size inb_S1x128x1024_S1x128x128_0_0_512))
  (View.ld x1 (Rect.unit ![0, 0, 640] S1x128x128.size inb_S1x128x1024_S1x128x128_0_0_640)) (sinkAt i x0 2 0) (sinkAt i x0 2 1)
def tile3 : FVec F S256x128 .f32 := tileB i x2 x3 x4 x5 x6 x7
  (View.ld x1 (Rect.unit ![0, 0, 768] S1x128x128.size inb_S1x128x1024_S1x128x128_0_0_768))
  (View.ld x1 (Rect.unit ![0, 0, 896] S1x128x128.size inb_S1x128x1024_S1x128x128_0_0_896)) (sinkAt i x0 3 0) (sinkAt i x0 3 1)

/-- The eight pieces a step stores are the halves of its four tiles. -/
theorem out_eq (c : Dev nD) (arg3 : Memref sig .tc .smem S8 .f32) (harg3 : arg3.IsWhole) (arg4 : Memref sig .tc .vmem S1x128x1024 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x1x512x256 .f32) (harg7 : arg7.IsWhole) (arg8 : Memref sig .tc .vmem S1x1x512x256 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128x1024 .bf16) (harg11 : arg11.IsWhole) :
    out0_A_8 c i arg3 harg3 arg4 harg4 arg5 harg5 arg6 harg6 arg7 harg7 arg8 harg8 arg9 harg9 arg10 harg10 arg11 harg11 x0 x1 x2 x3 x4 x5 x6 x7
      = View.canon
        ([⟨Rect.unit (s := S1x128x1024) ![0, 0, 896] S1x128x128.size inb_S1x128x1024_S1x128x128_0_0_896, lower (tile3 i x0 x1 x2 x3 x4 x5 x6 x7)⟩,
         ⟨Rect.unit (s := S1x128x1024) ![0, 0, 768] S1x128x128.size inb_S1x128x1024_S1x128x128_0_0_768, upper (tile3 i x0 x1 x2 x3 x4 x5 x6 x7)⟩,
         ⟨Rect.unit (s := S1x128x1024) ![0, 0, 640] S1x128x128.size inb_S1x128x1024_S1x128x128_0_0_640, lower (tile2 i x0 x1 x2 x3 x4 x5 x6 x7)⟩,
         ⟨Rect.unit (s := S1x128x1024) ![0, 0, 512] S1x128x128.size inb_S1x128x1024_S1x128x128_0_0_512, upper (tile2 i x0 x1 x2 x3 x4 x5 x6 x7)⟩,
         ⟨Rect.unit (s := S1x128x1024) ![0, 0, 384] S1x128x128.size inb_S1x128x1024_S1x128x128_0_0_384, lower (tile1 i x0 x1 x2 x3 x4 x5 x6 x7)⟩,
         ⟨Rect.unit (s := S1x128x1024) ![0, 0, 256] S1x128x128.size inb_S1x128x1024_S1x128x128_0_0_256, upper (tile1 i x0 x1 x2 x3 x4 x5 x6 x7)⟩,
         ⟨Rect.unit (s := S1x128x1024) ![0, 0, 128] S1x128x128.size inb_S1x128x1024_S1x128x128_0_0_128, lower (tile0 i x0 x1 x2 x3 x4 x5 x6 x7)⟩,
         ⟨Rect.unit (s := S1x128x1024) ![0, 0, 0] S1x128x128.size inb_S1x128x1024_S1x128x128_0_0_0, upper (tile0 i x0 x1 x2 x3 x4 x5 x6 x7)⟩] : List (View.Piece (Elt F) S1x128x1024 .bf16)) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_run_names
  simp only [View.readAt_eq_ld, harg3.read_unread, harg4.read_unread, harg5.read_unread, harg6.read_unread, harg7.read_unread, harg8.read_unread, harg9.read_unread, harg10.read_unread]
  rfl

end

end Cert.KernelIdeal.Swa
-- ==== Proof.Swa.Attend.lean ====
/-
  Attention over the reals: rotary positions, the weights of a softmax with a sink, and the two ways of dividing them
  (at the end, or each weight by the total) that give the same sum.
-/
module

public import Idealize.ShloMosaic.PureOps.Ideal
public import Mathlib.Analysis.SpecialFunctions.Pow.Real

@[expose] public section

noncomputable section

open Idealize.ShloMosaic

namespace Cert.Swa

/-- The lane a lane is turned with: the other one of its pair, 32 away. -/
def partner (l : Fin 128) : Fin 128 := if h : l.val % 64 < 32 then ⟨l.val + 32, by omega⟩ else ⟨l.val - 32, by omega⟩

/-- The sine a lane is turned by: negative on the first of each pair. -/
def signed (l : Fin 128) (s : ℝ) : ℝ := if l.val % 64 < 32 then -s else s

/-- A vector of 128 lanes turned by a position's angles: the lanes below 64 by the row's, the others by the column's. -/
def turned (x : Fin 128 → ℝ) (cos sin : Fin 2 → Fin 32 → ℝ) (l : Fin 128) : ℝ :=
  x l * cos ⟨l.val / 64, by omega⟩ ⟨l.val % 32, by omega⟩
    + x (partner l) * signed l (sin ⟨l.val / 64, by omega⟩ ⟨l.val % 32, by omega⟩)

/-- The score of a query against a key. -/
def score (q k : Fin 128 → ℝ) : ℝ := (∑ l, q l * k l) / Real.sqrt 128

/-- The average of the values by weights, where a sink also takes a weight and has no value. -/
def average {ι κ : Type} [Fintype ι] [Fintype κ] (w v : ι → ℝ) (wc vc : κ → ℝ) (ws : ℝ) : ℝ :=
  ((∑ i, w i * v i) + ∑ t, wc t * vc t) / ((∑ i, w i) + (∑ t, wc t) + ws)

theorem coe_sum {ι : Type} [Fintype ι] (f : ι → ℝ) : ((∑ i, f i : ℝ) : EReal) = ∑ i, (f i : EReal) := by
  induction (Finset.univ : Finset ι) using Finset.cons_induction with
  | empty => simp
  | cons a s h ih => rw [Finset.sum_cons, Finset.sum_cons, EReal.coe_add, ih]

theorem coe_dot {ι : Type} [Fintype ι] (f g : ι → ℝ) : ∑ i, (f i : EReal) * (g i : EReal) = ((∑ i, f i * g i : ℝ) : EReal) := by
  rw [coe_sum]; exact Finset.sum_congr rfl fun i _ => (EReal.coe_mul _ _).symm

theorem div_coe_coe {x y : ℝ} (h : y ≠ 0) : Ideal.div (x : EReal) (y : EReal) = ((x / y : ℝ) : EReal) := by
  rw [Ideal.div_coe h, ← EReal.coe_mul, mul_one_div]

/-- The window's masked score less a real `m`, exponentiated to base two. -/
theorem exp2_masked (ok : Prop) [Decidable ok] (x m : ℝ) :
    Ideal.exp2 (((x * (Real.log 2)⁻¹ : ℝ) : EReal) + (if ok then 0 else ⊥) - (m : EReal))
      = (((if ok then Real.exp x else 0) * (Real.rpow 2 m)⁻¹ : ℝ) : EReal) := by
  have h2 : (0 : ℝ) < Real.log 2 := Real.log_pos (by norm_num)
  split_ifs with h
  · rw [add_zero, ← EReal.coe_sub, Ideal.exp2_coe]
    congr 1
    change (2 : ℝ) ^ (x * (Real.log 2)⁻¹ - m) = Real.exp x * ((2 : ℝ) ^ m)⁻¹
    rw [Real.rpow_sub (by norm_num), div_eq_mul_inv, Real.rpow_def_of_pos (by norm_num : (0 : ℝ) < 2) (x * _)]
    congr 2
    field_simp
  · rw [EReal.add_bot, sub_eq_add_neg, EReal.bot_add, Ideal.exp2_bot, zero_mul, EReal.coe_zero]

theorem exp2_plain (x m : ℝ) :
    Ideal.exp2 (((x * (Real.log 2)⁻¹ : ℝ) : EReal) - (m : EReal)) = ((Real.exp x * (Real.rpow 2 m)⁻¹ : ℝ) : EReal) := by
  have := exp2_masked True x m
  rwa [if_pos trivial, if_pos trivial, add_zero] at this

theorem exp_masked (ok : Prop) [Decidable ok] (x m : ℝ) :
    Ideal.exp ((if ok then (x : EReal) else ⊥) - (m : EReal)) = (((if ok then Real.exp x else 0) * (Real.exp m)⁻¹ : ℝ) : EReal) := by
  split_ifs with h
  · rw [← EReal.coe_sub, Ideal.exp_coe, Real.exp_sub, div_eq_mul_inv]
  · rw [sub_eq_add_neg, EReal.bot_add, Ideal.exp_bot, zero_mul, EReal.coe_zero]

theorem exp_plain (x m : ℝ) : Ideal.exp ((x : EReal) - (m : EReal)) = ((Real.exp x * (Real.exp m)⁻¹ : ℝ) : EReal) := by
  have := exp_masked True x m
  rwa [if_pos trivial, if_pos trivial] at this

section
variable {ι κ : Type} [Fintype ι] [Fintype κ] (w v : ι → ℝ) (wc vc : κ → ℝ) (ws c : ℝ)

/-- The total of the weights is not zero. -/
theorem total_ne (hw : ∀ i, 0 ≤ w i) (hwc : ∀ t, 0 ≤ wc t) (hws : 0 < ws) : (∑ i, w i) + (∑ t, wc t) + ws ≠ 0 := by
  have := Finset.sum_nonneg fun i (_ : i ∈ Finset.univ) => hw i
  have := Finset.sum_nonneg fun i (_ : i ∈ Finset.univ) => hwc i
  positivity

/-- The total of the weights, each multiplied by `c`. -/
theorem total_scaled : (∑ i, ((w i * c : ℝ) : EReal)) + (∑ t, ((wc t * c : ℝ) : EReal)) + ((ws * c : ℝ) : EReal)
    = ((((∑ i, w i) + (∑ t, wc t) + ws) * c : ℝ) : EReal) := by
  rw [← coe_sum, ← coe_sum, ← EReal.coe_add, ← EReal.coe_add, ← Finset.sum_mul, ← Finset.sum_mul]
  congr 1; ring

/-- Summing the weighted values and dividing once. -/
theorem average_at_end (hw : ∀ i, 0 ≤ w i) (hwc : ∀ t, 0 ≤ wc t) (hws : 0 < ws) (hc : 0 < c) :
    Ideal.div ((∑ i, ((w i * c : ℝ) : EReal) * (v i : EReal)) + ∑ t, ((wc t * c : ℝ) : EReal) * (vc t : EReal))
        ((∑ i, ((w i * c : ℝ) : EReal)) + (∑ t, ((wc t * c : ℝ) : EReal)) + ((ws * c : ℝ) : EReal))
      = (average w v wc vc ws : EReal) := by
  have hD := total_ne w wc ws hw hwc hws
  rw [total_scaled, coe_dot, coe_dot, ← EReal.coe_add, div_coe_coe (mul_ne_zero hD hc.ne')]
  congr 1
  unfold average
  rw [div_eq_div_iff (mul_ne_zero hD hc.ne') hD]
  simp only [mul_right_comm _ c, ← Finset.sum_mul]
  ring

/-- Dividing each weight by the total and then summing the weighted values. -/
theorem average_each (hw : ∀ i, 0 ≤ w i) (hwc : ∀ t, 0 ≤ wc t) (hws : 0 < ws) (hc : 0 < c) :
    (∑ i, Ideal.div ((w i * c : ℝ) : EReal) ((((∑ i, w i) + (∑ t, wc t) + ws) * c : ℝ) : EReal) * (v i : EReal))
      + (∑ t, Ideal.div ((wc t * c : ℝ) : EReal) ((((∑ i, w i) + (∑ t, wc t) + ws) * c : ℝ) : EReal) * (vc t : EReal))
      = (average w v wc vc ws : EReal) := by
  have hD := total_ne w wc ws hw hwc hws
  simp only [div_coe_coe (mul_ne_zero hD hc.ne')]
  rw [coe_dot, coe_dot, ← EReal.coe_add]
  congr 1
  unfold average
  rw [add_div, Finset.sum_div, Finset.sum_div]
  congr 1 <;> refine Finset.sum_congr rfl fun i _ => ?_ <;> field_simp

end

/-- Weights that vanish outside the 384 positions from `o` on are summed over those alone. -/
theorem sum_window (o : ℕ) (ho : o + 384 ≤ 4096) (f : Fin 4096 → ℝ) (hf : ∀ j, ¬ (o ≤ j.val ∧ j.val < o + 384) → f j = 0) :
    ∑ j, f j = ∑ t : Fin 384, f ⟨o + t.val, by omega⟩ := by
  symm
  have hinj : Function.Injective (fun t : Fin 384 => (⟨o + t.val, by omega⟩ : Fin 4096)) := by
    intro a b h; have := congrArg Fin.val h; simp only at this; exact Fin.ext (by omega)
  rw [← Finset.sum_image (f := f) (g := fun t : Fin 384 => (⟨o + t.val, by omega⟩ : Fin 4096)) (s := Finset.univ) (fun a _ b _ h => hinj h)]
  refine Finset.sum_subset (Finset.subset_univ _) fun j _ hj => hf j fun hin => hj ?_
  exact Finset.mem_image.2 ⟨⟨j.val - o, by omega⟩, Finset.mem_univ _, Fin.ext (by show o + (j.val - o) = j.val; omega)⟩

/-- A maximum over finitely many entries, none of them `⊤`, with a real last one, is real. -/
theorem max_real {ι κ : Type} [Fintype ι] [Fintype κ] (b : EReal) (hb : b ≠ ⊤) (f : ι → EReal) (g : κ → EReal) (hf : ∀ i, f i ≠ ⊤) (hg : ∀ t, g t ≠ ⊤) (s : ℝ) :
    ∃ m : ℝ, max (max (Finset.fold max b f Finset.univ) (Finset.fold max b g Finset.univ)) (s : EReal) = (m : EReal) := by
  have h : max (max (Finset.fold max b f Finset.univ) (Finset.fold max b g Finset.univ)) (s : EReal) < ⊤ := by
    refine max_lt (max_lt ?_ ?_) (EReal.coe_lt_top s)
    · exact (Finset.fold_max_lt _).2 ⟨hb.lt_top, fun i _ => (hf i).lt_top⟩
    · exact (Finset.fold_max_lt _).2 ⟨hb.lt_top, fun i _ => (hg i).lt_top⟩
  have h' : ⊥ < max (max (Finset.fold max b f Finset.univ) (Finset.fold max b g Finset.univ)) (s : EReal) :=
    lt_of_lt_of_le (EReal.bot_lt_coe s) (le_max_right _ _)
  exact ⟨_, (EReal.coe_toReal h.ne h'.ne').symm⟩

/-- A maximum over finitely many entries, none of them `⊤` and one of them real, is real. -/
theorem fold_real {ι : Type} [Fintype ι] (b : EReal) (hb : b ≠ ⊤) (f : ι → EReal) (hf : ∀ i, f i ≠ ⊤) (i : ι) (s : ℝ) (hs : f i = s) :
    ∃ m : ℝ, Finset.fold max b f Finset.univ = (m : EReal) := by
  have h : Finset.fold max b f Finset.univ < ⊤ := (Finset.fold_max_lt _).2 ⟨hb.lt_top, fun i _ => (hf i).lt_top⟩
  have h' : ⊥ < Finset.fold max b f Finset.univ := (Finset.lt_fold_max _).2 (.inr ⟨i, Finset.mem_univ _, by rw [hs]; exact EReal.bot_lt_coe s⟩)
  exact ⟨_, (EReal.coe_toReal h.ne h'.ne').symm⟩

end Cert.Swa
-- ==== Proof.Swa.Words.lean ====
/-
  The two tests on positions, kept in 32-bit words: whether two positions are within 128 of each other, and where the
  384 keys of a query block begin.
-/
module

public import Idealize.ShloMosaic.Lib.WordArith

@[expose] public section

open Idealize.ShloMosaic

namespace Cert.Swa

/-- Two positions are within the window of each other. -/
def Near (a b : ℕ) : Prop := a ≤ b + 128 ∧ b ≤ a + 128

instance (a b : ℕ) : Decidable (Near a b) := inferInstanceAs (Decidable (_ ∧ _))

/-- The first key of the window of query block `j`. -/
def first (j : ℕ) : ℕ := min 3712 ((j - 1) * 128)

theorem first_le (j : ℕ) : first j + 384 ≤ 4096 := by unfold first; omega

/-- A key near a query of block `j` is among the 384 keys taken. -/
theorem first_covers (j : ℕ) (hj : j < 32) (r : ℕ) (hr : r < 128) (k : ℕ) (hk : k < 4096) (h : Near (j * 128 + r) k) :
    first j ≤ k ∧ k < first j + 384 := by
  unfold Near at h; unfold first; omega

/-- The absolute difference of two positions, compared with 128. -/
theorem near_word (a b : ℕ) (ha : a < 4096) (hb : b < 4096) :
    IntOp.cmpi .sle (IntOp.absi (IntOp.subi (BitVec.ofNat 32 a) (BitVec.ofNat 32 b))) 128#32 = if Near a b then 1#1 else 0#1 := by
  have ea : (BitVec.ofNat 32 a).toInt = a := WordArith.toInt_ofNat_small a (by omega)
  have eb : (BitVec.ofNat 32 b).toInt = b := WordArith.toInt_ofNat_small b (by omega)
  have es : (IntOp.subi (BitVec.ofNat 32 a) (BitVec.ofNat 32 b)).toInt = (a : ℤ) - b := by
    rw [WordArith.toInt_subi_of_nonneg _ _ (by omega) (by omega), ea, eb]
  have eabs : (IntOp.absi (IntOp.subi (BitVec.ofNat 32 a) (BitVec.ofNat 32 b))).toInt = (((a : ℤ) - b).natAbs : ℤ) := by
    generalize IntOp.subi (BitVec.ofNat 32 a) (BitVec.ofNat 32 b) = x at es
    unfold IntOp.absi
    rw [BitVec.msb_eq_toInt]
    split_ifs with h
    · have h' : x.toInt < 0 := by simpa using h
      rw [BitVec.toInt_neg_of_ne_intMin (by intro e; subst e; have : (BitVec.intMin 32).toInt = -2147483648 := by decide
                                            omega)]
      omega
    · have h' : ¬ x.toInt < 0 := by simpa using h
      omega
  have e128 : (128#32 : BitVec 32).toInt = 128 := by decide
  unfold IntOp.cmpi
  dsimp only
  rw [show BitVec.sle (IntOp.absi (IntOp.subi (BitVec.ofNat 32 a) (BitVec.ofNat 32 b))) 128#32 = decide (Near a b) from by
    rw [BitVec.sle, eabs, e128]
    refine decide_eq_decide.2 ?_
    unfold Near; omega]
  split_ifs with h <;> simp [h]

/-- The word in which the kernel keeps the first key. -/
theorem first_word : ∀ j : Fin 32,
    Scalar.minsi (3712#32) (Scalar.maxsi (0#32) (Scalar.muli (Scalar.subi (BitVec.ofNat 32 j.val) 1#32) 128#32))
      = BitVec.ofNat 32 (first j.val) := by decide +kernel

end Cert.Swa
-- ==== Proof.Swa.TileValue.lean ====
/-
  The window attention's tile, read one element at a time over the extended reals.
-/
module

public import proofs.«01_k».proof.Proof.Swa.Tile
public import Idealize.ShloMosaic.Lib.Pointwise
public import proofs.«01_k».proof.Proof.Swa.Attend
public import proofs.«01_k».proof.Proof.Swa.Words

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

/-- Which lanes are the first of their pair. -/
theorem firstHalfQ (r l : Fin 128) :
    firstHalf S128x128 (iota .tc S128x128 32 [1] iota_S128x128_d1_w32) broadcasts_S128x128_S128x128 (ix2 r l)
      = if l.val % 64 < 32 then 1#1 else 0#1 := by
  unfold firstHalf
  pointwise
  revert l
  decide +kernel

theorem firstHalfK (r : Fin 384) (l : Fin 128) :
    firstHalf S384x128 (iota .tc S384x128 32 [1] iota_S384x128_d1_w32) broadcasts_S384x128_S384x128 (ix2 r l)
      = if l.val % 64 < 32 then 1#1 else 0#1 := by
  unfold firstHalf
  pointwise
  revert l
  decide +kernel

theorem pick {α : Type} (l : Fin 128) (f : Fin 128 → α) :
    Scalar.select (if l.val % 64 < 32 then 1#1 else 0#1) (f ⟨(l.val + 128 - 96) % 128, by omega⟩) (f ⟨(l.val + 128 - 32) % 128, by omega⟩)
      = f (partner l) := by
  unfold partner
  split_ifs with h
  · exact congrArg f (Fin.ext (by show (l.val + 128 - 96) % 128 = l.val + 32; omega))
  · exact congrArg f (Fin.ext (by show (l.val + 128 - 32) % 128 = l.val - 32; omega))

/-- A head's queries turned. -/
theorem turnQ_apply (cos sin : Vec Ideal S128x128 .f32) (q : Vec Ideal S1x128x128 .bf16) (r l : Fin 128) :
    turnQ cos sin q (ix2 r l) = q (ix3 0 r l) * cos (ix2 r l) + q (ix3 0 r (partner l)) * sin (ix2 r l) := by
  unfold turnQ
  pointwise
  exact congrArg (fun z => q (ix3 0 r l) * cos (ix2 r l) + z * sin (ix2 r l))
    ((congrArg (fun c => Scalar.select c _ _) (firstHalfQ r l)).trans (pick l fun l => q (ix3 0 r l)))

/-- The window's keys turned. -/
theorem turnK_apply (cos sin : Vec Ideal S384x128 .f32) (k : Vec Ideal S1x384x128 .bf16) (r : Fin 384) (l : Fin 128) :
    turnK cos sin k (ix2 r l) = k (ix3 0 r l) * cos (ix2 r l) + k (ix3 0 r (partner l)) * sin (ix2 r l) := by
  unfold turnK
  pointwise
  exact congrArg (fun z => k (ix3 0 r l) * cos (ix2 r l) + z * sin (ix2 r l))
    ((congrArg (fun c => Scalar.select c _ _) (firstHalfK r l)).trans (pick l fun l => k (ix3 0 r l)))

theorem queries_apply (cos sin : Vec Ideal S128x128 .f32) (q0 q1 : Vec Ideal S1x128x128 .bf16) (r : Fin 256) (l : Fin 128) :
    queries cos sin q0 q1 (ix2 r l)
      = if h : r.val < 128 then turnQ cos sin q0 (ix2 ⟨r.val, h⟩ l) else turnQ cos sin q1 (ix2 ⟨r.val - 128, by omega⟩ l) := by
  unfold queries
  pointwise

theorem windowScores_apply (mask : FVec Ideal S128x384 .f32) (q : FVec Ideal S256x128 .bf16) (k : FVec Ideal S384x128 .f32) (r : Fin 256) (t : Fin 384) :
    windowScores mask q k (ix2 r t)
      = (∑ x, q (ix2 r x) * k (ix2 t x)) * (((Real.sqrt 128)⁻¹ * (Real.log 2)⁻¹ : ℝ) : EReal) + mask (ix2 ⟨r.val % 128, by omega⟩ t) := by
  unfold windowScores
  pointwise
  rfl

theorem contextScores_apply (q : FVec Ideal S256x128 .bf16) (kc : Vec Ideal S1x1x512x128 .f32) (r : Fin 256) (t : Fin 512) :
    contextScores q kc (ix2 r t) = (∑ x, q (ix2 r x) * kc (ix4 0 0 t x)) * (((Real.sqrt 128)⁻¹ * (Real.log 2)⁻¹ : ℝ) : EReal) := by
  unfold contextScores
  pointwise
  rfl

theorem sinks_apply (s0 s1 : Elt Ideal .f32)  (r : Fin 256) :
    sinks s0 s1 (ix2 r 0) = (if r.val < 128 then s0 else s1) * (((Real.log 2)⁻¹ : ℝ) : EReal) := by
  unfold sinks
  pointwise
  split_ifs <;> rfl

theorem negInf : Ideal.ofBits FTy.f32 4286578688#32 = ⊥ := by simp [Ideal.ofBits, Ideal.ieee]

theorem rowMax_apply (lw : FVec Ideal S256x384 .f32) (lc : FVec Ideal S256x512 .f32) (sn : FVec Ideal S256x1 .f32)  (r : Fin 256) :
    rowMax lw lc sn (ix2 r 0)
      = max (max (Finset.fold max ⊥ (fun x => lw (ix2 r x)) Finset.univ) (Finset.fold max ⊥ (fun x => lc (ix2 r x)) Finset.univ)) (sn (ix2 r 0)) := by
  unfold rowMax
  pointwise
  rw [negInf]

theorem windowWeights_apply (lw : FVec Ideal S256x384 .f32) (m : FVec Ideal S256x1 .f32)  (r : Fin 256) (t : Fin 384) :
    windowWeights lw m (ix2 r t) = Ideal.exp2 (lw (ix2 r t) - m (ix2 r 0)) := by
  pointwise [windowWeights]
  rfl

theorem contextWeights_apply (lw : FVec Ideal S256x512 .f32) (m : FVec Ideal S256x1 .f32)  (r : Fin 256) (t : Fin 512) :
    contextWeights lw m (ix2 r t) = Ideal.exp2 (lw (ix2 r t) - m (ix2 r 0)) := by
  pointwise [contextWeights]
  rfl

theorem total_apply (pw : FVec Ideal S256x384 .f32) (pc : FVec Ideal S256x512 .f32) (sn m : FVec Ideal S256x1 .f32) (r : Fin 256) :
    total pw pc sn m (ix2 r 0) = (∑ t, pw (ix2 r t)) + (∑ t, pc (ix2 r t)) + Ideal.exp2 (sn (ix2 r 0) - m (ix2 r 0)) := by
  pointwise [total]
  rfl

theorem mixed_apply (pw : FVec Ideal S256x384 .f32) (pc : FVec Ideal S256x512 .f32) (den : FVec Ideal S256x1 .f32) (v : Vec Ideal S1x384x128 .bf16)
    (vc : Vec Ideal S1x1x512x128 .f32) (r : Fin 256) (d : Fin 128) :
    mixed pw pc den v vc (ix2 r d) = Ideal.div ((∑ t, pw (ix2 r t) * v (ix3 0 t d)) + ∑ t, pc (ix2 r t) * vc (ix4 0 0 t d)) (den (ix2 r 0)) := by
  pointwise [mixed]

theorem upper_apply (o : FVec Ideal S256x128 .f32) (r l : Fin 128) : upper o (ix3 0 r l) = o (ix2 ⟨r.val, by omega⟩ l) := by
  pointwise [upper]

theorem lower_apply (o : FVec Ideal S256x128 .f32) (r l : Fin 128) : lower o (ix3 0 r l) = o (ix2 ⟨128 + r.val, by omega⟩ l) := by
  pointwise [lower]

/-- The mask of a query block: nothing for the keys near a query, `⊥` for the others. -/
theorem mask_apply (i : grid0.Coords) (r : Fin 128) (t : Fin 384) :
    k0_pay8 (F := Ideal) i (ix2 r t) = if Near ((i 2).val * 128 + r.val) (first (i 2).val + t.val) then 0 else ⊥ := by
  have hi : (i 2).val < 32 := (i 2).isLt
  have := first_le (i 2).val
  pointwise [k0_pay8]
  rw [first_word ⟨(i 2).val, hi⟩]
  rw [show IntOp.addi (Scalar.muli (BitVec.ofNat 32 (i 2).val) 128#32) (BitVec.ofNat 32 r.val) = BitVec.ofNat 32 ((i 2).val * 128 + r.val) from by
      rw [BitVec.ofNat_add, BitVec.ofNat_mul]; rfl,
    show IntOp.addi (BitVec.ofNat 32 (first (i 2).val)) (BitVec.ofNat 32 t.val) = BitVec.ofNat 32 (first (i 2).val + t.val) from
      (BitVec.ofNat_add _ _).symm,
    near_word _ _ (by omega) (by omega)]
  split_ifs <;> rfl

/-- A tile's element: the average, over the window's and the context's keys and the sink, of the values. -/
theorem tile_apply (mask : FVec Ideal S128x384 .f32) (cq sq : Vec Ideal S128x128 .f32) (ck sk : Vec Ideal S384x128 .f32) (k v : Vec Ideal S1x384x128 .bf16)
    (kc vc : Vec Ideal S1x1x512x128 .f32) (q0 q1 : Vec Ideal S1x128x128 .bf16) (s0 s1 : Elt Ideal .f32) (r : Fin 256) (d : Fin 128)
    (ok : Fin 384 → Prop) [DecidablePred ok] (hmask : ∀ t, mask (ix2 ⟨r.val % 128, by omega⟩ t) = if ok t then 0 else ⊥)
    (q : Fin 128 → ℝ) (hq : ∀ l, queries cq sq q0 q1 (ix2 r l) = q l)
    (kw vw : Fin 384 → Fin 128 → ℝ) (hk : ∀ t l, turnK ck sk k (ix2 t l) = kw t l) (hv : ∀ t l, v (ix3 0 t l) = vw t l)
    (kx vx : Fin 512 → Fin 128 → ℝ) (hkc : ∀ t l, kc (ix4 0 0 t l) = kx t l) (hvc : ∀ t l, vc (ix4 0 0 t l) = vx t l)
    (s : ℝ) (hs : (if r.val < 128 then s0 else s1) = (s : EReal)) :
    tile mask cq sq ck sk k v kc vc q0 q1 s0 s1 (ix2 r d)
      = (average (fun t => if ok t then Real.exp (score q (kw t)) else 0) (fun t => vw t d)
          (fun t => Real.exp (score q (kx t))) (fun t => vx t d) (Real.exp s) : EReal) := by
  have hscale (x y : Fin 128 → ℝ) : (∑ l, (x l : EReal) * (y l : EReal)) * (((Real.sqrt 128)⁻¹ * (Real.log 2)⁻¹ : ℝ) : EReal)
      = ((score x y * (Real.log 2)⁻¹ : ℝ) : EReal) := by
    rw [coe_dot, ← EReal.coe_mul, ← mul_assoc]; rfl
  have hlw (t) : windowScores mask (queries cq sq q0 q1) (turnK ck sk k) (ix2 r t)
      = ((score q (kw t) * (Real.log 2)⁻¹ : ℝ) : EReal) + (if ok t then 0 else ⊥) := by
    rw [windowScores_apply, hmask]; simp only [hq, hk]; rw [hscale]
  have hlc (t) : contextScores (queries cq sq q0 q1) kc (ix2 r t) = ((score q (kx t) * (Real.log 2)⁻¹ : ℝ) : EReal) := by
    rw [contextScores_apply]; simp only [hq, hkc]; rw [hscale]
  have hsn : sinks s0 s1 (ix2 r 0) = ((s * (Real.log 2)⁻¹ : ℝ) : EReal) := by rw [sinks_apply, hs, EReal.coe_mul]
  obtain ⟨m, hm⟩ : ∃ m : ℝ, rowMax (windowScores mask (queries cq sq q0 q1) (turnK ck sk k)) (contextScores (queries cq sq q0 q1) kc) (sinks s0 s1) (ix2 r 0) = m := by
    rw [rowMax_apply, hsn]
    refine max_real ⊥ bot_ne_top _ _ (fun t => ?_) (fun t => ?_) _
    · rw [hlw]; split_ifs
      · rw [add_zero]; exact EReal.coe_ne_top _
      · rw [EReal.add_bot]; exact bot_ne_top
    · rw [hlc]; exact EReal.coe_ne_top _
  unfold tile
  rw [mixed_apply, total_apply]
  simp only [windowWeights_apply, contextWeights_apply, hm, hlw, hlc, hsn, exp2_masked, exp2_plain, hv, hvc]
  refine average_at_end _ _ _ _ _ _ (fun t => ?_) (fun t => (Real.exp_pos _).le) (Real.exp_pos _) (inv_pos.2 (Real.rpow_pos_of_pos (by norm_num) m))
  split_ifs
  · exact (Real.exp_pos _).le
  · exact le_refl 0

end Cert.KernelIdeal.Swa
-- ==== Proof.Swa.Spec.lean ====
/-
  The window attention of one layer over the reals, from the arrays the call is given.
-/
module

public import proofs.«01_k».proof.Proof.Swa.Attend
public import proofs.«01_k».proof.Proof.Swa.Words

@[expose] public section

noncomputable section

namespace Cert.Swa

/-- The real arrays the window attention reads. -/
structure Arrays where
  /-- the joint projection: batch, position, column (queries from 4096, keys from 5120, values from 5376) -/
  qkv : Fin 8 → Fin 4096 → Fin 5632 → ℝ
  /-- the context's keys of the layer: batch, position, group, lane -/
  ctxK : Fin 8 → Fin 512 → Fin 2 → Fin 128 → ℝ
  /-- the context's values of the layer -/
  ctxV : Fin 8 → Fin 512 → Fin 2 → Fin 128 → ℝ
  /-- each head's sink -/
  sink : Fin 8 → ℝ
  /-- the cosines of a position's row and column angles -/
  cos : Fin 4096 → Fin 2 → Fin 32 → ℝ
  /-- their sines -/
  sin : Fin 4096 → Fin 2 → Fin 32 → ℝ

namespace Arrays
variable (A : Arrays)

/-- Head `h`'s turned query at position `i`. -/
def query (b : Fin 8) (h : Fin 8) (i : Fin 4096) : Fin 128 → ℝ :=
  turned (fun l => A.qkv b i ⟨4096 + h.val * 128 + l.val, by omega⟩) (A.cos i) (A.sin i)

/-- Group `g`'s turned key at position `j`. -/
def key (b : Fin 8) (g : Fin 2) (j : Fin 4096) : Fin 128 → ℝ :=
  turned (fun l => A.qkv b j ⟨5120 + g.val * 128 + l.val, by omega⟩) (A.cos j) (A.sin j)

/-- Group `g`'s value at position `j`. -/
def value (b : Fin 8) (g : Fin 2) (j : Fin 4096) (d : Fin 128) : ℝ := A.qkv b j ⟨5376 + g.val * 128 + d.val, by omega⟩

/-- The weight query `i` of head `h` gives to position `j`, not yet divided. -/
def weight (b : Fin 8) (h : Fin 8) (g : Fin 2) (i j : Fin 4096) : ℝ :=
  if Near i.val j.val then Real.exp (score (A.query b h i) (A.key b g j)) else 0

/-- The attention: positions within 128, the whole context, and the sink. -/
def attend (b : Fin 8) (i : Fin 4096) (h : Fin 8) (g : Fin 2) (d : Fin 128) : ℝ :=
  average (fun j => A.weight b h g i j) (fun j => A.value b g j d)
    (fun t => Real.exp (score (A.query b h i) (A.ctxK b t g))) (fun t => A.ctxV b t g d) (Real.exp (A.sink h))

/-- Only the 384 positions from the query block's first key on have a weight. -/
theorem attend_window (b : Fin 8) (j : Fin 32) (r : Fin 128) (h : Fin 8) (g : Fin 2) (d : Fin 128) :
    A.attend b ⟨j.val * 128 + r.val, by omega⟩ h g d
      = average (fun t : Fin 384 => A.weight b h g ⟨j.val * 128 + r.val, by omega⟩ ⟨first j.val + t.val, by have := first_le j.val; omega⟩)
          (fun t : Fin 384 => A.value b g ⟨first j.val + t.val, by have := first_le j.val; omega⟩ d)
          (fun t => Real.exp (score (A.query b h ⟨j.val * 128 + r.val, by omega⟩) (A.ctxK b t g))) (fun t => A.ctxV b t g d) (Real.exp (A.sink h)) := by
  have hout : ∀ k : Fin 4096, ¬ (first j.val ≤ k.val ∧ k.val < first j.val + 384) → A.weight b h g ⟨j.val * 128 + r.val, by omega⟩ k = 0 := by
    intro k hk
    exact if_neg fun hn => hk (first_covers j.val j.isLt r.val r.isLt k.val k.isLt hn)
  unfold attend average
  rw [sum_window (first j.val) (first_le _) (fun k => A.weight b h g ⟨j.val * 128 + r.val, by omega⟩ k) hout,
    sum_window (first j.val) (first_le _) (fun k => A.weight b h g ⟨j.val * 128 + r.val, by omega⟩ k * A.value b g k d)
      (fun k hk => by rw [hout k hk, zero_mul])]

end Arrays

end Cert.Swa
-- ==== Proof.Swa.Block.lean ====
/-
  What one grid step of the window attention stores, when its blocks hold real arrays.
-/
module

public import proofs.«01_k».proof.Proof.Swa.TileValue
public import proofs.«01_k».proof.Proof.Swa.Spec

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

/-- The blocks of the step for batch `b` and query block `j` hold their parts of the arrays. -/
structure Holds (A : Arrays) (b : Fin 8) (j : Fin 32) (x0 : Vec Ideal S8 .f32) (x1 : Vec Ideal S1x128x1024 .bf16) (x2 x3 : Vec Ideal S1x4096x256 .bf16)
    (x4 x5 : Vec Ideal S1x1x512x256 .f32) (x6 x7 : Vec Ideal S4096x128 .f32) : Prop where
  sink : ∀ h : Fin 8, x0 (ix1 h) = (A.sink h : EReal)
  query : ∀ (r : Fin 128) (c : Fin 1024), x1 (ix3 0 r c) = (A.qkv b ⟨j.val * 128 + r.val, by omega⟩ ⟨4096 + c.val, by omega⟩ : EReal)
  key : ∀ (p : Fin 4096) (c : Fin 256), x2 (ix3 0 p c) = (A.qkv b p ⟨5120 + c.val, by omega⟩ : EReal)
  value : ∀ (p : Fin 4096) (c : Fin 256), x3 (ix3 0 p c) = (A.qkv b p ⟨5376 + c.val, by omega⟩ : EReal)
  ctxK : ∀ (t : Fin 512) (g : Fin 2) (l : Fin 128), x4 (ix4 0 0 t ⟨g.val * 128 + l.val, by omega⟩) = (A.ctxK b t g l : EReal)
  ctxV : ∀ (t : Fin 512) (g : Fin 2) (l : Fin 128), x5 (ix4 0 0 t ⟨g.val * 128 + l.val, by omega⟩) = (A.ctxV b t g l : EReal)
  cos : ∀ (p : Fin 4096) (l : Fin 128), x6 (ix2 p l) = (A.cos p ⟨l.val / 64, by omega⟩ ⟨l.val % 32, by omega⟩ : EReal)
  sin : ∀ (p : Fin 4096) (l : Fin 128), x7 (ix2 p l) = (signed l (A.sin p ⟨l.val / 64, by omega⟩ ⟨l.val % 32, by omega⟩) : EReal)

/-- A tile of two heads of one group, from what its loads hold. -/
theorem tile_attend (A : Arrays) (i : grid0.Coords) (b : Fin 8) (j : Fin 32) (hj : (i 2).val = j.val) (g : Fin 2) (h0 h1 : Fin 8)
    (cq sq : Vec Ideal S128x128 .f32) (ck sk : Vec Ideal S384x128 .f32) (k v : Vec Ideal S1x384x128 .bf16)
    (kc vc : Vec Ideal S1x1x512x128 .f32) (q0 q1 : Vec Ideal S1x128x128 .bf16) (s0 s1 : Elt Ideal .f32)
    (hcq : ∀ r l, cq (ix2 r l) = (A.cos ⟨j.val * 128 + r.val, by omega⟩ ⟨l.val / 64, by omega⟩ ⟨l.val % 32, by omega⟩ : EReal))
    (hsq : ∀ r l, sq (ix2 r l) = (signed l (A.sin ⟨j.val * 128 + r.val, by omega⟩ ⟨l.val / 64, by omega⟩ ⟨l.val % 32, by omega⟩) : EReal))
    (hck : ∀ (t : Fin 384) (l : Fin 128), ck (ix2 t l) = (A.cos ⟨first j.val + t.val, by have := first_le j.val; omega⟩ ⟨l.val / 64, by omega⟩ ⟨l.val % 32, by omega⟩ : EReal))
    (hsk : ∀ (t : Fin 384) (l : Fin 128), sk (ix2 t l) = (signed l (A.sin ⟨first j.val + t.val, by have := first_le j.val; omega⟩ ⟨l.val / 64, by omega⟩ ⟨l.val % 32, by omega⟩) : EReal))
    (hk : ∀ (t : Fin 384) (l : Fin 128), k (ix3 0 t l) = (A.qkv b ⟨first j.val + t.val, by have := first_le j.val; omega⟩ ⟨5120 + g.val * 128 + l.val, by omega⟩ : EReal))
    (hv : ∀ (t : Fin 384) (l : Fin 128), v (ix3 0 t l) = (A.qkv b ⟨first j.val + t.val, by have := first_le j.val; omega⟩ ⟨5376 + g.val * 128 + l.val, by omega⟩ : EReal))
    (hkc : ∀ t l, kc (ix4 0 0 t l) = (A.ctxK b t g l : EReal)) (hvc : ∀ t l, vc (ix4 0 0 t l) = (A.ctxV b t g l : EReal))
    (hq0 : ∀ (r l : Fin 128), q0 (ix3 0 r l) = (A.qkv b ⟨j.val * 128 + r.val, by omega⟩ ⟨4096 + h0.val * 128 + l.val, by omega⟩ : EReal))
    (hq1 : ∀ (r l : Fin 128), q1 (ix3 0 r l) = (A.qkv b ⟨j.val * 128 + r.val, by omega⟩ ⟨4096 + h1.val * 128 + l.val, by omega⟩ : EReal))
    (hs0 : s0 = (A.sink h0 : EReal)) (hs1 : s1 = (A.sink h1 : EReal)) (r : Fin 256) (d : Fin 128) :
    tile (k0_pay8 i) cq sq ck sk k v kc vc q0 q1 s0 s1 (ix2 r d)
      = (A.attend b ⟨j.val * 128 + r.val % 128, by omega⟩ (if r.val < 128 then h0 else h1) g d : EReal) := by
  have hmod : r.val % 128 < 128 := by omega
  rw [A.attend_window b j ⟨r.val % 128, hmod⟩]
  refine tile_apply _ _ _ _ _ _ _ _ _ _ _ _ _ r d (fun t => Near (j.val * 128 + r.val % 128) (first j.val + t.val)) (fun t => ?_)
    (A.query b (if r.val < 128 then h0 else h1) ⟨j.val * 128 + r.val % 128, by omega⟩) (fun l => ?_)
    (fun t => A.key b g ⟨first j.val + t.val, by have := first_le j.val; omega⟩) (fun t => A.value b g ⟨first j.val + t.val, by have := first_le j.val; omega⟩)
    (fun t l => ?_) (fun t l => hv t l) (fun t => A.ctxK b t g) (fun t => A.ctxV b t g) hkc hvc (A.sink (if r.val < 128 then h0 else h1)) ?_
  · rw [mask_apply]; simp only [hj]
  · rw [queries_apply]
    split_ifs with hr
    · rw [turnQ_apply, hq0, hq0, hcq, hsq, ← EReal.coe_mul, ← EReal.coe_mul, ← EReal.coe_add]
      simp only [Nat.mod_eq_of_lt hr]; rfl
    · rw [turnQ_apply, hq1, hq1, hcq, hsq, ← EReal.coe_mul, ← EReal.coe_mul, ← EReal.coe_add]
      have e : r.val - 128 = r.val % 128 := by omega
      simp only [e]; rfl
  · rw [turnK_apply, hk, hk, hck, hsk, ← EReal.coe_mul, ← EReal.coe_mul, ← EReal.coe_add]; rfl
  · split_ifs with hr
    · exact hs0
    · exact hs1

end Cert.KernelIdeal.Swa
-- ==== Proof.Swa.Step.lean ====
/-
  The block of the result that one grid step of the window attention stores.
-/
module

public import proofs.«01_k».proof.Proof.Swa.Block

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

section
variable (i : grid0.Coords)

theorem off1_0 : k0_off1 i 0 = (i 2).val * 128 :=
  (by decide +kernel : ∀ n : Fin 32, (Scalar.indexCast (Scalar.muli (BitVec.ofNat 32 n.val) 128#32) : Index).toNat = n.val * 128) (i 2)

/-- The first key's word, read back. -/
theorem firstNat (j : ℕ) (hj : j < 32) :
    (Scalar.indexCast (Scalar.minsi (3712#32) (Scalar.maxsi (0#32) (Scalar.muli (Scalar.subi (BitVec.ofNat 32 j) 1#32) 128#32))) : Index).toNat = first j :=
  (by decide +kernel : ∀ n : Fin 32, (Scalar.indexCast (Scalar.minsi (3712#32) (Scalar.maxsi (0#32) (Scalar.muli (Scalar.subi (BitVec.ofNat 32 n.val) 1#32) 128#32))) : Index).toNat = first n.val) ⟨j, hj⟩

theorem off2_0 : k0_off2 i 0 = first (i 2).val := firstNat _ (i 2).isLt
theorem off3_1 : k0_off3 i 1 = first (i 2).val := firstNat _ (i 2).isLt
theorem off5_1 : k0_off5 i 1 = first (i 2).val := firstNat _ (i 2).isLt

theorem off4_0 (r : Fin 4) (s : Fin 2) : k0_off4 i (BitVec.ofNat 32 (2 * r.val)) (BitVec.ofNat 32 s.val) 0 = 2 * r.val + s.val := by
  have h : (i 1).val = 0 := by have : (i 1).val < 1 := (i 1).isLt; omega
  unfold k0_off4
  dsimp only
  rw [h]
  revert r s
  decide +kernel

end

section
variable (A : Arrays) (i : grid0.Coords) (b : Fin 8) (j : Fin 32)
  (x0 : Vec Ideal S8 .f32) (x1 : Vec Ideal S1x128x1024 .bf16) (x2 x3 : Vec Ideal S1x4096x256 .bf16)
  (x4 x5 : Vec Ideal S1x1x512x256 .f32) (x6 x7 : Vec Ideal S4096x128 .f32) (H : Holds A b j x0 x1 x2 x3 x4 x5 x6 x7)

include H in
/-- A head's queries, loaded. -/
theorem load_query (h : Fin 8) (off : Fin 3 → ℕ) (inb) (h0 : off 0 = 0) (h1 : off 1 = 0) (h2 : off 2 = h.val * 128) (r l : Fin 128) :
    View.ld (Val := Elt Ideal) (e' := .bf16) x1 (Rect.unit off S1x128x128.size inb) (ix3 (0 : Fin 1) r l)
      = (A.qkv b ⟨j.val * 128 + r.val, by omega⟩ ⟨4096 + h.val * 128 + l.val, by omega⟩ : EReal) := by
  rw [View.ld_unit_apply_of x1 off S1x128x128.size inb (ix3 (0 : Fin 1) r l) (ix3 (0 : Fin 1) r (⟨h.val * 128 + l.val, by omega⟩ : Fin 1024)) (fun a => by
    match a with
    | ⟨0, _⟩ => show 0 = off 0 + 0; omega
    | ⟨1, _⟩ => show r.val = off 1 + r.val; omega
    | ⟨2, _⟩ => show h.val * 128 + l.val = off 2 + l.val; omega), H.query]
  simp only [Nat.add_assoc]

include H in
/-- A sink, loaded. -/
theorem load_sink (r : Fin 4) (s : Fin 2) : sinkAt i x0 r s = (A.sink ⟨2 * r.val + s.val, by omega⟩ : EReal) := by
  unfold sinkAt
  rw [View.ld_unit_apply_of x0 _ S1.size _ _ (ix1 (⟨2 * r.val + s.val, by omega⟩ : Fin 8)) (fun a => by
    match a with
    | ⟨0, _⟩ =>
      refine (off4_0 i r s).symm.trans ?_
      exact (Nat.add_zero _).symm), H.sink]

/-- A table's rows of the query block, loaded. -/
theorem load_rows (hj : (i 2).val = j.val) (x : Vec Ideal S4096x128 .f32) (inb) (r l : Fin 128) :
    View.ld (Val := Elt Ideal) (e' := .f32) x (Rect.unit (k0_off1 i) S128x128.size inb) (ix2 r l) = x (ix2 (⟨j.val * 128 + r.val, by omega⟩ : Fin 4096) l) :=
  View.ld_unit_apply_of x _ S128x128.size inb (ix2 r l) _ fun a => by
    match a with
    | ⟨0, _⟩ => show j.val * 128 + r.val = k0_off1 i 0 + r.val; rw [off1_0, hj]
    | ⟨1, _⟩ => show l.val = 0 + l.val; omega

/-- A table's rows of the window, loaded. -/
theorem load_window_rows (hj : (i 2).val = j.val) (x : Vec Ideal S4096x128 .f32) (inb) (t : Fin 384) (l : Fin 128) :
    View.ld (Val := Elt Ideal) (e' := .f32) x (Rect.unit (k0_off2 i) S384x128.size inb) (ix2 t l)
      = x (ix2 (⟨first j.val + t.val, by have := first_le j.val; omega⟩ : Fin 4096) l) :=
  View.ld_unit_apply_of x _ S384x128.size inb (ix2 t l) _ fun a => by
    match a with
    | ⟨0, _⟩ => show first j.val + t.val = k0_off2 i 0 + t.val; rw [off2_0, hj]
    | ⟨1, _⟩ => show l.val = 0 + l.val; omega

/-- The window's rows of one group's keys or values, loaded. -/
theorem load_window (x : Vec Ideal S1x4096x256 .bf16) (g : Fin 2) (off : Fin 3 → ℕ) (inb) (h0 : off 0 = 0) (h1 : off 1 = first j.val) (h2 : off 2 = g.val * 128)
    (t : Fin 384) (l : Fin 128) :
    View.ld (Val := Elt Ideal) (e' := .bf16) x (Rect.unit off S1x384x128.size inb) (ix3 (0 : Fin 1) t l)
      = x (ix3 (0 : Fin 1) (⟨first j.val + t.val, by have := first_le j.val; omega⟩ : Fin 4096) (⟨g.val * 128 + l.val, by omega⟩ : Fin 256)) :=
  View.ld_unit_apply_of x _ S1x384x128.size inb (ix3 (0 : Fin 1) t l) _ fun a => by
    match a with
    | ⟨0, _⟩ => show 0 = off 0 + 0; omega
    | ⟨1, _⟩ => show first j.val + t.val = off 1 + t.val; omega
    | ⟨2, _⟩ => show g.val * 128 + l.val = off 2 + l.val; omega

/-- One group's context, loaded. -/
theorem load_context (x : Vec Ideal S1x1x512x256 .f32) (g : Fin 2) (off : Fin 4 → ℕ) (inb) (h0 : off 0 = 0) (h1 : off 1 = 0) (h2 : off 2 = 0) (h3 : off 3 = g.val * 128)
    (t : Fin 512) (l : Fin 128) :
    View.ld (Val := Elt Ideal) (e' := .f32) x (Rect.unit off S1x1x512x128.size inb) (ix4 (0 : Fin 1) (0 : Fin 1) t l)
      = x (ix4 (0 : Fin 1) (0 : Fin 1) t (⟨g.val * 128 + l.val, by omega⟩ : Fin 256)) :=
  View.ld_unit_apply_of x _ S1x1x512x128.size inb (ix4 (0 : Fin 1) (0 : Fin 1) t l) _ fun a => by
    match a with
    | ⟨0, _⟩ => show 0 = off 0 + 0; omega
    | ⟨1, _⟩ => show 0 = off 1 + 0; omega
    | ⟨2, _⟩ => show t.val = off 2 + t.val; omega
    | ⟨3, _⟩ => show g.val * 128 + l.val = off 3 + l.val; omega

include H in
/-- Two heads of the first group. -/
theorem tileA_attend (hj : (i 2).val = j.val) (h0 h1 : Fin 8) (q0 q1 : Vec Ideal S1x128x128 .bf16) (s0 s1 : Elt Ideal .f32)
    (hq0 : ∀ (r l : Fin 128), q0 (ix3 0 r l) = (A.qkv b ⟨j.val * 128 + r.val, by omega⟩ ⟨4096 + h0.val * 128 + l.val, by omega⟩ : EReal))
    (hq1 : ∀ (r l : Fin 128), q1 (ix3 0 r l) = (A.qkv b ⟨j.val * 128 + r.val, by omega⟩ ⟨4096 + h1.val * 128 + l.val, by omega⟩ : EReal))
    (hs0 : s0 = (A.sink h0 : EReal)) (hs1 : s1 = (A.sink h1 : EReal)) (r : Fin 256) (d : Fin 128) :
    tileA i x2 x3 x4 x5 x6 x7 q0 q1 s0 s1 (ix2 r d)
      = (A.attend b ⟨j.val * 128 + r.val % 128, by omega⟩ (if r.val < 128 then h0 else h1) 0 d : EReal) := by
  unfold tileA
  refine tile_attend A i b j hj 0 h0 h1 _ _ _ _ _ _ _ _ q0 q1 s0 s1 (fun r l => ?_) (fun r l => ?_) (fun t l => ?_) (fun t l => ?_) (fun t l => ?_) (fun t l => ?_)
    (fun t l => ?_) (fun t l => ?_) hq0 hq1 hs0 hs1 r d
  · rw [load_rows i j hj, H.cos]
  · rw [load_rows i j hj, H.sin]
  · rw [load_window_rows i j hj, H.cos]
  · rw [load_window_rows i j hj, H.sin]
  · rw [load_window j x2 0 _ _ rfl (by rw [off3_1, hj]) rfl, H.key]; simp only [Nat.add_assoc]
  · rw [load_window j x3 0 _ _ rfl (by rw [off3_1, hj]) rfl, H.value]; simp only [Nat.add_assoc]
  · rw [load_context x4 0 _ _ rfl rfl rfl rfl, H.ctxK]
  · rw [load_context x5 0 _ _ rfl rfl rfl rfl, H.ctxV]

include H in
/-- Two heads of the second group. -/
theorem tileB_attend (hj : (i 2).val = j.val) (h0 h1 : Fin 8) (q0 q1 : Vec Ideal S1x128x128 .bf16) (s0 s1 : Elt Ideal .f32)
    (hq0 : ∀ (r l : Fin 128), q0 (ix3 0 r l) = (A.qkv b ⟨j.val * 128 + r.val, by omega⟩ ⟨4096 + h0.val * 128 + l.val, by omega⟩ : EReal))
    (hq1 : ∀ (r l : Fin 128), q1 (ix3 0 r l) = (A.qkv b ⟨j.val * 128 + r.val, by omega⟩ ⟨4096 + h1.val * 128 + l.val, by omega⟩ : EReal))
    (hs0 : s0 = (A.sink h0 : EReal)) (hs1 : s1 = (A.sink h1 : EReal)) (r : Fin 256) (d : Fin 128) :
    tileB i x2 x3 x4 x5 x6 x7 q0 q1 s0 s1 (ix2 r d)
      = (A.attend b ⟨j.val * 128 + r.val % 128, by omega⟩ (if r.val < 128 then h0 else h1) 1 d : EReal) := by
  unfold tileB
  refine tile_attend A i b j hj 1 h0 h1 _ _ _ _ _ _ _ _ q0 q1 s0 s1 (fun r l => ?_) (fun r l => ?_) (fun t l => ?_) (fun t l => ?_) (fun t l => ?_) (fun t l => ?_)
    (fun t l => ?_) (fun t l => ?_) hq0 hq1 hs0 hs1 r d
  · rw [load_rows i j hj, H.cos]
  · rw [load_rows i j hj, H.sin]
  · rw [load_window_rows i j hj, H.cos]
  · rw [load_window_rows i j hj, H.sin]
  · rw [load_window j x2 1 _ _ rfl (by rw [off5_1, hj]) rfl, H.key]; simp only [Nat.add_assoc]
  · rw [load_window j x3 1 _ _ rfl (by rw [off5_1, hj]) rfl, H.value]; simp only [Nat.add_assoc]
  · rw [load_context x4 1 _ _ rfl rfl rfl rfl, H.ctxK]
  · rw [load_context x5 1 _ _ rfl rfl rfl rfl, H.ctxV]

/-- The result block's element in row `r` and column `c`. -/
def element (r : Fin 128) (c : Fin 1024) : ℝ :=
  A.attend b ⟨j.val * 128 + r.val, by omega⟩ ⟨c.val / 128, by omega⟩ ⟨c.val / 512, by omega⟩ ⟨c.val % 128, by omega⟩

/-- The upper half of a tile stands in its first head's columns. -/
theorem upper_element (o : FVec Ideal S256x128 .f32) (h0 h1 : Fin 8) (g : Fin 2) (hg : h0.val / 4 = g.val)
    (ho : ∀ (r : Fin 256) (d : Fin 128), o (ix2 r d) = (A.attend b ⟨j.val * 128 + r.val % 128, by omega⟩ (if r.val < 128 then h0 else h1) g d : EReal))
    (x : S1x128x128.Idx) (y : S1x128x1024.Idx) (e1 : (y 1).val = (x 1).val) (e2 : (y 2).val = h0.val * 128 + (x 2).val) :
    upper o x = (element A b j (y 1) (y 2) : EReal) := by
  obtain ⟨z, r, l, rfl⟩ : ∃ z r l, x = ix3 z r l := ⟨_, _, _, eq_ix3 x⟩
  have ez : z = 0 := Subsingleton.elim _ _
  subst ez
  have e1 : (y 1).val = r.val := e1
  have e2 : (y 2).val = h0.val * 128 + l.val := e2
  rw [upper_apply, ho, if_pos (show r.val < 128 from r.isLt)]
  unfold element
  congr 2
  · exact Fin.ext (by show j.val * 128 + r.val % 128 = j.val * 128 + (y 1).val; omega)
  · exact Fin.ext (by show h0.val = (y 2).val / 128; omega)
  · exact Fin.ext (by show g.val = (y 2).val / 512; omega)
  · exact Fin.ext (by show l.val = (y 2).val % 128; omega)

/-- The lower half of a tile stands in its second head's columns. -/
theorem lower_element (o : FVec Ideal S256x128 .f32) (h0 h1 : Fin 8) (g : Fin 2) (hg : h1.val / 4 = g.val)
    (ho : ∀ (r : Fin 256) (d : Fin 128), o (ix2 r d) = (A.attend b ⟨j.val * 128 + r.val % 128, by omega⟩ (if r.val < 128 then h0 else h1) g d : EReal))
    (x : S1x128x128.Idx) (y : S1x128x1024.Idx) (e1 : (y 1).val = (x 1).val) (e2 : (y 2).val = h1.val * 128 + (x 2).val) :
    lower o x = (element A b j (y 1) (y 2) : EReal) := by
  obtain ⟨z, r, l, rfl⟩ : ∃ z r l, x = ix3 z r l := ⟨_, _, _, eq_ix3 x⟩
  have ez : z = 0 := Subsingleton.elim _ _
  subst ez
  have e1 : (y 1).val = r.val := e1
  have e2 : (y 2).val = h1.val * 128 + l.val := e2
  rw [lower_apply, ho, if_neg (show ¬ 128 + r.val < 128 by omega)]
  unfold element
  congr 2
  · exact Fin.ext (by show j.val * 128 + (128 + r.val) % 128 = j.val * 128 + (y 1).val; omega)
  · exact Fin.ext (by show h1.val = (y 2).val / 128; omega)
  · exact Fin.ext (by show g.val = (y 2).val / 512; omega)
  · exact Fin.ext (by show l.val = (y 2).val % 128; omega)

include H in
/-- What the step stores, element by element. -/
theorem out_apply (hj : (i 2).val = j.val) (c : Dev nD) (arg3 : Memref sig .tc .smem S8 .f32) (harg3 : arg3.IsWhole) (arg4 : Memref sig .tc .vmem S1x128x1024 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x1x512x256 .f32) (harg7 : arg7.IsWhole) (arg8 : Memref sig .tc .vmem S1x1x512x256 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128x1024 .bf16) (harg11 : arg11.IsWhole)
    (y : S1x128x1024.Idx) :
    out0_A_8 c i arg3 harg3 arg4 harg4 arg5 harg5 arg6 harg6 arg7 harg7 arg8 harg8 arg9 harg9 arg10 harg10 arg11 harg11 x0 x1 x2 x3 x4 x5 x6 x7 y
      = (element A b j (y 1) (y 2) : EReal) := by
  rw [out_eq]
  have t0 (r d) := tileA_attend A i b j x0 x1 x2 x3 x4 x5 x6 x7 H hj 0 1 _ _ _ _
    (load_query A b j x0 x1 x2 x3 x4 x5 x6 x7 H 0 ![0, 0, 0] inb_S1x128x1024_S1x128x128_0_0_0 rfl rfl rfl)
    (load_query A b j x0 x1 x2 x3 x4 x5 x6 x7 H 1 ![0, 0, 128] inb_S1x128x1024_S1x128x128_0_0_128 rfl rfl rfl)
    (load_sink A i b j x0 x1 x2 x3 x4 x5 x6 x7 H 0 0) (load_sink A i b j x0 x1 x2 x3 x4 x5 x6 x7 H 0 1) r d
  have t1 (r d) := tileA_attend A i b j x0 x1 x2 x3 x4 x5 x6 x7 H hj 2 3 _ _ _ _
    (load_query A b j x0 x1 x2 x3 x4 x5 x6 x7 H 2 ![0, 0, 256] inb_S1x128x1024_S1x128x128_0_0_256 rfl rfl rfl)
    (load_query A b j x0 x1 x2 x3 x4 x5 x6 x7 H 3 ![0, 0, 384] inb_S1x128x1024_S1x128x128_0_0_384 rfl rfl rfl)
    (load_sink A i b j x0 x1 x2 x3 x4 x5 x6 x7 H 1 0) (load_sink A i b j x0 x1 x2 x3 x4 x5 x6 x7 H 1 1) r d
  have t2 (r d) := tileB_attend A i b j x0 x1 x2 x3 x4 x5 x6 x7 H hj 4 5 _ _ _ _
    (load_query A b j x0 x1 x2 x3 x4 x5 x6 x7 H 4 ![0, 0, 512] inb_S1x128x1024_S1x128x128_0_0_512 rfl rfl rfl)
    (load_query A b j x0 x1 x2 x3 x4 x5 x6 x7 H 5 ![0, 0, 640] inb_S1x128x1024_S1x128x128_0_0_640 rfl rfl rfl)
    (load_sink A i b j x0 x1 x2 x3 x4 x5 x6 x7 H 2 0) (load_sink A i b j x0 x1 x2 x3 x4 x5 x6 x7 H 2 1) r d
  have t3 (r d) := tileB_attend A i b j x0 x1 x2 x3 x4 x5 x6 x7 H hj 6 7 _ _ _ _
    (load_query A b j x0 x1 x2 x3 x4 x5 x6 x7 H 6 ![0, 0, 768] inb_S1x128x1024_S1x128x128_0_0_768 rfl rfl rfl)
    (load_query A b j x0 x1 x2 x3 x4 x5 x6 x7 H 7 ![0, 0, 896] inb_S1x128x1024_S1x128x128_0_0_896 rfl rfl rfl)
    (load_sink A i b j x0 x1 x2 x3 x4 x5 x6 x7 H 3 0) (load_sink A i b j x0 x1 x2 x3 x4 x5 x6 x7 H 3 1) r d
  canon_tiles x h
  · exact lower_element A b j _ 6 7 1 rfl t3 x y h1 (by first | exact h2 | exact h2.trans (Nat.zero_add _).symm)
  · exact upper_element A b j _ 6 7 1 rfl t3 x y h1 (by first | exact h2 | exact h2.trans (Nat.zero_add _).symm)
  · exact lower_element A b j _ 4 5 1 rfl t2 x y h1 (by first | exact h2 | exact h2.trans (Nat.zero_add _).symm)
  · exact upper_element A b j _ 4 5 1 rfl t2 x y h1 (by first | exact h2 | exact h2.trans (Nat.zero_add _).symm)
  · exact lower_element A b j _ 2 3 0 rfl t1 x y h1 (by first | exact h2 | exact h2.trans (Nat.zero_add _).symm)
  · exact upper_element A b j _ 2 3 0 rfl t1 x y h1 (by first | exact h2 | exact h2.trans (Nat.zero_add _).symm)
  · exact lower_element A b j _ 0 1 0 rfl t0 x y h1 (by first | exact h2 | exact h2.trans (Nat.zero_add _).symm)
  · exact upper_element A b j _ 0 1 0 rfl t0 x y h1 (by first | exact h2 | exact h2.trans (Nat.zero_add _).symm)

end

end Cert.KernelIdeal.Swa
-- ==== Proof.Swa.Entry.lean ====
/-
  The arrays the window attention's launch stages, as its arguments.
-/
module

public import proofs.«01_k».proof.Proof.Swa.Step
public import Idealize.ShloMosaic.Lib.Pointwise
public import Idealize.ShloMosaic.Lib.Pipeline.Covers

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

variable (m : (ℓ : Loc nD τ sig) → Buf (Elt Ideal) ℓ) (c : Dev nD)

/-- The context's keys, as the launch lays them out. -/
theorem V_ctxK (b : Fin 8) (a : Fin 2) (t : Fin 512) (g : Fin 2) (l : Fin 128) :
    V m c main_v0 (ix4 b a t (⟨g.val * 128 + l.val, by omega⟩ : Fin 256)) = m ((c : Thread nD τ).loc main_arg1) (ix5 b a t g l) := by
  unfold V
  entry_read
  pointwise

/-- The context's values, as the launch lays them out. -/
theorem V_ctxV (b : Fin 8) (a : Fin 2) (t : Fin 512) (g : Fin 2) (l : Fin 128) :
    V m c main_v1 (ix4 b a t (⟨g.val * 128 + l.val, by omega⟩ : Fin 256)) = m ((c : Thread nD τ).loc main_arg2) (ix5 b a t g l) := by
  unfold V
  entry_read
  pointwise

/-- The table of cosines over the lanes. -/
theorem V_cos (p : Fin 4096) (l : Fin 128) :
    V m c main_v3 (ix2 p l) = m ((c : Thread nD τ).loc main_arg4) (ix3 p (⟨l.val / 64, by omega⟩ : Fin 2) (⟨l.val % 32, by omega⟩ : Fin 32)) := by
  unfold V
  entry_read
  pointwise
  split_ifs with h <;> blk_ext

/-- The table of sines over the lanes, negative on the first lane of each pair. -/
theorem V_sin (p : Fin 4096) (l : Fin 128) :
    V m c main_v6 (ix2 p l)
      = if l.val % 64 < 32 then Neg.neg (α := EReal) (m ((c : Thread nD τ).loc main_arg5) (ix3 p (⟨l.val / 64, by omega⟩ : Fin 2) (⟨l.val % 32, by omega⟩ : Fin 32)))
        else m ((c : Thread nD τ).loc main_arg5) (ix3 p (⟨l.val / 64, by omega⟩ : Fin 2) (⟨l.val % 32, by omega⟩ : Fin 32)) := by
  unfold V
  entry_read
  pointwise
  by_cases h : l.val % 64 < 32
  · rw [dif_pos h, if_pos h]
    refine congrArg (Neg.neg (α := EReal)) ?_
    blk_ext
  · rw [dif_neg h, if_neg h]
    blk_ext

/-- The arguments as real arrays. -/
def arrays : Arrays where
  qkv b i k := EReal.toReal (m ((c : Thread nD τ).loc main_arg0) (ix3 b i k))
  ctxK b t g l := EReal.toReal (m ((c : Thread nD τ).loc main_arg1) (ix5 b (0 : Fin 2) t g l))
  ctxV b t g l := EReal.toReal (m ((c : Thread nD τ).loc main_arg2) (ix5 b (0 : Fin 2) t g l))
  sink h := EReal.toReal (m ((c : Thread nD τ).loc main_arg3) (ix1 h))
  cos p a l := EReal.toReal (m ((c : Thread nD τ).loc main_arg4) (ix3 p a l))
  sin p a l := EReal.toReal (m ((c : Thread nD τ).loc main_arg5) (ix3 p a l))

/-- Every argument's elements are real. -/
structure Finite : Prop where
  qkv : ∀ i : S8x4096x5632.Idx, ∃ x : ℝ, m ((c : Thread nD τ).loc main_arg0) i = (x : EReal)
  ctxK : ∀ i : S8x2x512x2x128.Idx, ∃ x : ℝ, m ((c : Thread nD τ).loc main_arg1) i = (x : EReal)
  ctxV : ∀ i : S8x2x512x2x128.Idx, ∃ x : ℝ, m ((c : Thread nD τ).loc main_arg2) i = (x : EReal)
  sink : ∀ i : S8.Idx, ∃ x : ℝ, m ((c : Thread nD τ).loc main_arg3) i = (x : EReal)
  cos : ∀ i : S4096x2x32.Idx, ∃ x : ℝ, m ((c : Thread nD τ).loc main_arg4) i = (x : EReal)
  sin : ∀ i : S4096x2x32.Idx, ∃ x : ℝ, m ((c : Thread nD τ).loc main_arg5) i = (x : EReal)

theorem real_eq {x : EReal} (h : ∃ r : ℝ, x = r) : x = (EReal.toReal x : EReal) := by
  obtain ⟨r, rfl⟩ := h; rw [EReal.toReal_coe]

/-- The block each window reads at a grid point. -/
theorem indices : ∀ t : Fin cfg0.N, win0_0.index t = ![0]
    ∧ win0_1.index t = ![(grid0.coords t 0).val, (grid0.coords t 2).val, 4]
    ∧ win0_2.index t = ![(grid0.coords t 0).val, 0, 20] ∧ win0_3.index t = ![(grid0.coords t 0).val, 0, 21]
    ∧ win0_4.index t = ![(grid0.coords t 0).val, 0, 0, 0] ∧ win0_5.index t = ![(grid0.coords t 0).val, 0, 0, 0]
    ∧ win0_6.index t = ![0, 0] ∧ win0_7.index t = ![0, 0]
    ∧ win0_8.index t = ![(grid0.coords t 0).val, (grid0.coords t 2).val, 0] := by decide +kernel

/-- The blocks of a grid point hold their parts of the arguments. -/
theorem holds (hf : Finite m c) (t : Fin cfg0.N) :
    Holds (arrays m c) (grid0.coords t 0) (grid0.coords t 2) (iblk m c 0 t) (X0_1 m c t) (iblk m c 2 t) (iblk m c 3 t) (iblk m c 4 t) (iblk m c 5 t)
      (iblk m c 6 t) (iblk m c 7 t) where
  sink h := by
    refine Eq.trans ?_ (real_eq (hf.sink (ix1 h)))
    blk_ext [iblk, V, indices t]
  query r k := by
    refine Eq.trans ?_ (real_eq (hf.qkv _))
    unfold X0_1 Pipeline.Window.fill
    rw [dif_pos (moved0_1 t _)]
    blk_ext [iblk, V, indices t]
  key p k := by
    refine Eq.trans ?_ (real_eq (hf.qkv _))
    blk_ext [iblk, V, indices t]
  value p k := by
    refine Eq.trans ?_ (real_eq (hf.qkv _))
    blk_ext [iblk, V, indices t]
  ctxK p g l := by
    refine Eq.trans ?_ ((V_ctxK m c _ _ _ _ _).trans (real_eq (hf.ctxK (ix5 (grid0.coords t 0) (0 : Fin 2) p g l))))
    blk_ext [iblk, indices t]
  ctxV p g l := by
    refine Eq.trans ?_ ((V_ctxV m c _ _ _ _ _).trans (real_eq (hf.ctxV (ix5 (grid0.coords t 0) (0 : Fin 2) p g l))))
    blk_ext [iblk, indices t]
  cos p l := by
    refine Eq.trans ?_ ((V_cos m c p l).trans (real_eq (hf.cos _)))
    blk_ext [iblk, indices t]
  sin p l := by
    refine (show _ = V m c main_v6 (ix2 p l) from ?_).trans ((V_sin m c p l).trans ?_)
    · blk_ext [iblk, indices t]
    · unfold signed
      rw [real_eq (hf.sin _)]
      split_ifs
      · rfl
      · rfl

end Cert.KernelIdeal.Swa
-- ==== Proof.Swa.Array.lean ====
/-
  The window attention's result after the run.
-/
module

public import proofs.«01_k».proof.Proof.Swa.Entry

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

variable (m : (ℓ : Loc nD τ sig) → Buf (Elt Ideal) ℓ) (c : Dev nD)

/-- Column `k` of position `i`: lane `k % 128` of head `k / 128`. -/
def result (A : Arrays) (b : Fin 8) (i : Fin 4096) (k : Fin 1024) : ℝ :=
  A.attend b i ⟨k.val / 128, by omega⟩ ⟨k.val / 512, by omega⟩ ⟨k.val % 128, by omega⟩

/-- A step's element is the result's where the step's block lies. -/
theorem element_eq (A : Arrays) (b : Fin 8) (j : Fin 32) (r : Fin 128) (k : Fin 1024) (b' : Fin 8) (i : Fin 4096) (k' : Fin 1024)
    (h0 : b'.val = b.val) (h1 : i.val = j.val * 128 + r.val) (h2 : k'.val = k.val) : (element A b j r k : EReal) = (result A b' i k' : EReal) := by
  obtain rfl : b' = b := Fin.ext h0
  obtain rfl : k' = k := Fin.ext h2
  rw [show i = ⟨j.val * 128 + r.val, by omega⟩ from Fin.ext h1]
  rfl

/-- The result array after the run. -/
theorem final (hf : Finite m c) :
    (dats m 0 c).arrAt 8 cfg0.N = fun y : S8x4096x1024.Idx => (result (arrays m c) (y 0) (y 1) (y 2) : EReal) := by
  refine (dats m 0 c).arrAt_eq_of_covers 8 _ ((cfg0.win 8).covers_of_indexMap_surj rfl (by decide) fun β =>
    ⟨fun a => match a with
      | ⟨0, _⟩ => (⟨(β (0 : Fin 3)).val, lt_of_lt_of_eq (β (0 : Fin 3)).isLt (by decide +kernel : (cfg0.win 8).nblk (0 : Fin 3) = 8)⟩ : Fin 8)
      | ⟨1, _⟩ => (0 : Fin 1)
      | ⟨2, _⟩ => (⟨(β (1 : Fin 3)).val, lt_of_lt_of_eq (β (1 : Fin 3)).isLt (by decide +kernel : (cfg0.win 8).nblk (1 : Fin 3) = 32)⟩ : Fin 32), fun a => ?_⟩) fun t hfl y => ?_
  · have h0 : (β (0 : Fin 3)).val < 8 := lt_of_lt_of_eq (β (0 : Fin 3)).isLt (by decide +kernel : (cfg0.win 8).nblk (0 : Fin 3) = 8)
    have h1 : (β (1 : Fin 3)).val < 32 := lt_of_lt_of_eq (β (1 : Fin 3)).isLt (by decide +kernel : (cfg0.win 8).nblk (1 : Fin 3) = 32)
    have h2 : (β (2 : Fin 3)).val < 1 := lt_of_lt_of_eq (β (2 : Fin 3)).isLt (by decide +kernel : (cfg0.win 8).nblk (2 : Fin 3) = 1)
    match a with
    | ⟨0, _⟩ => exact Nat.mod_eq_of_lt (by omega : (β (0 : Fin 3)).val < 2 ^ 32)
    | ⟨1, _⟩ => exact Nat.mod_eq_of_lt (by omega : (β (1 : Fin 3)).val < 2 ^ 32)
    | ⟨2, _⟩ => exact (by omega : 0 = (β (2 : Fin 3)).val)
  · blk_simp
    rw [after0_8]
    unfold outsAt0
    refine (out_apply (arrays m c) (grid0.coords t) (grid0.coords t 0) (grid0.coords t 2) _ _ _ _ _ _ _ _ (holds m c hf t) rfl c _ _ _ _ _ _ _ _ _ _ _ _ _ _ _ _ _ _ _).trans ?_
    refine element_eq _ _ _ _ _ _ _ _ ?_ ?_ ?_
    · blk_simp [indices t]
    · blk_simp [indices t]
    · blk_simp [indices t]

end Cert.KernelIdeal.Swa
-- ==== Proof.Swa.Reference.lean ====
/-
  The reference's window attention, read one element at a time.
-/
module

public import proofs.«01_k».proof.Proof.Gen.ReferenceIdeal.Read
public import proofs.«01_k».proof.Proof.Swa.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen Cert.ReferenceIdeal.Read Cert.Swa

/-- The reference's arguments hold the real arrays `A`. -/
structure Holds (A : Arrays) (x0 : Vec Ideal S8x4096x5632 .bf16) (x1 x2 : Vec Ideal S8x2x512x2x128 .f32) (x3 : Vec Ideal S8 .f32)
    (x4 x5 : Vec Ideal S4096x2x32 .f32) : Prop where
  qkv : ∀ b i k, x0 (ix3 b i k) = (A.qkv b i k : EReal)
  ctxK : ∀ b t g l, x1 (ix5 b 0 t g l) = (A.ctxK b t g l : EReal)
  ctxV : ∀ b t g l, x2 (ix5 b 0 t g l) = (A.ctxV b t g l : EReal)
  sink : ∀ h, x3 (ix1 h) = (A.sink h : EReal)
  cos : ∀ i r l, x4 (ix3 i r l) = (A.cos i r l : EReal)
  sin : ∀ i r l, x5 (ix3 i r l) = (A.sin i r l : EReal)

/-- The four quarters of a turned vector are `turned`. -/
theorem quarters (x : Fin 128 → ℝ) (cos sin : Fin 2 → Fin 32 → ℝ) (l : Fin 128) :
    (if h : l.val < 32 then x ⟨l.val, by omega⟩ * cos 0 ⟨l.val, by omega⟩ - x ⟨32 + l.val, by omega⟩ * sin 0 ⟨l.val, by omega⟩
      else if h : l.val - 32 < 32 then
        x ⟨32 + (l.val - 32), by omega⟩ * cos 0 ⟨l.val - 32, by omega⟩ + x ⟨l.val - 32, by omega⟩ * sin 0 ⟨l.val - 32, by omega⟩
      else if h : l.val - 32 - 32 < 32 then
        x ⟨64 + (l.val - 32 - 32), by omega⟩ * cos 1 ⟨l.val - 32 - 32, by omega⟩ - x ⟨96 + (l.val - 32 - 32), by omega⟩ * sin 1 ⟨l.val - 32 - 32, by omega⟩
      else x ⟨96 + (l.val - 32 - 32 - 32), by omega⟩ * cos 1 ⟨l.val - 32 - 32 - 32, by omega⟩
        + x ⟨64 + (l.val - 32 - 32 - 32), by omega⟩ * sin 1 ⟨l.val - 32 - 32 - 32, by omega⟩)
      = turned x cos sin l := by
  have key : ∀ (a p : Fin 128) (r : Fin 2) (t : Fin 32), a.val = l.val → p = partner l → r.val = l.val / 64 → t.val = l.val % 32 →
      turned x cos sin l = x a * cos r t + x p * signed l (sin r t) := by
    intro a p r t ha hp hr ht
    obtain rfl : a = l := Fin.ext ha
    rw [hp, show r = ⟨a.val / 64, by omega⟩ from Fin.ext hr, show t = ⟨a.val % 32, by omega⟩ from Fin.ext ht]
    rfl
  by_cases h0 : l.val < 32
  · rw [dif_pos h0, key ⟨l.val, by omega⟩ ⟨32 + l.val, by omega⟩ 0 ⟨l.val, by omega⟩ rfl (by unfold partner; rw [dif_pos (by omega)]; exact Fin.ext (Nat.add_comm _ _))
      (by show 0 = _; omega) (by show l.val = _; omega), signed, if_pos (by omega)]
    ring
  rw [dif_neg h0]
  by_cases h1 : l.val - 32 < 32
  · rw [dif_pos h1, key ⟨32 + (l.val - 32), by omega⟩ ⟨l.val - 32, by omega⟩ 0 ⟨l.val - 32, by omega⟩ (by show 32 + (l.val - 32) = _; omega)
      (by unfold partner; rw [dif_neg (by omega)]) (by show 0 = _; omega) (by show l.val - 32 = _; omega), signed, if_neg (by omega)]
  rw [dif_neg h1]
  by_cases h2 : l.val - 32 - 32 < 32
  · rw [dif_pos h2, key ⟨64 + (l.val - 32 - 32), by omega⟩ ⟨96 + (l.val - 32 - 32), by omega⟩ 1 ⟨l.val - 32 - 32, by omega⟩ (by show 64 + (l.val - 32 - 32) = _; omega)
      (by unfold partner; rw [dif_pos (by omega)]; exact Fin.ext (by show 96 + (l.val - 32 - 32) = l.val + 32; omega)) (by show 1 = _; omega)
      (by show l.val - 32 - 32 = _; omega), signed, if_pos (by omega)]
    ring
  rw [dif_neg h2, key ⟨96 + (l.val - 32 - 32 - 32), by omega⟩ ⟨64 + (l.val - 32 - 32 - 32), by omega⟩ 1 ⟨l.val - 32 - 32 - 32, by omega⟩
      (by show 96 + (l.val - 32 - 32 - 32) = _; omega)
      (by unfold partner; rw [dif_neg (by omega)]; exact Fin.ext (by show 64 + (l.val - 32 - 32 - 32) = l.val - 32; omega)) (by show 1 = _; omega)
      (by show l.val - 32 - 32 - 32 = _; omega), signed, if_neg (by omega)]

/-- A real number under a test is the test of the real numbers. -/
theorem coe_dite (p : Prop) [Decidable p] (x : p → ℝ) (y : ¬ p → ℝ) :
    ((dite p x y : ℝ) : EReal) = dite p (fun h => (x h : EReal)) (fun h => (y h : EReal)) := by split_ifs <;> rfl

/-- The greatest of a row's 4609 entries is real, if none is `⊤` and the last is real. -/
theorem row_real (y : S8x2x4x4096x4609.Idx → EReal) (z : S_.Idx → EReal) (hz : ∀ i, z i ≠ ⊤) (hy : ∀ i, y i ≠ ⊤)
    (b : Fin 8) (g : Fin 2) (u : Fin 4) (i : Fin 4096) (s : ℝ) (hs : y (ix5 b g u i ⟨4608, by omega⟩) = s) :
    ∃ m : ℝ, Host.reduce (FloatOps.maximumf (F := Ideal) (φ := .f32)) y z reducesTo_S8x2x4x4096x4609_S8x2x4x4096_d4 h_S_ (ix4 b g u i) = (m : EReal) := by
  rw [Host.reduce_eq_fold_single _ _ _ _ (by decide)]
  refine fold_real _ (hz _) _ (fun k => hy _) (⟨4608, by decide⟩ : Fin 4609) s ?_
  refine (congrArg y ?_).trans hs
  funext a
  match a with
  | ⟨0, _⟩ => rfl
  | ⟨1, _⟩ => rfl
  | ⟨2, _⟩ => rfl
  | ⟨3, _⟩ => rfl
  | ⟨4, _⟩ => rfl

/-- A row's sum: the window's positions, the context's and the sink. -/
theorem sum_all (f : Fin 4609 → ℝ) : ∑ j, f j = (∑ j : Fin 4096, f ⟨j.val, by omega⟩) + (∑ t : Fin 512, f ⟨4096 + t.val, by omega⟩) + f ⟨4608, by omega⟩ := by
  rw [Fin.sum_univ_castSucc (n := 4608)]
  refine congrArg (· + _) ?_
  exact Fin.sum_univ_add (a := 4096) (b := 512) fun i => f (Fin.castSucc i)

theorem root : Ideal.sqrt (Ideal.ofBits .f32 1124073472#32) = ((Real.sqrt 128 : ℝ) : EReal) := by
  rw [show Ideal.ofBits .f32 1124073472#32 = ((128 : ℝ) : EReal) from by
    simp [Ideal.ofBits, Ideal.ieee]; rw [← EReal.coe_mul]; norm_num]
  exact (Ideal.sqrt_coe _).trans (if_neg (by norm_num))

/-- A divided dot product, the key's factor first, is the score. -/
theorem score_coe (q k : Fin 128 → ℝ) (Q K : Fin 128 → EReal) (hq : ∀ l, Q l = (q l : EReal)) (hk : ∀ l, K l = (k l : EReal)) :
    Ideal.div (∑ l, K l * Q l) (Ideal.sqrt (Ideal.ofBits .f32 1124073472#32)) = (score q k : EReal) := by
  simp only [hq, hk]
  rw [root, coe_dot, div_coe_coe (Real.sqrt_pos.2 (by norm_num)).ne']
  unfold score
  simp only [mul_comm]

theorem bottom : Ideal.ofBits .f32 4286578688#32 = ⊥ := by simp [Ideal.ofBits, Ideal.ieee]

/-- The weights of query `i`: the window's positions, the context's and the sink. -/
def weights (A : Arrays) (b h : Fin 8) (g : Fin 2) (i : Fin 4096) (j : Fin 4609) : ℝ :=
  if _ : j.val < 4096 then A.weight b h g i ⟨j.val, by omega⟩
  else if _ : j.val - 4096 < 512 then Real.exp (score (A.query b h i) (A.ctxK b ⟨j.val - 4096, by omega⟩ g))
  else Real.exp (A.sink h)

variable {A : Arrays} {x0 : Vec Ideal S8x4096x5632 .bf16} {x1 x2 : Vec Ideal S8x2x512x2x128 .f32} {x3 : Vec Ideal S8 .f32}
  {x4 x5 : Vec Ideal S4096x2x32 .f32} (H : Holds A x0 x1 x2 x3 x4 x5)
include H

/-- The turned queries. -/
theorem query_apply (b : Fin 8) (i : Fin 4096) (h : Fin 8) (l : Fin 128) :
    val_main_v43 (F := Ideal) x0 x4 x5 (ix4 b i h l) = (A.query b h i l : EReal) := by
  pointwise [val_main_v0, val_main_v1, val_main_v2, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
  simp only [H.qkv, H.cos, H.sin, ← EReal.coe_mul, ← EReal.coe_add, ← EReal.coe_sub, ← coe_dite]
  refine congrArg _ (Eq.trans ?_ (quarters _ _ _ l))
  simp only [Nat.add_assoc]

/-- The turned keys. -/
theorem key_apply (b : Fin 8) (i : Fin 4096) (h : Fin 2) (l : Fin 128) :
    val_main_v81 (F := Ideal) x0 x4 x5 (ix4 b i h l) = (A.key b h i l : EReal) := by
  pointwise [val_main_v0, val_main_v3, val_main_v4, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81]
  simp only [H.qkv, H.cos, H.sin, ← EReal.coe_mul, ← EReal.coe_add, ← EReal.coe_sub, ← coe_dite]
  refine congrArg _ (Eq.trans ?_ (quarters _ _ _ l))
  simp only [Nat.add_assoc]

/-- A query in the groups' order: head `g * 4 + u`. -/
theorem group_apply (b : Fin 8) (i : Fin 4096) (g : Fin 2) (u : Fin 4) (l : Fin 128) :
    val_main_v44 (F := Ideal) x0 x4 x5 (ix5 b i g u l) = (A.query b ⟨g.val * 4 + u.val, by omega⟩ i l : EReal) := by
  pointwise [val_main_v44]
  exact query_apply H _ _ _ _

/-- The window's masked scores. -/
theorem window_apply (b : Fin 8) (g : Fin 2) (u : Fin 4) (i j : Fin 4096) :
    val_main_v100 (F := Ideal) x0 x4 x5 (ix5 b g u i j)
      = if Near i.val j.val then (score (A.query b ⟨g.val * 4 + u.val, by omega⟩ i) (A.key b g j) : EReal) else ⊥ := by
  pointwise [val_main_call0_v1, val_main_call0_v0, val_main_call0_v2, val_main_cst_0, val_main_cst, val_main_v86, val_main_v87, val_main_v88, val_main_v89, val_main_v90, val_main_v91, val_main_v92, val_main_v93, val_main_v94, val_main_v95, val_main_c, val_main_v96, val_main_v97, val_main_v98, val_main_v99, val_main_v100]
  rw [score_coe _ _ _ _ (fun l => group_apply H b i g u l) (fun l => key_apply H b j g l), near_word _ _ (by omega) (by omega)]
  split_ifs
  · rfl
  · exact bottom

/-- The context's scores. -/
theorem context_apply (b : Fin 8) (g : Fin 2) (u : Fin 4) (i : Fin 4096) (t : Fin 512) :
    val_main_v104 (F := Ideal) x0 x1 x4 x5 (ix5 b g u i t)
      = (score (A.query b ⟨g.val * 4 + u.val, by omega⟩ i) (A.ctxK b t g) : EReal) := by
  pointwise [val_main_cst, val_main_v82, val_main_v83, val_main_v86, val_main_v101, val_main_v102, val_main_v103, val_main_v104]
  exact score_coe _ _ _ _ (fun l => group_apply H b i g u l) (fun l => H.ctxK b t g l)

/-- A row of the scores, the sink last. -/
theorem row_apply (b : Fin 8) (g : Fin 2) (u : Fin 4) (i : Fin 4096) (j : Fin 4609) :
    val_main_v107 (F := Ideal) x0 x1 x3 x4 x5 (ix5 b g u i j)
      = if _ : j.val < 4096 then (if Near i.val j.val then (score (A.query b ⟨g.val * 4 + u.val, by omega⟩ i) (A.key b g ⟨j.val, by omega⟩) : EReal) else ⊥)
        else if _ : j.val - 4096 < 512 then (score (A.query b ⟨g.val * 4 + u.val, by omega⟩ i) (A.ctxK b ⟨j.val - 4096, by omega⟩ g) : EReal)
        else (A.sink ⟨g.val * 4 + u.val, by omega⟩ : EReal) := by
  pointwise [val_main_v107, val_main_v105, val_main_v106]
  by_cases h0 : j.val < 4096
  · rw [dif_pos h0, dif_pos h0]; exact window_apply H _ _ _ _ _
  rw [dif_neg h0, dif_neg h0]
  by_cases h1 : j.val - 4096 < 512
  · rw [dif_pos h1, dif_pos h1]; exact context_apply H _ _ _ _ _
  rw [dif_neg h1, dif_neg h1]
  exact H.sink _

/-- A row's greatest score is real. -/
theorem greatest (b : Fin 8) (g : Fin 2) (u : Fin 4) (i : Fin 4096) :
    ∃ m : ℝ, val_main_v110 (F := Ideal) x0 x1 x3 x4 x5 (ix4 b g u i) = (m : EReal) := by
  obtain ⟨m, hm⟩ := row_real (val_main_v107 (F := Ideal) x0 x1 x3 x4 x5) (val_main_cst_1 (F := Ideal))
    (fun i => by rw [val_main_cst_1_apply]; exact bottom.trans_ne bot_ne_top) (fun k => by
      rw [eq_ix5 k]
      refine (row_apply H (k 0) (k 1) (k 2) (k 3) (k 4)).trans_ne ?_
      split_ifs
      · exact EReal.coe_ne_top _
      · exact bot_ne_top
      · exact EReal.coe_ne_top _
      · exact EReal.coe_ne_top _) b g u i (A.sink ⟨g.val * 4 + u.val, by omega⟩) (by
      rw [row_apply H]; exact (dif_neg (by decide)).trans (dif_neg (by decide)))
  refine ⟨m, ?_⟩
  rw [val_main_v110_apply, val_main_v109_apply, val_main_cst_2_apply]
  unfold val_main_v108
  rw [hm]
  change max (Ideal.ofBits .f32 4286578688#32) (m : EReal) = m
  rw [bottom]
  exact max_eq_right bot_le

/-- A row's weights, each divided by their total. -/
theorem share_apply (b : Fin 8) (g : Fin 2) (u : Fin 4) (i : Fin 4096) : ∃ c : ℝ, 0 < c ∧ ∀ j : Fin 4609,
    val_main_v118 (F := Ideal) x0 x1 x3 x4 x5 (ix5 b g u i j)
      = Ideal.div ((weights A b ⟨g.val * 4 + u.val, by omega⟩ g i j * c : ℝ) : EReal) ((((∑ j, weights A b ⟨g.val * 4 + u.val, by omega⟩ g i j) * c : ℝ) : EReal)) := by
  obtain ⟨m, hm⟩ := greatest H b g u i
  refine ⟨(Real.exp m)⁻¹, inv_pos.2 (Real.exp_pos _), fun j => ?_⟩
  have key : ∀ j : Fin 4609, Ideal.exp (val_main_v107 (F := Ideal) x0 x1 x3 x4 x5 (ix5 b g u i j) - (m : EReal))
      = ((weights A b ⟨g.val * 4 + u.val, by omega⟩ g i j * (Real.exp m)⁻¹ : ℝ) : EReal) := by
    intro j
    rw [row_apply H]
    unfold weights
    by_cases h0 : j.val < 4096
    · rw [dif_pos h0, dif_pos h0]; exact exp_masked _ _ _
    rw [dif_neg h0, dif_neg h0]
    by_cases h1 : j.val - 4096 < 512
    · rw [dif_pos h1, dif_pos h1]; exact exp_plain _ _
    rw [dif_neg h1, dif_neg h1]
    exact exp_plain _ _
  pointwise [val_main_cst_3, val_main_v111, val_main_v112, val_main_v113, val_main_v114, val_main_v115, val_main_v116, val_main_v117, val_main_v118]
  rw [hm]
  simp only [key]
  rw [← coe_sum, Finset.sum_mul]

/-- The result of the reference. -/
theorem result_apply (b : Fin 8) (i : Fin 4096) (k : Fin 1024) :
    val_main_v127 (F := Ideal) x0 x1 x2 x3 x4 x5 (ix3 b i k)
      = (A.attend b i ⟨k.val / 128, by omega⟩ ⟨k.val / 512, by omega⟩ ⟨k.val % 128, by omega⟩ : EReal) := by
  have hh : (⟨k.val / 512 * 4 + k.val / 128 % 4, by omega⟩ : Fin 8) = ⟨k.val / 128, by omega⟩ := Fin.ext (by show k.val / 512 * 4 + k.val / 128 % 4 = k.val / 128; omega)
  obtain ⟨c, hc, hs⟩ := share_apply H b ⟨k.val / 512, by omega⟩ ⟨k.val / 128 % 4, by omega⟩ i
  pointwise [val_main_v0, val_main_v5, val_main_v6, val_main_v84, val_main_v85, val_main_v119, val_main_v120, val_main_v121, val_main_v122, val_main_v123, val_main_v124, val_main_v125, val_main_v126, val_main_v127]
  simp only [hs, H.qkv, H.ctxV]
  refine Eq.trans ?_ (average_each (fun j => A.weight b ⟨k.val / 128, by omega⟩ ⟨k.val / 512, by omega⟩ i j) (fun j => A.value b ⟨k.val / 512, by omega⟩ j ⟨k.val % 128, by omega⟩)
    (fun t => Real.exp (score (A.query b ⟨k.val / 128, by omega⟩ i) (A.ctxK b t ⟨k.val / 512, by omega⟩))) (fun t => A.ctxV b t ⟨k.val / 512, by omega⟩ ⟨k.val % 128, by omega⟩)
    (Real.exp (A.sink ⟨k.val / 128, by omega⟩)) c ?_ (fun t => (Real.exp_pos _).le) (Real.exp_pos _) hc)
  · have hw : ∀ j : Fin 4096, weights A b ⟨k.val / 512 * 4 + k.val / 128 % 4, by omega⟩ ⟨k.val / 512, by omega⟩ i ⟨j.val, by omega⟩
        = A.weight b ⟨k.val / 128, by omega⟩ ⟨k.val / 512, by omega⟩ i j := fun j => by
      rw [hh]; exact dif_pos j.isLt
    have hwc : ∀ t : Fin 512, weights A b ⟨k.val / 512 * 4 + k.val / 128 % 4, by omega⟩ ⟨k.val / 512, by omega⟩ i ⟨4096 + t.val, by omega⟩
        = Real.exp (score (A.query b ⟨k.val / 128, by omega⟩ i) (A.ctxK b t ⟨k.val / 512, by omega⟩)) := fun t => by
      rw [hh]
      refine (dif_neg (by show ¬ 4096 + t.val < 4096; omega)).trans ((dif_pos (by show 4096 + t.val - 4096 < 512; omega)).trans ?_)
      rw [show (⟨(4096 + t.val) - 4096, by omega⟩ : Fin 512) = t from Fin.ext (by show 4096 + t.val - 4096 = _; omega)]
    have hws : weights A b ⟨k.val / 512 * 4 + k.val / 128 % 4, by omega⟩ ⟨k.val / 512, by omega⟩ i ⟨4608, by omega⟩ = Real.exp (A.sink ⟨k.val / 128, by omega⟩) := by
      rw [hh]; exact (dif_neg (by show ¬ 4608 < 4096; omega)).trans (dif_neg (by show ¬ 4608 - 4096 < 512; omega))
    rw [sum_all]
    simp only [hw, hwc, hws]
    refine congrArg₂ (· + ·) (Finset.sum_congr rfl fun j _ => ?_) (Finset.sum_congr rfl fun t _ => mul_comm _ _)
    unfold Arrays.value
    simp only [Nat.add_assoc]
    exact mul_comm _ _
  · intro j
    unfold Arrays.weight
    split_ifs
    · exact (Real.exp_pos _).le
    · exact le_rfl

end Cert.ReferenceIdeal.Swa
-- ==== Proof.Swa.Equal.lean ====
/-
  The window attention's kernel and its reference compute one array.
-/
module

public import proofs.«01_k».proof.Defs
public import proofs.«01_k».proof.Proof.Swa.Array
public import proofs.«01_k».proof.Proof.Swa.Reference
public import proofs.«01_k».proof.Proof.Gen.KernelIdeal.Value
public import proofs.«01_k».proof.Proof.Gen.ReferenceIdeal
public import proofs.«01_k».proof.Proof.Gen.Pre_finite
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Swa

/-- A number whose size is below `⊤` is real. -/
theorem real_of_below (x : EReal) (h : Ideal.cmp .olt (max x (-x)) (Ideal.ofBits .f32 2139095040#32) = 1#1) : ∃ r : ℝ, x = (r : EReal) := by
  rw [show Ideal.ofBits .f32 2139095040#32 = ⊤ from by simp [Ideal.ofBits, Ideal.ieee]] at h
  have hlt : max x (-x) < ⊤ := by
    by_contra hn
    simp [Ideal.cmp, hn] at h
  have h1 := lt_of_le_of_lt (le_max_left x (-x)) hlt
  have h2 := lt_of_le_of_lt (le_max_right x (-x)) hlt
  refine ⟨x.toReal, (EReal.coe_toReal h1.ne fun hb => ?_).symm⟩
  rw [hb] at h2
  exact absurd h2 (by simp)

/-- The stated precondition: every argument is real. -/
theorem finite_of (x0 : Vec Ideal Pre_finite.S8x4096x5632 .bf16) (x1 x2 : Vec Ideal Pre_finite.S8x2x512x2x128 .f32) (x3 : Vec Ideal Pre_finite.S8 .f32)
    (x4 x5 : Vec Ideal Pre_finite.S4096x2x32 .f32)
    (h : haveI := Cert.Pre_finite.Gen.facts; Cert.Pre_finite.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  replace h := congrFun h ix0
  dsimp only [Cert.Pre_finite.fn, Cert.Pre_finite.fn_part1] at h
  simp only [andi, IntOp.andi_eq_one] at h
  obtain ⟨⟨⟨⟨⟨h0, h1⟩, h2⟩, h3⟩, h4⟩, h5⟩ := h
  haveI : Subsingleton Pre_finite.S_.Idx := ⟨fun a b => funext fun k => k.elim0⟩
  exact ⟨fun i => real_of_below _ (Host.reduce_andi_all _ _ _ _ _ h0 i), fun i => real_of_below _ (Host.reduce_andi_all _ _ _ _ _ h1 i),
    fun i => real_of_below _ (Host.reduce_andi_all _ _ _ _ _ h2 i), fun i => real_of_below _ (Host.reduce_andi_all _ _ _ _ _ h3 i),
    fun i => real_of_below _ (Host.reduce_andi_all _ _ _ _ _ h4 i), fun i => real_of_below _ (Host.reduce_andi_all _ _ _ _ _ h5 i)⟩

/-- The frame of the reference. -/
theorem frame_reference : haveI := Cert.ReferenceIdeal.Gen.facts; Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants have the stated values. -/
theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl⟩

/-- From arguments that agree and are real, the kernel and the reference end with one array. -/
theorem algebraic : haveI := Cert.KernelIdeal.Gen.facts; haveI := Cert.ReferenceIdeal.Gen.facts; haveI := Cert.Pre_finite.Gen.facts
    Cert.algebraic_KernelIdeal_ReferenceIdeal_pre_finite := by
  intro m ρ m' ρ' hpre hagree
  have hf : ∀ c, Cert.KernelIdeal.Swa.Finite m c := fun c => by
    obtain ⟨h0, h1, h2, h3, h4, h5⟩ := finite_of _ _ _ _ _ _ (hpre c)
    exact ⟨h0, h1, h2, h3, h4, h5⟩
  refine ⟨fun c => fun y : Cert.KernelIdeal.S8x4096x1024.Idx => (Cert.KernelIdeal.Swa.result (Cert.KernelIdeal.Swa.arrays m c) (y 0) (y 1) (y 2) : EReal), ?_, ?_⟩
  · exact (θ_run Cert.KernelIdeal.defs _ _).mono (fun r h c => ⟨(h c).1.trans (Cert.KernelIdeal.Swa.final m c (hf c)), (h c).2⟩)
      (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    refine (Cert.ReferenceIdeal.Read.val_main_v127_eq (F := Ideal) (StableHlo.launchContents m' c)).trans ?_
    rw [StableHlo.launchContents_devRef, StableHlo.launchContents_devRef, StableHlo.launchContents_devRef, StableHlo.launchContents_devRef,
      StableHlo.launchContents_devRef, StableHlo.launchContents_devRef]
    obtain ⟨e0, e1, e2, e3, e4, e5⟩ := hagree c
    funext y
    refine (congrArg (Cert.ReferenceIdeal.Read.val_main_v127 (F := Ideal) _ _ _ _ _ _) (eq_ix3 y)).trans
      (Cert.ReferenceIdeal.Swa.result_apply (A := Cert.KernelIdeal.Swa.arrays m c) ?_ (y 0) (y 1) (y 2))
    exact ⟨fun b i k => (congrFun e0 _).trans (Cert.KernelIdeal.Swa.real_eq ((hf c).qkv _)),
      fun b t g l => (congrFun e1 _).trans (Cert.KernelIdeal.Swa.real_eq ((hf c).ctxK _)),
      fun b t g l => (congrFun e2 _).trans (Cert.KernelIdeal.Swa.real_eq ((hf c).ctxV _)),
      fun h => (congrFun e3 _).trans (Cert.KernelIdeal.Swa.real_eq ((hf c).sink _)),
      fun i r l => (congrFun e4 _).trans (Cert.KernelIdeal.Swa.real_eq ((hf c).cos _)),
      fun i r l => (congrFun e5 _).trans (Cert.KernelIdeal.Swa.real_eq ((hf c).sin _))⟩

end Cert.Swa
-- ==== Proof.Up.Setup.lean ====
/-
  The first half of the feed-forward layer, which of its three cases a grid point takes, and the
  buffers its body is given.

  The grid is 32 row tiles by 22 column tiles, run row tile by row tile. The body has three
  conditions. At the first column tile it fills a scratch buffer with the rows of the row tile and
  their two neighbours. At the column tiles 0 to 20 it computes a whole output block of two halves.
  At the last column tile, where only half a block lies inside the array, it computes the first half.
-/
module

public import proofs.«01_k».proof.Proof.Gen.Kernel3Ideal.Frame
public import proofs.«01_k».proof.Proof.Gen.Kernel3Ideal.Skeleton
public import Idealize.ShloMosaic.Lib.Ring
public import Idealize.ShloMosaic.Lib.WordCmp

@[expose] public section

set_option maxRecDepth 16384

noncomputable section

namespace Cert.Kernel3Ideal.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body fills the scratch buffer. -/
abbrev cond0_0 (i : grid0.Coords) : Prop := (Scalar.cmpi .ne (Scalar.extui (Scalar.cmpi .eq (BitVec.ofNat 32 (i 1).val) 0#32)) 0#32) = 1#1
/-- It holds at the first column tile of every row tile. -/
theorem hcond0_0 : ∀ t : Fin cfg0.N, cond0_0 (grid0.coords t) ↔ t.val % 22 = 0 :=
  (fun t => by
    have ht : t.val < 704 := Nat.lt_of_lt_of_eq t.isLt N_0
    have e0 : (grid0.coords t 0).val = t.val / 22 % 32 := Pipeline.Grid.coords_val t 0 (by decide) rfl
    have e1 : (grid0.coords t 1).val = t.val / 1 % 22 := Pipeline.Grid.coords_val t 1 (by decide) rfl
    simp only [cond0_0, e0, e1]
    word_cmp
   : ∀ t : Fin grid0.N, cond0_0 (grid0.coords t) ↔ t.val % 22 = 0)

/-- The condition under which the body computes a whole block. -/
abbrev cond0_1 (i : grid0.Coords) : Prop := k0_cond2 i = 1#1
/-- It holds at every column tile but the last. -/
theorem hcond0_1 : ∀ t : Fin cfg0.N, cond0_1 (grid0.coords t) ↔ t.val % 22 ≤ 20 :=
  (by decide +kernel : ∀ t : Fin grid0.N, cond0_1 (grid0.coords t) ↔ t.val % 22 ≤ 20)

/-- The condition under which the body computes half a block. -/
abbrev cond0_2 (i : grid0.Coords) : Prop := k0_cond3 i = 1#1
/-- It holds at the last column tile. -/
theorem hcond0_2 : ∀ t : Fin cfg0.N, cond0_2 (grid0.coords t) ↔ t.val % 22 = 21 :=
  (fun t => by
    have ht : t.val < 704 := Nat.lt_of_lt_of_eq t.isLt N_0
    have e0 : (grid0.coords t 0).val = t.val / 22 % 32 := Pipeline.Grid.coords_val t 0 (by decide) rfl
    have e1 : (grid0.coords t 1).val = t.val / 1 % 22 := Pipeline.Grid.coords_val t 1 (by decide) rfl
    simp only [cond0_2, k0_cond3, e0, e1]
    word_cmp
   : ∀ t : Fin grid0.N, cond0_2 (grid0.coords t) ↔ t.val % 22 = 21)

/-! The staging buffer each window uses at a point, a whole buffer. -/

abbrev ms0_0 (t : Fin cfg0.N) : Memref sig .tc .vmem S16x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x512 .bf16 := win0_12.stage (cfg0.slots t 12)
abbrev hs0_12 (t : Fin cfg0.N) : (ms0_12 t).IsWhole := hstage0_12 ((cfg0.slots t 12).cast nbuf0_12)

/-- The scratch buffer the row tile and its neighbouring rows are kept in. -/
abbrev scM0_0 : Memref sig .tc .vmem S1040x4096 .bf16 := Memref.whole cc0_scratch0

/-- One view of the output's staging buffer, and one of the scratch buffer: what the stores leave is
    read back through them. -/
abbrev VO0_12 : View sig .tc .vmem S1024x512 .bf16 := (Memref.whole cc0_stg12_0 : Memref sig .tc .vmem S1024x512 .bf16).view
abbrev VS0_0 : View sig .tc .vmem S1040x4096 .bf16 := scM0_0.view

/-- What the region holds between points: the scratch buffer at some contents and the random state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel3Ideal.Up

end
-- ==== Proof.Up.RunA.lean ====
/-
  The body at the first column tile of a row tile: it fills the scratch buffer and computes a whole block.
-/
module

public import proofs.«01_k».proof.Proof.Up.Setup

@[expose] public section

set_option maxRecDepth 16384

noncomputable section

namespace Cert.Kernel3Ideal.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores of the body at the first column tile of a row tile: it fills the scratch buffer and computes a whole block.
    Given are the pieces they leave in the output's buffer and in the scratch buffer, the last first, with the
    proof that the body, from its inputs at any contents, runs to those. -/
noncomputable def runA (c : Dev nD) (i : grid0.Coords) (arg2 : Memref sig .tc .vmem S16x4096 .bf16) (harg2 : arg2.IsWhole) (arg3 : Memref sig .tc .vmem S1024x4096 .bf16) (harg3 : arg3.IsWhole) (arg4 : Memref sig .tc .vmem S16x4096 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1024x512 .bf16) (harg14 : arg14.IsWhole) (arg15 : Memref sig .tc .vmem S1040x4096 .bf16) (harg15 : arg15.IsWhole) (hc0 : cond0_0 i) (hc1 : cond0_1 i) (hc2 : ¬cond0_2 i)
    (x0 : Vec F S16x4096 .bf16) (x1 : Vec F S1024x4096 .bf16) (x2 : Vec F S16x4096 .bf16) (x3 : Vec F S4096x512 .bf16) (x4 : Vec F S3x512 .f32) (x5 : Vec F S1x512 .f32) (x6 : Vec F S4096x256 .bf16) (x7 : Vec F S4096x256 .bf16) (x8 : Vec F S3x256 .f32) (x9 : Vec F S3x256 .f32) (x10 : Vec F S1x256 .f32) (x11 : Vec F S1x256 .f32) :
    Σ' (L12 : List (View.Piece (Elt F) S1024x512 .bf16)), { LS0 : List (View.Piece (Elt F) S1040x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_ffn_up_eq_skeleton]; unfold cc0_ffn_up_skel
    simp only [k0_part1_eq_skeleton, k0_part4_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; iexact HS0

end Cert.Kernel3Ideal.Up

end
-- ==== Proof.Up.RunB.lean ====
/-
  The body at a column tile that is neither the first nor the last: it computes a whole block from the scratch buffer.
-/
module

public import proofs.«01_k».proof.Proof.Up.RunA

@[expose] public section

set_option maxRecDepth 16384

noncomputable section

namespace Cert.Kernel3Ideal.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores of the body at a column tile that is neither the first nor the last: it computes a whole block from the scratch buffer.
    Given are the pieces they leave in the output's buffer, the last first, with the
    proof that the body, from its inputs at any contents, runs to those. -/
noncomputable def runB (c : Dev nD) (i : grid0.Coords) (arg2 : Memref sig .tc .vmem S16x4096 .bf16) (harg2 : arg2.IsWhole) (arg3 : Memref sig .tc .vmem S1024x4096 .bf16) (harg3 : arg3.IsWhole) (arg4 : Memref sig .tc .vmem S16x4096 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1024x512 .bf16) (harg14 : arg14.IsWhole) (arg15 : Memref sig .tc .vmem S1040x4096 .bf16) (harg15 : arg15.IsWhole) (hc0 : ¬cond0_0 i) (hc1 : cond0_1 i) (hc2 : ¬cond0_2 i)
    (x0 : Vec F S16x4096 .bf16) (x1 : Vec F S1024x4096 .bf16) (x2 : Vec F S16x4096 .bf16) (x3 : Vec F S4096x512 .bf16) (x4 : Vec F S3x512 .f32) (x5 : Vec F S1x512 .f32) (x6 : Vec F S4096x256 .bf16) (x7 : Vec F S4096x256 .bf16) (x8 : Vec F S3x256 .f32) (x9 : Vec F S3x256 .f32) (x10 : Vec F S1x256 .f32) (x11 : Vec F S1x256 .f32) (xs0 : Vec F S1040x4096 .bf16) :
    { L12 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare xs0) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_ffn_up_eq_skeleton]; unfold cc0_ffn_up_skel
    simp only [k0_part4_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; isplitr; · ipureintro; exact harg15.read_unread _
    iexact HS0

end Cert.Kernel3Ideal.Up

end
-- ==== Proof.Up.RunC.lean ====
/-
  The body at the last column tile: it computes the first half of a block from the scratch buffer.
-/
module

public import proofs.«01_k».proof.Proof.Up.RunB

@[expose] public section

set_option maxRecDepth 16384

noncomputable section

namespace Cert.Kernel3Ideal.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores of the body at the last column tile: it computes the first half of a block from the scratch buffer.
    Given are the pieces they leave in the output's buffer, the last first, with the
    proof that the body, from its inputs at any contents, runs to those. -/
noncomputable def runC (c : Dev nD) (i : grid0.Coords) (arg2 : Memref sig .tc .vmem S16x4096 .bf16) (harg2 : arg2.IsWhole) (arg3 : Memref sig .tc .vmem S1024x4096 .bf16) (harg3 : arg3.IsWhole) (arg4 : Memref sig .tc .vmem S16x4096 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1024x512 .bf16) (harg14 : arg14.IsWhole) (arg15 : Memref sig .tc .vmem S1040x4096 .bf16) (harg15 : arg15.IsWhole) (hc0 : ¬cond0_0 i) (hc1 : ¬cond0_1 i) (hc2 : cond0_2 i)
    (x0 : Vec F S16x4096 .bf16) (x1 : Vec F S1024x4096 .bf16) (x2 : Vec F S16x4096 .bf16) (x3 : Vec F S4096x512 .bf16) (x4 : Vec F S3x512 .f32) (x5 : Vec F S1x512 .f32) (x6 : Vec F S4096x256 .bf16) (x7 : Vec F S4096x256 .bf16) (x8 : Vec F S3x256 .f32) (x9 : Vec F S3x256 .f32) (x10 : Vec F S1x256 .f32) (x11 : Vec F S1x256 .f32) (xs0 : Vec F S1040x4096 .bf16) :
    { L12 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ owns (c : Thread nD τ) arg15 fullShare xs0) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_ffn_up_eq_skeleton]; unfold cc0_ffn_up_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; isplitr; · ipureintro; exact harg15.read_unread _
    iexact HS0

end Cert.Kernel3Ideal.Up

end
-- ==== Proof.Up.Frame.lean ====
/-
  What the stores leave in the output's buffer and in the scratch buffer at each grid point, and the
  run of the whole grid with them.
-/
module

public import proofs.«01_k».proof.Proof.Up.RunC
public import Idealize.ShloMosaic.Lib.Claim

@[expose] public section

set_option maxRecDepth 16384

noncomputable section

namespace Cert.Kernel3Ideal.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first column tile, on the buffers and blocks of the point. -/
abbrev atA (c : Dev nD) (t : Fin cfg0.N) (h0 : t.val % 22 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr (by omega)) (fun h => by have := (hcond0_2 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What it leaves in the output's buffer. -/
def outA (c : Dev nD) (t : Fin cfg0.N) (h0 : t.val % 22 = 0) : Vec F S1024x512 .bf16 :=
  VO0_12.read (Elt F) (VO0_12.writes (Elt F) VO0_12.junk (atA m c t h0).1)

/-- The body's run at a middle column tile, on the buffers and blocks of the point. -/
abbrev atB (c : Dev nD) (t : Fin cfg0.N) (h0 : ¬t.val % 22 = 0) (h2 : ¬t.val % 22 = 21) (xs0 : Vec F S1040x4096 .bf16) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr (by omega)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0

/-- What it leaves in the output's buffer. -/
def outB (c : Dev nD) (t : Fin cfg0.N) (h0 : ¬t.val % 22 = 0) (h2 : ¬t.val % 22 = 21) (xs0 : Vec F S1040x4096 .bf16) : Vec F S1024x512 .bf16 :=
  VO0_12.read (Elt F) (VO0_12.writes (Elt F) VO0_12.junk (atB m c t h0 h2 xs0).1)

/-- The body's run at the last column tile, on the buffers and blocks of the point. -/
abbrev atC (c : Dev nD) (t : Fin cfg0.N) (h2 : t.val % 22 = 21) (xs0 : Vec F S1040x4096 .bf16) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => by have := (hcond0_0 t).mp h; omega) (fun h => by have := (hcond0_1 t).mp h; omega) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0

/-- What it leaves in the output's buffer. -/
def outC (c : Dev nD) (t : Fin cfg0.N) (h2 : t.val % 22 = 21) (xs0 : Vec F S1040x4096 .bf16) : Vec F S1024x512 .bf16 :=
  VO0_12.read (Elt F) (VO0_12.writes (Elt F) VO0_12.junk (atC m c t  h2 xs0).1)

/-- What the first column tile leaves in the scratch buffer. -/
def lhsFrom (c : Dev nD) (t : Fin cfg0.N) (h0 : t.val % 22 = 0) : Vec F S1040x4096 .bf16 :=
  VS0_0.read (Elt F) (VS0_0.writes (Elt F) VS0_0.junk (atA m c t h0).2.1)

theorem lhsFrom_congr (c : Dev nD) {t t' : Fin cfg0.N} (e : t = t') (h : t.val % 22 = 0) (h' : t'.val % 22 = 0) :
    lhsFrom m c t h = lhsFrom m c t' h' := by subst e; rfl

/-- The two halves cover the block, at the first column tile … -/
theorem coverA (c : Dev nD) (t : Fin cfg0.N) (h0 : t.val % 22 = 0) (y : S1024x512.Idx) :
    ∃ pc ∈ (atA m c t h0).1, y ∈ pc.1.set :=
  View.cover_of_tiledL (atA m c t h0).1 S1024x256.size (by sl_kernel_rfl) y

/-- … and at a middle one. -/
theorem coverB (c : Dev nD) (t : Fin cfg0.N) (h0 : ¬t.val % 22 = 0) (h2 : ¬t.val % 22 = 21) (xs0 : Vec F S1040x4096 .bf16) (y : S1024x512.Idx) :
    ∃ pc ∈ (atB m c t h0 h2 xs0).1, y ∈ pc.1.set :=
  View.cover_of_tiledL (atB m c t h0 h2 xs0).1 S1024x256.size (by sl_kernel_rfl) y

/-- The rows of the tile and their neighbours cover the scratch buffer. -/
theorem scoverA (c : Dev nD) (t : Fin cfg0.N) (h0 : t.val % 22 = 0) (y : S1040x4096.Idx) :
    ∃ pc ∈ (atA m c t h0).2.1, y ∈ pc.1.set :=
  View.cover_of_tiledBy (atA m c t h0).2.1 ![16, 4096] (by sl_kernel_rfl) y

/-- The first point of the row tile a point is in. -/
def rowPt (t : Fin cfg0.N) : Fin cfg0.N := ⟨t.val - t.val % 22, lt_of_le_of_lt (Nat.sub_le _ _) t.isLt⟩

theorem rowPt_mod (t : Fin cfg0.N) : (rowPt t).val % 22 = 0 := by
  show (t.val - t.val % 22) % 22 = 0
  omega

/-- The scratch buffer during a row tile: what its first column tile left. -/
def lhsAt (c : Dev nD) (t : Fin cfg0.N) : Vec F S1040x4096 .bf16 := lhsFrom m c (rowPt t) (rowPt_mod t)

theorem lhsAt_first (c : Dev nD) (t : Fin cfg0.N) (h0 : t.val % 22 = 0) : lhsAt m c t = lhsFrom m c t h0 :=
  lhsFrom_congr m c (Fin.ext (by show t.val - t.val % 22 = t.val; omega)) _ _

theorem lhsAt_prev (c : Dev nD) (t : Fin cfg0.N) (h0 : ¬t.val % 22 = 0) (h : t.val - 1 < cfg0.N) :
    lhsAt m c ⟨t.val - 1, h⟩ = lhsAt m c t :=
  lhsFrom_congr m c (Fin.ext (by show t.val - 1 - (t.val - 1) % 22 = t.val - t.val % 22; omega)) _ _

/-- What a point leaves in the output's buffer. -/
def blockAt (c : Dev nD) (t : Fin cfg0.N) : Vec F S1024x512 .bf16 :=
  if h0 : t.val % 22 = 0 then outA m c t h0
  else if h2 : t.val % 22 = 21 then outC m c t h2 (lhsAt m c t)
  else outB m c t h0 h2 (lhsAt m c t)

theorem blockAt_A (c : Dev nD) (t : Fin cfg0.N) (h0 : t.val % 22 = 0) : blockAt m c t = outA m c t h0 := dif_pos h0

theorem blockAt_C (c : Dev nD) (t : Fin cfg0.N) (h2 : t.val % 22 = 21) : blockAt m c t = outC m c t h2 (lhsAt m c t) :=
  (dif_neg (by omega)).trans (dif_pos h2)

theorem blockAt_B (c : Dev nD) (t : Fin cfg0.N) (h0 : ¬t.val % 22 = 0) (h2 : ¬t.val % 22 = 21) :
    blockAt m c t = outB m c t h0 h2 (lhsAt m c t) :=
  (dif_neg h0).trans (dif_neg h2)

/-- What holds between points: before the first the scratch buffer at anything, afterwards at the row
    tile's rows. -/
def PhiS (c : Dev nD) : (n : ℕ) → n ≤ cfg0.N → sProp 𝕄
  | 0, _ => Pipeline.ΦA spec0 c
  | n + 1, hn => iprop(iprop(owns (c : Thread nD τ) scM0_0 fullShare (lhsAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (lhsAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (lhsAt m c ⟨n - 1, by omega⟩)) ∗ (∃ r, prngReg c r)) := by
  cases n with
  | zero => exact absurd rfl hz
  | succ n => rfl

/-- The contents the run is proved with: every array as the region finds it, every input's buffer at its
    block, the output's at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => blockAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = blockAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is run from at a point … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- … and what it returns: the output's buffer is what it should be on the part of the block that lies
    inside the array. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare ((cfg0.win 12).fill (grid0.coords t) d ((cfg0.win 12).cut (grid0.coords t) ((dats m 0 c).after 12 t)))))

/-- At the last column tile only 256 of a block's 512 columns lie inside the array. -/
theorem xsize_last : ∀ t : Fin cfg0.N, t.val % 22 = 21 → (cfg0.win 12).xsize (grid0.coords t) 1 = 256 :=
  (by decide +kernel : ∀ t : Fin grid0.N, t.val % 22 = 21 → (cfg0.win 12).xsize (grid0.coords t) 1 = 256)

/-- What the body stores there covers those. -/
theorem coverC (c : Dev nD) (t : Fin cfg0.N) (h2 : t.val % 22 = 21) (xs0 : Vec F S1040x4096 .bf16) (y : S1024x512.Idx)
    (hy : (y 1).val < 256) : ∃ pc ∈ (atC m c t h2 xs0).1, y ∈ pc.1.set := by
  unfold atC runC
  dsimp only
  refine ⟨_, List.mem_singleton.mpr rfl, ?_⟩
  dsimp only
  rw [Rect.mem_set_unit]
  intro a
  match a with
  | ⟨0, _⟩ => exact ⟨Nat.zero_le _, (y 0).isLt⟩
  | ⟨1, _⟩ => exact ⟨Nat.zero_le _, hy⟩

/-- Contents that agree with the point's block on the part inside the array are a filling of it. -/
theorem fill_of_agree (c : Dev nD) (t : Fin cfg0.N) (X : Vec F S1024x512 .bf16)
    (h : ∀ j, (cfg0.win 12).cut (grid0.coords t) X j = (cfg0.win 12).cut (grid0.coords t) (blockAt m c t) j) :
    (cfg0.win 12).fill (grid0.coords t) X ((cfg0.win 12).cut (grid0.coords t) (blockAt m c t)) = X := by
  rw [← (funext h : (cfg0.win 12).cut (grid0.coords t) X = _)]
  exact (cfg0.win 12).fill_cut _ _

theorem fillA (c : Dev nD) (t : Fin cfg0.N) (h0 : t.val % 22 = 0) (f) :
    (cfg0.win 12).fill (grid0.coords t) ((ms0_12 t).view.read (Elt F) ((ms0_12 t).view.writes (Elt F) f (atA m c t h0).1))
        ((cfg0.win 12).cut (grid0.coords t) (blockAt m c t))
      = (ms0_12 t).view.read (Elt F) ((ms0_12 t).view.writes (Elt F) f (atA m c t h0).1) := by
  refine fill_of_agree m c t _ fun j => ?_
  rw [blockAt_A m c t h0, outA, View.read_writes_of_cover _ _ VO0_12 VO0_12.junk _ (coverA m c t h0)]

theorem fillB (c : Dev nD) (t : Fin cfg0.N) (h0 : ¬t.val % 22 = 0) (h2 : ¬t.val % 22 = 21) (f) :
    (cfg0.win 12).fill (grid0.coords t) ((ms0_12 t).view.read (Elt F) ((ms0_12 t).view.writes (Elt F) f (atB m c t h0 h2 (lhsAt m c t)).1))
        ((cfg0.win 12).cut (grid0.coords t) (blockAt m c t))
      = (ms0_12 t).view.read (Elt F) ((ms0_12 t).view.writes (Elt F) f (atB m c t h0 h2 (lhsAt m c t)).1) := by
  refine fill_of_agree m c t _ fun j => ?_
  rw [blockAt_B m c t h0 h2, outB, View.read_writes_of_cover _ _ VO0_12 VO0_12.junk _ (coverB m c t h0 h2 _)]

theorem fillC (c : Dev nD) (t : Fin cfg0.N) (h2 : t.val % 22 = 21) (f) :
    (cfg0.win 12).fill (grid0.coords t) ((ms0_12 t).view.read (Elt F) ((ms0_12 t).view.writes (Elt F) f (atC m c t h2 (lhsAt m c t)).1))
        ((cfg0.win 12).cut (grid0.coords t) (blockAt m c t))
      = (ms0_12 t).view.read (Elt F) ((ms0_12 t).view.writes (Elt F) f (atC m c t h2 (lhsAt m c t)).1) := by
  refine fill_of_agree m c t _ fun j => ?_
  rw [blockAt_C m c t h2, outC]
  refine View.read_writes_apply_eq _ _ _ _ _ _ (coverC m c t h2 _ _ ?_)
  exact lt_of_lt_of_eq (j 1).isLt (xsize_last t h2)

set_option maxHeartbeats 9600000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 704 := lt_of_lt_of_eq t.isLt (show cfg0.N = 704 from N_0)
  by_cases h0 : t.val % 22 = 0
  · by_cases hz : t.val = 0
    · rw [PhiS_castSucc m c t, PhiS_zero m c _ _ hz, PhiA0_eq]
      rw [lhsAt_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((atA m c t h0).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; unfold owns; iexists _; isplitr
      swap; · iexact H12
      ipureintro; exact (fillA m c t h0 _).symm
    · rw [PhiS_castSucc m c t, PhiS_pos m c _ _ hz]
      rw [lhsAt_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((atA m c t h0).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexists _; iexact HS0
      iintro ⟨H0, H1, H2, H3, H4, H5, H6, H7, H8, H9, H10, H11, ⟨%e12, H12⟩, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; unfold owns; iexists _; isplitr
      swap; · iexact H12
      ipureintro; exact (fillA m c t h0 _).symm
  · have hz : t.val ≠ 0 := fun e => h0 (by rw [e])
    by_cases h2 : t.val % 22 = 21
    · rw [PhiS_castSucc m c t, PhiS_pos m c _ _ hz]
      rw [lhsAt_prev m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((atC m c t h2 (lhsAt m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; unfold owns; iexists _; isplitr
      swap; · iexact H12
      ipureintro; exact (fillC m c t h2 _).symm
    · rw [PhiS_castSucc m c t, PhiS_pos m c _ _ hz]
      rw [lhsAt_prev m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((atB m c t h0 h2 (lhsAt m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; unfold owns; iexists _; isplitr
      swap; · iexact H12
      ipureintro; exact (fillB m c t h0 h2 _).symm

theorem defs₀_row (t : Fin cfg0.N) :
    defs₀ (F := F) .tc cfg0.body (cfg0.bodyArgs t (cfg0.slots t)) = bodyAt0 t := by
  unfold defs₀; rw [Defs.onTc_tc]

/-- Of the output only the part inside the array is asked for. -/
theorem loose12 : cfg0.loose 12 = true := rfl

/-- Every point writes to the output. -/
theorem idle12 : ∀ t : Fin cfg0.N, idle0 12 (grid0.coords t) = false :=
  (by decide +kernel : ∀ t : Fin grid0.N, idle0 12 (grid0.coords t) = false)

theorem body_obligation (c : Dev nD) : BodyObligationLoose (dats (F := F) m 0 c) (defs₀ (F := F)) Variants.none () Set.univ := fun t => by
  rw [bigSep_W0, bigSep_W0, defs₀_row]
  simp only [loose12, idle12]
  refine triple_restated (sound_body m c t) rfl .rfl fun _ => ?_
  unfold bodyPost
  rw [idle12 t]
  iintro H; iexact H

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 704 := N_0; omega)

set_option backward.isDefEq.respectTransparency.types false in
/-- The run of the grid: it ends with every array at what the blocks written make of it, and with no
    semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged by the run … -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- … and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel3Ideal.Up

end
-- ==== Proof.Words.Up.lean ====
/-
  The run of the up-projection on words. Its text is the one read over the extended reals,
  and the run of that text is proved for any reading of the floats: here it is taken over. The two body tables are
  compared label by label.
-/
module

public import proofs.«01_k».proof.Proof.Up.Frame
public import proofs.«01_k».proof.Proof.Gen.Kernel3.Frame
public import Idealize.ShloMosaic.Lib.Claim

@[expose] public section

set_option maxRecDepth 16384

noncomputable section

namespace Cert.Kernel3.Up

open Cert.Kernel3 Cert.Kernel3.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The kernel's body is the same under its label in both texts. -/
theorem bodies : defs₀ (F := F) = Cert.Kernel3Ideal.defs₀ (F := F) := by
  funext p l a
  cases p
  · match l, a with
    | 0, (t, s) => rfl
  · rfl
  · rfl

/-- So the body tables are equal. -/
theorem table : defs (F := F) = Cert.Kernel3Ideal.defs (F := F) :=
  congrArg (Pipeline.defs (pcfgs (F := F))) bodies

/-- The arguments are unchanged by the run, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table]
  exact Cert.Kernel3Ideal.Up.frame (F := F) m ρ

end Cert.Kernel3.Up

end
-- ==== Proof.Up.Spec.lean ====
/-
  The gated projection as a function of its arguments: an up-projection, a depthwise convolution over three rows of a
  sequence, and a gate.
-/
module

public import Idealize.ShloMosaic.PureOps.Ideal

@[expose] public section

noncomputable section

open Idealize.ShloMosaic

namespace Cert.Up

/-- A number times its logistic. -/
def silu (x : EReal) : EReal := x * Ideal.logistic x

/-- A row of tokens against a column of weights. -/
def dot (a w : Fin 4096 → EReal) : EReal := ∑ l, a l * w l

/-- The three taps' sum and the bias. -/
def taps (before at' after : EReal) (cw : Fin 3 → EReal) (cb : EReal) : EReal :=
  before * cw 0 + at' * cw 1 + after * cw 2 + cb

/-- The arguments: the tokens, the weights by column, the taps by column and the biases. -/
structure Arrays where
  tokens : Fin 32768 → Fin 4096 → EReal
  weight : Fin 22016 → Fin 4096 → EReal
  tap : Fin 22016 → Fin 3 → EReal
  bias : Fin 22016 → EReal

namespace Arrays
variable (A : Arrays)

/-- The projection of the row before, zero at a sequence's first row. -/
def before (i : Fin 32768) (q : Fin 22016) : EReal :=
  if i.val % 4096 = 0 then 0 else dot (A.tokens ⟨i.val - 1, by omega⟩) (A.weight q)

/-- The projection of the row after, zero at a sequence's last row. -/
def after (i : Fin 32768) (q : Fin 22016) : EReal :=
  if h : i.val % 4096 = 4095 then 0 else dot (A.tokens ⟨i.val + 1, by omega⟩) (A.weight q)

/-- The convolved projection. -/
def conv (i : Fin 32768) (q : Fin 22016) : EReal :=
  taps (A.before i q) (dot (A.tokens i) (A.weight q)) (A.after i q) (A.tap q) (A.bias q)

/-- The result: the first half of the columns gates the second. -/
def result (i : Fin 32768) (q : Fin 11008) : EReal :=
  silu (A.conv i ⟨q.val, by omega⟩) * A.conv i ⟨11008 + q.val, by omega⟩

end Arrays
end Cert.Up
-- ==== Proof.Up.Tile.lean ====
/-
  The gated projection's half blocks, read one element at a time over the extended reals.
-/
module

public import proofs.«01_k».proof.Proof.Gen.Kernel3Ideal.Skeleton
public import proofs.«01_k».proof.Proof.Up.Spec
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Kernel3Ideal.Up

open Cert.Kernel3Ideal Cert.Kernel3Ideal.Gen Cert.Up

/-- Row `r` of 1024, of its neighbours in the 1040 staged rows and column `k`: the three taps and the bias. -/
def tapsAt (lhs : Vec Ideal S1040x4096 .bf16) (w : Fin 4096 → EReal) (cw : Fin 3 → EReal) (cb : EReal) (r : Fin 1024) : EReal :=
  taps (dot (fun l => lhs (ix2 (⟨(r.val + 1039) % 1040, by omega⟩ : Fin 1040) l)) w) (dot (fun l => lhs (ix2 (⟨r.val, by omega⟩ : Fin 1040) l)) w)
    (dot (fun l => lhs (ix2 (⟨r.val + 1, by omega⟩ : Fin 1040) l)) w) cw cb

theorem silu_eq (x : EReal) : x * Ideal.div 1 (1 + Ideal.exp (0 - x)) = silu x := by
  rw [zero_sub]
  rfl

variable (lhs : Vec Ideal S1040x4096 .bf16) (w v : Vec Ideal S4096x256 .bf16) (cw cv : Vec Ideal S3x256 .f32) (cb bv : Vec Ideal S1x256 .f32)
  (r : Fin 1024) (k : Fin 256)

theorem taps_eq :
    (∑ x, lhs (ix2 (⟨(r.val + 1040 - 1) % 1040, by omega⟩ : Fin 1040) x) * w (ix2 x k)) * cw (ix2 0 k)
        + (∑ x, lhs (ix2 (⟨r.val, by omega⟩ : Fin 1040) x) * w (ix2 x k)) * cw (ix2 1 k)
        + (∑ x, lhs (ix2 (⟨(r.val + 1040 - 1039) % 1040, by omega⟩ : Fin 1040) x) * w (ix2 x k)) * cw (ix2 2 k) + cb (ix2 0 k)
      = tapsAt lhs (fun l => w (ix2 l k)) (fun a => cw (ix2 a k)) (cb (ix2 0 k)) r := by
  unfold tapsAt taps dot
  rw [show (⟨(r.val + 1040 - 1) % 1040, by omega⟩ : Fin 1040) = ⟨(r.val + 1039) % 1040, by omega⟩ from Fin.ext (by show (r.val + 1040 - 1) % 1040 = (r.val + 1039) % 1040; omega),
    show (⟨(r.val + 1040 - 1039) % 1040, by omega⟩ : Fin 1040) = ⟨r.val + 1, by omega⟩ from Fin.ext (by show (r.val + 1040 - 1039) % 1040 = r.val + 1; omega)]

/-- The gate of the first half block. -/
theorem pay7_apply : k0_pay7 w cw cb lhs (ix2 r k) = silu (tapsAt lhs (fun l => w (ix2 l k)) (fun a => cw (ix2 a k)) (cb (ix2 0 k)) r) := by
  pointwise [k0_pay7]
  rw [taps_eq]
  exact silu_eq _

/-- The gate of the second half block. -/
theorem pay10_apply : k0_pay10 (k0_pay8 w) cw (k0_pay9 cb) lhs (ix2 r k) = silu (tapsAt lhs (fun l => w (ix2 l k)) (fun a => cw (ix2 a k)) (cb (ix2 0 k)) r) := by
  pointwise [k0_pay10, k0_pay8, k0_pay9]
  rw [taps_eq]
  exact silu_eq _

/-- The gate of the last half block. -/
theorem pay18_apply : k0_pay18 w cw cb lhs (ix2 r k) = silu (tapsAt lhs (fun l => w (ix2 l k)) (fun a => cw (ix2 a k)) (cb (ix2 0 k)) r) := by
  pointwise [k0_pay18]
  rw [taps_eq]
  exact silu_eq _

/-- The first half block: a gate times the value's taps. -/
theorem pay16_apply (g : FVec Ideal S1024x256 .f32) :
    k0_pay16 g cv (k0_pay11 bv) (k0_pay13 v lhs) (k0_pay14 v cv lhs) (k0_pay15 v lhs) (ix2 r k) = g (ix2 r k) * tapsAt lhs (fun l => v (ix2 l k)) (fun a => cv (ix2 a k)) (bv (ix2 0 k)) r := by
  pointwise [k0_pay16, k0_pay11, k0_pay13, k0_pay14, k0_pay15, k0_pay12]
  rw [taps_eq]

/-- The second half block. -/
theorem pay17_apply (g : FVec Ideal S1024x256 .f32) :
    k0_pay17 g v cv bv lhs (ix2 r k) = g (ix2 r k) * tapsAt lhs (fun l => v (ix2 l k)) (fun a => cv (ix2 a k)) (bv (ix2 0 k)) r := by
  pointwise [k0_pay17]
  rw [taps_eq]

/-- The last half block. -/
theorem pay2_apply (g : FVec Ideal S1024x256 .f32) :
    k0_pay2 g (k0_pay19 v) cv (k0_pay20 bv) lhs (ix2 r k) = g (ix2 r k) * tapsAt lhs (fun l => v (ix2 l k)) (fun a => cv (ix2 a k)) (bv (ix2 0 k)) r := by
  pointwise [k0_pay2, k0_pay19, k0_pay20]
  rw [taps_eq]

end Cert.Kernel3Ideal.Up
-- ==== Proof.Up.Block.lean ====
/-
  The block of the result that one grid point stores, of the rows staged and the blocks of weights loaded.
-/
module

public import proofs.«01_k».proof.Proof.Up.Frame
public import proofs.«01_k».proof.Proof.Up.Tile
public import Idealize.ShloMosaic.Lib.WholeRead
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem

namespace Cert.Kernel3Ideal.Up

open Cert.Kernel3Ideal Cert.Kernel3Ideal.Gen Cert.Up

/-- A load through a rectangle of a whole buffer, at an index. -/
theorem load {S : Shape} {e : EltTy} {M : Memref sig .tc .vmem S e} (h : M.IsWhole) (X : S.Idx → Elt Ideal e) (off size : Fin S.rank → ℕ) (inb)
    (x : (Rect.unit off size inb).shape.Idx) (i : S.Idx) (hi : ∀ a, (i a).val = off a + (x a).val) :
    View.readAt (Elt Ideal) M.view (Rect.unit off size inb).toLoadRect (h.unread X) x = X i :=
  (h.readAt_unread X _ x).trans (congrArg X (funext fun a => Fin.ext ((Rect.idx_unit_val off size inb x a).trans (hi a).symm)))

section
variable (lhs : Vec Ideal S1040x4096 .bf16) (w v : Vec Ideal S4096x256 .bf16) (cw cv : Vec Ideal S3x256 .f32) (cb bv : Vec Ideal S1x256 .f32)
  (r : Fin 1024) (k : Fin 256) (wg wv : Fin 4096 → EReal) (cg cvv : Fin 3 → EReal) (bg bvv : EReal)
  (hw : ∀ l, w (ix2 l k) = wg l) (hcw : ∀ a, cw (ix2 a k) = cg a) (hcb : cb (ix2 0 k) = bg)
  (hv : ∀ l, v (ix2 l k) = wv l) (hcv : ∀ a, cv (ix2 a k) = cvv a) (hbv : bv (ix2 0 k) = bvv)
include hw hcw hcb hv hcv hbv

/-- The first half block, of the columns it reads. -/
theorem half0 : k0_pay16 (k0_pay7 w cw cb lhs) cv (k0_pay11 bv) (k0_pay13 v lhs) (k0_pay14 v cv lhs) (k0_pay15 v lhs) (ix2 r k)
    = silu (tapsAt lhs wg cg bg r) * tapsAt lhs wv cvv bvv r := by
  rw [pay16_apply, pay7_apply, funext hw, funext hcw, hcb, funext hv, funext hcv, hbv]

/-- The second half block. -/
theorem half1 : k0_pay17 (k0_pay10 (k0_pay8 w) cw (k0_pay9 cb) lhs) v cv bv lhs (ix2 r k)
    = silu (tapsAt lhs wg cg bg r) * tapsAt lhs wv cvv bvv r := by
  rw [pay17_apply, pay10_apply, funext hw, funext hcw, hcb, funext hv, funext hcv, hbv]

/-- The last half block. -/
theorem half2 : k0_pay2 (k0_pay18 w cw cb lhs) (k0_pay19 v) cv (k0_pay20 bv) lhs (ix2 r k)
    = silu (tapsAt lhs wg cg bg r) * tapsAt lhs wv cvv bvv r := by
  rw [pay2_apply, pay18_apply, funext hw, funext hcw, hcb, funext hv, funext hcv, hbv]

end

variable (m : (ℓ : Loc nD τ sig) → Buf (Elt Ideal) ℓ) (c : Dev nD)

/-- Element `(r, k)` of a point's block, for the columns of taps and weights at hand: which of the two half blocks of
    values `k` is in says which buffers the value's column comes from. -/
structure Columns (t : Fin cfg0.N) (k : Fin 512) (wg wv : Fin 4096 → EReal) (cg cv : Fin 3 → EReal) (bg bv : EReal) : Prop where
  weight : ∀ l, iblk m c 3 t (ix2 l k) = wg l
  tap : ∀ a, iblk m c 4 t (ix2 a k) = cg a
  bias : iblk m c 5 t (ix2 (0 : Fin 1) k) = bg
  weight0 : ∀ k' : Fin 256, k.val = k'.val → ∀ l, iblk m c 6 t (ix2 l k') = wv l
  weight1 : ∀ k' : Fin 256, k.val = 256 + k'.val → ∀ l, iblk m c 7 t (ix2 l k') = wv l
  tap0 : ∀ k' : Fin 256, k.val = k'.val → ∀ a, iblk m c 8 t (ix2 a k') = cv a
  tap1 : ∀ k' : Fin 256, k.val = 256 + k'.val → ∀ a, iblk m c 9 t (ix2 a k') = cv a
  bias0 : ∀ k' : Fin 256, k.val = k'.val → iblk m c 10 t (ix2 (0 : Fin 1) k') = bv
  bias1 : ∀ k' : Fin 256, k.val = 256 + k'.val → iblk m c 11 t (ix2 (0 : Fin 1) k') = bv

/-- Two coordinates placed at an offset. -/
theorem placed {A B : ℕ} {off : Fin 2 → ℕ} {x : Fin 2 → ℕ} (p : Fin A) (q : Fin B) (h0 : p.val = off 0 + x 0) (h1 : q.val = off 1 + x 1) :
    ∀ a : Fin 2, ((ix2 p q : (⟨2, ![A, B]⟩ : Shape).Idx) a).val = off a + x a := fun a => by
  match a with
  | ⟨0, _⟩ => exact h0
  | ⟨1, _⟩ => exact h1

section
variable (t : Fin cfg0.N) (r : Fin 1024) (k : Fin 512) (wg wv : Fin 4096 → EReal) (cg cv : Fin 3 → EReal) (bg bv : EReal)
  (H : Columns m c t k wg wv cg cv bg bv)
include H

/-- The block stored at the first column tile of a row tile. -/
theorem outA_apply (h0 : t.val % 22 = 0) :
    outA m c t h0 (ix2 r k) = silu (tapsAt (lhsFrom m c t h0) wg cg bg r) * tapsAt (lhsFrom m c t h0) wv cv bv r := by
  have hc := coverA m c t h0 (ix2 r k)
  unfold outA
  rw [View.read_writes_junk_eq_canon]
  refine View.canon_eq_of_allAt _ _ _ hc ?_
  have hs : ∀ inb, VS0_0.readCov (atA m c t h0).2.1 (Rect.unit ![0, 0] S1040x4096.size inb).toLoadRect = lhsFrom m c t h0 :=
    fun inb => View.readAt_full _ _ inb
  generalize lhsFrom m c t h0 = lhs at hs ⊢
  unfold atA runA at hs ⊢
  dsimp only at hs ⊢
  unfold runA.sl.r_6 runA.sl.r_2 runA.sl.r_7 runA.sl.r_8 runA.sl.r_9 runA.sl.r_10 runA.sl.r_11 runA.sl.v14 runA.sl.r_3 runA.sl.r_4 runA.sl.r_5
  rw [hs]
  refine View.allAt_cons_unit _ _ _ _ _ (fun x hx => ?_) (View.allAt_cons_unit _ _ _ _ _ (fun x hx => ?_) (View.allAt_nil _ _))
  · have hk : k.val = 256 + (x 1).val := hx 1
    have hr : r = x 0 := Fin.ext ((hx 0).trans (Nat.zero_add _))
    refine (congrArg _ (eq_ix2 x)).trans ?_
    rw [hr]
    exact half1 _ _ _ _ _ _ _ (x 0) (x 1) _ _ _ _ _ _
      (fun l => (load _ _ _ _ _ _ (ix2 l k) (placed l k (Nat.zero_add _).symm hk)).trans (H.weight l))
      (fun a => (load _ _ _ _ _ _ (ix2 a k) (placed a k (Nat.zero_add _).symm hk)).trans (H.tap a))
      ((load _ _ _ _ _ _ (ix2 (0 : Fin 1) k) (placed 0 k (Nat.zero_add _).symm hk)).trans H.bias)
      (fun l => (load _ _ _ _ _ _ (ix2 l (x 1 : Fin 256)) (placed l (x 1 : Fin 256) (Nat.zero_add _).symm (Nat.zero_add _).symm)).trans (H.weight1 (x 1) hk l))
      (fun a => (load _ _ _ _ _ _ (ix2 a (x 1 : Fin 256)) (placed a (x 1 : Fin 256) (Nat.zero_add _).symm (Nat.zero_add _).symm)).trans (H.tap1 (x 1) hk a))
      ((load _ _ _ _ _ _ (ix2 (0 : Fin 1) (x 1 : Fin 256)) (placed 0 (x 1 : Fin 256) (Nat.zero_add _).symm (Nat.zero_add _).symm)).trans (H.bias1 (x 1) hk))
  · have hk : k.val = (x 1).val := (hx 1).trans (Nat.zero_add _)
    have hr : r = x 0 := Fin.ext ((hx 0).trans (Nat.zero_add _))
    refine (congrArg _ (eq_ix2 x)).trans ?_
    rw [hr]
    exact half0 _ _ _ _ _ _ _ (x 0) (x 1) _ _ _ _ _ _
      (fun l => (load _ _ _ _ _ _ (ix2 l k) (placed l k (Nat.zero_add _).symm (hk.trans (Nat.zero_add _).symm))).trans (H.weight l))
      (fun a => (load _ _ _ _ _ _ (ix2 a k) (placed a k (Nat.zero_add _).symm (hk.trans (Nat.zero_add _).symm))).trans (H.tap a))
      ((load _ _ _ _ _ _ (ix2 (0 : Fin 1) k) (placed 0 k (Nat.zero_add _).symm (hk.trans (Nat.zero_add _).symm))).trans H.bias)
      (fun l => (load _ _ _ _ _ _ (ix2 l (x 1 : Fin 256)) (placed l (x 1 : Fin 256) (Nat.zero_add _).symm (Nat.zero_add _).symm)).trans (H.weight0 (x 1) hk l))
      (fun a => (load _ _ _ _ _ _ (ix2 a (x 1 : Fin 256)) (placed a (x 1 : Fin 256) (Nat.zero_add _).symm (Nat.zero_add _).symm)).trans (H.tap0 (x 1) hk a))
      ((load _ _ _ _ _ _ (ix2 (0 : Fin 1) (x 1 : Fin 256)) (placed 0 (x 1 : Fin 256) (Nat.zero_add _).symm (Nat.zero_add _).symm)).trans (H.bias0 (x 1) hk))

/-- … at a middle one. -/
theorem outB_apply (h0 : ¬t.val % 22 = 0) (h2 : ¬t.val % 22 = 21) (lhs : Vec Ideal S1040x4096 .bf16) :
    outB m c t h0 h2 lhs (ix2 r k) = silu (tapsAt lhs wg cg bg r) * tapsAt lhs wv cv bv r := by
  have hc := coverB m c t h0 h2 lhs (ix2 r k)
  have hs : ∀ inb, View.readAt (Elt Ideal) scM0_0.view (Rect.unit ![0, 0] S1040x4096.size inb).toLoadRect ((Memref.isWhole_whole _).unread lhs) = lhs :=
    fun inb => (View.readAt_full _ _ inb).trans (Memref.IsWhole.read_unread _ lhs)
  unfold outB
  rw [View.read_writes_junk_eq_canon]
  refine View.canon_eq_of_allAt _ _ _ hc ?_
  unfold atB runB
  dsimp only
  unfold runB.sl.r_4 runB.sl.r runB.sl.r_1 runB.sl.r_2 runB.sl.r_3 runB.sl.r_5 runB.sl.r_6 runB.sl.r_7 runB.sl.r_8 runB.sl.r_9
  rw [hs]
  refine View.allAt_cons_unit _ _ _ _ _ (fun x hx => ?_) (View.allAt_cons_unit _ _ _ _ _ (fun x hx => ?_) (View.allAt_nil _ _))
  · have hk : k.val = 256 + (x 1).val := hx 1
    have hr : r = x 0 := Fin.ext ((hx 0).trans (Nat.zero_add _))
    refine (congrArg _ (eq_ix2 x)).trans ?_
    rw [hr]
    exact half1 _ _ _ _ _ _ _ (x 0) (x 1) _ _ _ _ _ _
      (fun l => (load _ _ _ _ _ _ (ix2 l k) (placed l k (Nat.zero_add _).symm hk)).trans (H.weight l))
      (fun a => (load _ _ _ _ _ _ (ix2 a k) (placed a k (Nat.zero_add _).symm hk)).trans (H.tap a))
      ((load _ _ _ _ _ _ (ix2 (0 : Fin 1) k) (placed 0 k (Nat.zero_add _).symm hk)).trans H.bias)
      (fun l => (load _ _ _ _ _ _ (ix2 l (x 1 : Fin 256)) (placed l (x 1 : Fin 256) (Nat.zero_add _).symm (Nat.zero_add _).symm)).trans (H.weight1 (x 1) hk l))
      (fun a => (load _ _ _ _ _ _ (ix2 a (x 1 : Fin 256)) (placed a (x 1 : Fin 256) (Nat.zero_add _).symm (Nat.zero_add _).symm)).trans (H.tap1 (x 1) hk a))
      ((load _ _ _ _ _ _ (ix2 (0 : Fin 1) (x 1 : Fin 256)) (placed 0 (x 1 : Fin 256) (Nat.zero_add _).symm (Nat.zero_add _).symm)).trans (H.bias1 (x 1) hk))
  · have hk : k.val = (x 1).val := (hx 1).trans (Nat.zero_add _)
    have hr : r = x 0 := Fin.ext ((hx 0).trans (Nat.zero_add _))
    refine (congrArg _ (eq_ix2 x)).trans ?_
    rw [hr]
    exact half0 _ _ _ _ _ _ _ (x 0) (x 1) _ _ _ _ _ _
      (fun l => (load _ _ _ _ _ _ (ix2 l k) (placed l k (Nat.zero_add _).symm (hk.trans (Nat.zero_add _).symm))).trans (H.weight l))
      (fun a => (load _ _ _ _ _ _ (ix2 a k) (placed a k (Nat.zero_add _).symm (hk.trans (Nat.zero_add _).symm))).trans (H.tap a))
      ((load _ _ _ _ _ _ (ix2 (0 : Fin 1) k) (placed 0 k (Nat.zero_add _).symm (hk.trans (Nat.zero_add _).symm))).trans H.bias)
      (fun l => (load _ _ _ _ _ _ (ix2 l (x 1 : Fin 256)) (placed l (x 1 : Fin 256) (Nat.zero_add _).symm (Nat.zero_add _).symm)).trans (H.weight0 (x 1) hk l))
      (fun a => (load _ _ _ _ _ _ (ix2 a (x 1 : Fin 256)) (placed a (x 1 : Fin 256) (Nat.zero_add _).symm (Nat.zero_add _).symm)).trans (H.tap0 (x 1) hk a))
      ((load _ _ _ _ _ _ (ix2 (0 : Fin 1) (x 1 : Fin 256)) (placed 0 (x 1 : Fin 256) (Nat.zero_add _).symm (Nat.zero_add _).symm)).trans (H.bias0 (x 1) hk))

/-- … and, as far as it lies in the array, at the last one. -/
theorem outC_apply (h2 : t.val % 22 = 21) (lhs : Vec Ideal S1040x4096 .bf16) (hk256 : k.val < 256) :
    outC m c t h2 lhs (ix2 r k) = silu (tapsAt lhs wg cg bg r) * tapsAt lhs wv cv bv r := by
  have hc := coverC m c t h2 lhs (ix2 r k) hk256
  have hs : ∀ inb, View.readAt (Elt Ideal) scM0_0.view (Rect.unit ![0, 0] S1040x4096.size inb).toLoadRect ((Memref.isWhole_whole _).unread lhs) = lhs :=
    fun inb => (View.readAt_full _ _ inb).trans (Memref.IsWhole.read_unread _ lhs)
  unfold outC
  rw [View.read_writes_junk_eq_canon]
  refine View.canon_eq_of_allAt _ _ _ hc ?_
  unfold atC runC
  dsimp only
  unfold runC.sl.r runC.sl.r_1 runC.sl.r_2 runC.sl.r_3
  rw [hs]
  refine View.allAt_cons_unit _ _ _ _ _ (fun x hx => ?_) (View.allAt_nil _ _)
  · have hk : k.val = (x 1).val := (hx 1).trans (Nat.zero_add _)
    have hr : r = x 0 := Fin.ext ((hx 0).trans (Nat.zero_add _))
    refine (congrArg _ (eq_ix2 x)).trans ?_
    rw [hr]
    exact half2 _ _ _ _ _ _ _ (x 0) (x 1) _ _ _ _ _ _
      (fun l => (load _ _ _ _ _ _ (ix2 l k) (placed l k (Nat.zero_add _).symm (hk.trans (Nat.zero_add _).symm))).trans (H.weight l))
      (fun a => (load _ _ _ _ _ _ (ix2 a k) (placed a k (Nat.zero_add _).symm (hk.trans (Nat.zero_add _).symm))).trans (H.tap a))
      ((load _ _ _ _ _ _ (ix2 (0 : Fin 1) k) (placed 0 k (Nat.zero_add _).symm (hk.trans (Nat.zero_add _).symm))).trans H.bias)
      (fun l => (load _ _ _ _ _ _ (ix2 l (x 1 : Fin 256)) (placed l (x 1 : Fin 256) (Nat.zero_add _).symm (Nat.zero_add _).symm)).trans (H.weight0 (x 1) hk l))
      (fun a => (load _ _ _ _ _ _ (ix2 a (x 1 : Fin 256)) (placed a (x 1 : Fin 256) (Nat.zero_add _).symm (Nat.zero_add _).symm)).trans (H.tap0 (x 1) hk a))
      ((load _ _ _ _ _ _ (ix2 (0 : Fin 1) (x 1 : Fin 256)) (placed 0 (x 1 : Fin 256) (Nat.zero_add _).symm (Nat.zero_add _).symm)).trans (H.bias0 (x 1) hk))

end

end Cert.Kernel3Ideal.Up
-- ==== Proof.Up.Scratch.lean ====
/-
  The rows staged for a row tile: the tile's own rows, then the row after it and, last, the row before it.
-/
module

public import proofs.«01_k».proof.Proof.Up.Block
public import Idealize.ShloMosaic.Lib.Pipeline.Covers

@[expose] public section

set_option maxRecDepth 16384

noncomputable section

open Idealize.ShloMosaic Idealize.ShloMosaic.TcCoe Idealize.SL.Sem

namespace Cert.Kernel3Ideal.Up

open Cert.Kernel3Ideal Cert.Kernel3Ideal.Gen Cert.Up

variable (m : (ℓ : Loc nD τ sig) → Buf (Elt Ideal) ℓ) (c : Dev nD)

/-- Whether a row number is not a multiple of a sequence's length, as a word. -/
def inside (w : BitVec 32) : BitVec 1 :=
  Scalar.cmpi .ne
    (Scalar.select (Scalar.andi (Scalar.xori (Scalar.cmpi .slt (Scalar.remsi w 4096#32) 0#32) (Scalar.cmpi .slt 4096#32 0#32))
      (Scalar.cmpi .ne (Scalar.remsi w 4096#32) 0#32)) (Scalar.addi (Scalar.remsi w 4096#32) 4096#32) (Scalar.remsi w 4096#32)) 0#32

theorem inside_first : ∀ n : Fin 32, inside (Scalar.muli (BitVec.ofNat 32 n.val) 1024#32) = if n.val % 4 = 0 then 0#1 else 1#1 := by decide +kernel

theorem inside_next : ∀ n : Fin 32, inside (Scalar.muli (Scalar.addi (BitVec.ofNat 32 n.val) 1#32) 1024#32) = if n.val % 4 = 3 then 0#1 else 1#1 := by decide +kernel

/-- The factor that keeps the row before a row tile, or clears it at a sequence's start. -/
theorem keep_before (n : Fin 32) : k0_pay6 (F := Ideal) (BitVec.ofNat 32 n.val) = if n.val % 4 = 0 then 0 else 1 := by
  pointwise [k0_pay6]
  show Scalar.select (inside (Scalar.muli (BitVec.ofNat 32 n.val) 1024#32)) (1 : EReal) 0 = _
  rw [inside_first]
  split_ifs <;> rfl

theorem last_word : ∀ n : Fin 16, IntOp.cmpi .eq (BitVec.ofNat 32 n.val) 15#32 = if n.val = 15 then 1#1 else 0#1 := by decide +kernel

/-- The neighbouring rows as stored. -/
theorem halo_apply (x0 x2 : Vec Ideal S16x4096 .bf16) (i : grid0.Coords) (p : Fin 16) (l : Fin 4096) :
    k0_pay1 k0_pay4 (k0_pay5 x0 x2) (k0_pay6 (BitVec.ofNat 32 (i 0).val)) 4096#32 (runA.sl.v40 i) (runA.sl.v41 i) 0#32 (ix2 p l)
      = if p.val = 15 then x0 (ix2 p l) * (if (i 0).val % 4 = 0 then 0 else 1) else x2 (ix2 p l) * (if (i 0).val % 4 = 3 then 0 else 1) := by
  have hn : (Scalar.select (inside (Scalar.muli (Scalar.addi (BitVec.ofNat 32 (i 0).val) 1#32) 1024#32)) (1 : EReal) 0)
      = if (i 0).val % 4 = 3 then 0 else 1 := by
    rw [inside_next (i 0)]
    split_ifs <;> rfl
  unfold runA.sl.v40 runA.sl.v41
  rw [keep_before (i 0)]
  pointwise [k0_pay1, k0_pay4, k0_pay5]
  rw [last_word]
  show Scalar.select (if p.val = 15 then 1#1 else 0#1) (x0 (ix2 p l)) (x2 (ix2 p l)) *
      Scalar.select (if p.val = 15 then 1#1 else 0#1) (if (i 0).val % 4 = 0 then 0 else 1)
        (Scalar.select (inside (Scalar.muli (Scalar.addi (BitVec.ofNat 32 (i 0).val) 1#32) 1024#32)) (1 : EReal) 0) = _
  rw [hn]
  split_ifs <;> rfl

variable (t : Fin cfg0.N) (h0 : t.val % 22 = 0)

/-- The stored rows, each in its place. -/
theorem lhsFrom_apply (r : Fin 1040) (l : Fin 4096) (v : EReal)
    (hown : ∀ r' : Fin 1024, r.val = r'.val → iblk m c 1 t (ix2 r' l) = v)
    (hhalo : ∀ p : Fin 16, r.val = 1024 + p.val →
      (if p.val = 15 then HMul.hMul (α := EReal) (β := EReal) (iblk m c 0 t (ix2 p l)) (if (grid0.coords t 0).val % 4 = 0 then 0 else 1)
        else HMul.hMul (α := EReal) (β := EReal) (iblk m c 2 t (ix2 p l)) (if (grid0.coords t 0).val % 4 = 3 then 0 else 1) : EReal) = v) :
    lhsFrom m c t h0 (ix2 r l) = v := by
  have hc := scoverA m c t h0 (ix2 r l)
  unfold lhsFrom
  rw [View.read_writes_junk_eq_canon]
  refine View.canon_eq_of_allAt _ _ _ hc ?_
  unfold atA runA
  dsimp only
  unfold runA.sl.HS0_2 runA.sl.r runA.sl.r_1
  refine View.allAt_cons_unit _ _ _ _ _ (fun x hx => ?_) (View.allAt_cons_unit _ _ _ _ _ (fun x hx => ?_) (View.allAt_nil _ _))
  · have hl : l = x 1 := Fin.ext ((hx 1).trans (Nat.zero_add _))
    subst hl
    refine (congrArg _ (eq_ix2 x)).trans ((halo_apply _ _ (grid0.coords t) (x 0) (x 1)).trans (Eq.trans ?_ (hhalo (x 0) (hx 0))))
    rw [load (hs0_0 t) _ _ _ _ _ (ix2 (x 0 : Fin 16) (x 1 : Fin 4096)) (placed _ _ (Nat.zero_add _).symm (Nat.zero_add _).symm),
      load (hs0_2 t) _ _ _ _ _ (ix2 (x 0 : Fin 16) (x 1 : Fin 4096)) (placed _ _ (Nat.zero_add _).symm (Nat.zero_add _).symm)]
  · have hl : l = x 1 := Fin.ext ((hx 1).trans (Nat.zero_add _))
    subst hl
    refine (congrArg _ (eq_ix2 x)).trans ?_
    pointwise [k0_pay3]
    exact (load (hs0_1 t) _ _ _ _ _ (ix2 (x 0 : Fin 1024) (x 1 : Fin 4096)) (placed _ _ (Nat.zero_add _).symm (Nat.zero_add _).symm)).trans
      (hown (x 0) ((hx 0).trans (Nat.zero_add _)))

end Cert.Kernel3Ideal.Up
-- ==== Proof.Up.Entry.lean ====
/-
  The arrays the gated projection's launch stages, as its arguments.
-/
module

public import proofs.«01_k».proof.Proof.Up.Block
public import Idealize.ShloMosaic.Lib.Pointwise
public import Idealize.ShloMosaic.Lib.Pipeline.Covers

@[expose] public section

set_option maxRecDepth 16384

noncomputable section

open Idealize.ShloMosaic Idealize.ShloMosaic.TcCoe Idealize.SL.Sem

namespace Cert.Kernel3Ideal.Up

open Cert.Kernel3Ideal Cert.Kernel3Ideal.Gen Cert.Up

variable (m : (ℓ : Loc nD τ sig) → Buf (Elt Ideal) ℓ) (c : Dev nD)

/-- The arguments as functions. -/
def arrays : Arrays where
  tokens i l := m ((c : Thread nD τ).loc main_arg0) (ix2 i l)
  weight q l := m ((c : Thread nD τ).loc main_arg1) (ix2 l q)
  tap q a := m ((c : Thread nD τ).loc main_arg2) (ix2 a q)
  bias q := m ((c : Thread nD τ).loc main_arg3) (ix1 q)

/-- The weights as the launch holds them. -/
theorem V_weight (l : Fin 4096) (q : Fin 22016) : V m c main_v0 (ix2 l q) = m ((c : Thread nD τ).loc main_arg1) (ix2 l q) := by
  unfold V
  entry_read
  pointwise

/-- The biases as the launch holds them. -/
theorem V_bias (q : Fin 22016) : V m c main_v1 (ix2 (0 : Fin 1) q) = m ((c : Thread nD τ).loc main_arg3) (ix1 q) := by
  unfold V
  entry_read
  pointwise

/-- The block each window reads at a grid point. -/
theorem indices : ∀ t : Fin cfg0.N, win0_0.index t = ![64 * (grid0.coords t 0).val - 1, 0] ∧ win0_1.index t = ![(grid0.coords t 0).val, 0]
    ∧ win0_2.index t = ![min (64 * ((grid0.coords t 0).val + 1)) 2047, 0]
    ∧ win0_3.index t = ![0, (grid0.coords t 1).val] ∧ win0_4.index t = ![0, (grid0.coords t 1).val] ∧ win0_5.index t = ![0, (grid0.coords t 1).val]
    ∧ win0_6.index t = ![0, 43 + 2 * (grid0.coords t 1).val] ∧ win0_7.index t = ![0, min (44 + 2 * (grid0.coords t 1).val) 85]
    ∧ win0_8.index t = ![0, 43 + 2 * (grid0.coords t 1).val] ∧ win0_9.index t = ![0, min (44 + 2 * (grid0.coords t 1).val) 85]
    ∧ win0_10.index t = ![0, 43 + 2 * (grid0.coords t 1).val] ∧ win0_11.index t = ![0, min (44 + 2 * (grid0.coords t 1).val) 85]
    ∧ win0_12.index t = ![(grid0.coords t 0).val, (grid0.coords t 1).val] := by decide +kernel

/-- A grid point's coordinates. -/
theorem coords_val : ∀ t : Fin cfg0.N, (grid0.coords t 0).val = t.val / 22 ∧ (grid0.coords t 1).val = t.val % 22 := by decide +kernel

/-- The tile's own rows. -/
theorem own (t : Fin cfg0.N) (r : Fin 1024) (l : Fin 4096) (i : Fin 32768) (hi : i.val = (grid0.coords t 0).val * 1024 + r.val) :
    iblk m c 1 t (ix2 r l) = (arrays m c).tokens i l := by
  unfold arrays
  blk_ext [iblk, V, indices t]

/-- The row before. -/
theorem previous (t : Fin cfg0.N) (l : Fin 4096) (i : Fin 32768) (hi : i.val + 1 = (grid0.coords t 0).val * 1024) :
    iblk m c 0 t (ix2 (15 : Fin 16) l) = (arrays m c).tokens i l := by
  unfold arrays
  blk_ext [iblk, V, indices t]

/-- The row after. -/
theorem next (t : Fin cfg0.N) (l : Fin 4096) (i : Fin 32768) (hi : i.val = ((grid0.coords t 0).val + 1) * 1024) :
    iblk m c 2 t (ix2 (0 : Fin 16) l) = (arrays m c).tokens i l := by
  unfold arrays
  blk_ext [iblk, V, indices t]

/-- The columns a block's element depends on. -/
theorem columns (t : Fin cfg0.N) (k : Fin 512) (q q' : Fin 22016) (hq : q.val = (grid0.coords t 1).val * 512 + k.val) (hq' : q'.val = 11008 + q.val) :
    Columns m c t k ((arrays m c).weight q) ((arrays m c).weight q') ((arrays m c).tap q) ((arrays m c).tap q') ((arrays m c).bias q) ((arrays m c).bias q') where
  weight l := by
    refine Eq.trans ?_ (V_weight m c l q)
    blk_ext [iblk, indices t]
  tap a := by
    unfold arrays
    blk_ext [iblk, V, indices t]
  bias := by
    refine Eq.trans ?_ (V_bias m c q)
    blk_ext [iblk, indices t]
  weight0 k' h l := by
    refine Eq.trans ?_ (V_weight m c l q')
    blk_ext [iblk, indices t]
  weight1 k' h l := by
    refine Eq.trans ?_ (V_weight m c l q')
    blk_ext [iblk, indices t]
  tap0 k' h a := by
    unfold arrays
    blk_ext [iblk, V, indices t]
  tap1 k' h a := by
    unfold arrays
    blk_ext [iblk, V, indices t]
  bias0 k' h := by
    refine Eq.trans ?_ (V_bias m c q')
    blk_ext [iblk, indices t]
  bias1 k' h := by
    refine Eq.trans ?_ (V_bias m c q')
    blk_ext [iblk, indices t]

end Cert.Kernel3Ideal.Up
-- ==== Proof.Up.Rows.lean ====
/-
  A row tile's convolved projection, of the arguments.
-/
module

public import proofs.«01_k».proof.Proof.Up.Scratch
public import proofs.«01_k».proof.Proof.Up.Entry

@[expose] public section

set_option maxRecDepth 16384

noncomputable section

open Idealize.ShloMosaic Idealize.ShloMosaic.TcCoe Idealize.SL.Sem

namespace Cert.Kernel3Ideal.Up

open Cert.Kernel3Ideal Cert.Kernel3Ideal.Gen Cert.Up

theorem dot_zero (w : Fin 4096 → EReal) : dot (fun _ => 0) w = 0 := by
  simp [dot]

variable (m : (ℓ : Loc nD τ sig) → Buf (Elt Ideal) ℓ) (c : Dev nD) (t : Fin cfg0.N)

theorem rowPt_coord : ∀ t : Fin cfg0.N, (grid0.coords (rowPt t) 0).val = (grid0.coords t 0).val := fun t => by
  rw [(coords_val (rowPt t)).1, (coords_val t).1]
  show (t.val - t.val % 22) / 22 = t.val / 22
  omega

/-- A row of the tile. -/
theorem lhs_own (ρ : Fin 1040) (l : Fin 4096) (i : Fin 32768) (hρ : ρ.val < 1024) (hi : i.val = (grid0.coords t 0).val * 1024 + ρ.val) :
    lhsAt m c t (ix2 ρ l) = (arrays m c).tokens i l :=
  lhsFrom_apply m c (rowPt t) (rowPt_mod t) ρ l _
    (fun r' hr => own m c (rowPt t) r' l i (by rw [rowPt_coord t, hi, hr]))
    (fun p hp => absurd hp (by omega))

/-- The row before the tile. -/
theorem lhs_before (l : Fin 4096) : lhsAt m c t (ix2 (⟨1039, by omega⟩ : Fin 1040) l)
    = if h : (grid0.coords t 0).val % 4 = 0 then 0 else (arrays m c).tokens ⟨(grid0.coords t 0).val * 1024 - 1, by have : (grid0.coords t 0).val < 32 := (grid0.coords t 0).isLt; omega⟩ l := by
  refine lhsFrom_apply m c (rowPt t) (rowPt_mod t) _ l _ (fun r' hr => absurd hr (by show ¬1039 = r'.val; omega)) (fun p hp => ?_)
  have h15 : p = (15 : Fin 16) := Fin.ext (by have : 1039 = 1024 + p.val := hp; show p.val = 15; omega)
  subst h15
  rw [if_pos (show ((15 : Fin 16)).val = 15 from rfl), rowPt_coord]
  split_ifs with h
  · exact mul_zero _
  · refine (mul_one _).trans (previous m c (rowPt t) l _ ?_)
    rw [rowPt_coord]
    show (grid0.coords t 0).val * 1024 - 1 + 1 = _
    omega

/-- The row after the tile. -/
theorem lhs_after (l : Fin 4096) : lhsAt m c t (ix2 (⟨1024, by omega⟩ : Fin 1040) l)
    = if h : (grid0.coords t 0).val % 4 = 3 then 0
      else (arrays m c).tokens ⟨((grid0.coords t 0).val + 1) * 1024, by have : (grid0.coords t 0).val < 32 := (grid0.coords t 0).isLt; omega⟩ l := by
  refine lhsFrom_apply m c (rowPt t) (rowPt_mod t) _ l _ (fun r' hr => absurd hr (by show ¬1024 = r'.val; omega)) (fun p hp => ?_)
  have h15 : p = (0 : Fin 16) := Fin.ext (by have : 1024 = 1024 + p.val := hp; show p.val = 0; omega)
  subst h15
  rw [if_neg (show ¬((0 : Fin 16)).val = 15 by decide), rowPt_coord]
  split_ifs with h
  · exact mul_zero _
  · refine (mul_one _).trans (next m c (rowPt t) l _ ?_)
    rw [rowPt_coord]

/-- The taps over the staged rows are the convolution over the sequence's. -/
theorem tapsAt_eq (r : Fin 1024) (i : Fin 32768) (q : Fin 22016) (hi : i.val = (grid0.coords t 0).val * 1024 + r.val) :
    tapsAt (lhsAt m c t) ((arrays m c).weight q) ((arrays m c).tap q) ((arrays m c).bias q) r = (arrays m c).conv i q := by
  have hn : (grid0.coords t 0).val < 32 := (grid0.coords t 0).isLt
  have h1 : dot (fun l => lhsAt m c t (ix2 (⟨(r.val + 1039) % 1040, by omega⟩ : Fin 1040) l)) ((arrays m c).weight q) = (arrays m c).before i q := by
    unfold Arrays.before
    by_cases hr : r.val = 0
    · rw [show (⟨(r.val + 1039) % 1040, by omega⟩ : Fin 1040) = ⟨1039, by omega⟩ from Fin.ext (by show (r.val + 1039) % 1040 = 1039; omega)]
      rw [funext (lhs_before m c t)]
      by_cases h : (grid0.coords t 0).val % 4 = 0
      · rw [if_pos (by omega)]
        simp only [dif_pos h]
        exact dot_zero _
      · rw [if_neg (by omega)]
        simp only [dif_neg h]
        exact congrArg (fun z => dot ((arrays m c).tokens z) _) (Fin.ext (by show (grid0.coords t 0).val * 1024 - 1 = i.val - 1; omega))
    · rw [if_neg (by omega)]
      exact congrArg (fun z => dot z _) (funext fun l => lhs_own m c t _ l _ (by show (r.val + 1039) % 1040 < 1024; omega)
        (by show i.val - 1 = _ + (r.val + 1039) % 1040; omega))
  have h2 : dot (fun l => lhsAt m c t (ix2 (⟨r.val, by omega⟩ : Fin 1040) l)) ((arrays m c).weight q) = dot ((arrays m c).tokens i) ((arrays m c).weight q) :=
    congrArg (fun z => dot z _) (funext fun l => lhs_own m c t _ l _ r.isLt hi)
  have h3 : dot (fun l => lhsAt m c t (ix2 (⟨r.val + 1, by omega⟩ : Fin 1040) l)) ((arrays m c).weight q) = (arrays m c).after i q := by
    unfold Arrays.after
    by_cases hr : r.val = 1023
    · rw [show (⟨r.val + 1, by omega⟩ : Fin 1040) = ⟨1024, by omega⟩ from Fin.ext (by show r.val + 1 = 1024; omega)]
      rw [funext (lhs_after m c t)]
      by_cases h : (grid0.coords t 0).val % 4 = 3
      · rw [dif_pos (by omega)]
        simp only [dif_pos h]
        exact dot_zero _
      · rw [dif_neg (by omega)]
        simp only [dif_neg h]
        exact congrArg (fun z => dot ((arrays m c).tokens z) _) (Fin.ext (by show ((grid0.coords t 0).val + 1) * 1024 = i.val + 1; omega))
    · rw [dif_neg (by omega)]
      exact congrArg (fun z => dot z _) (funext fun l => lhs_own m c t _ l _ (by show r.val + 1 < 1024; omega)
        (by show i.val + 1 = _ + (r.val + 1); omega))
  unfold tapsAt Arrays.conv
  rw [h1, h2, h3]

/-- An element of a point's block is the result's where the block lies in the array. -/
theorem block_apply (r : Fin 1024) (k : Fin 512) (i : Fin 32768) (q : Fin 11008) (hi : i.val = (grid0.coords t 0).val * 1024 + r.val)
    (hq : q.val = (grid0.coords t 1).val * 512 + k.val) : blockAt m c t (ix2 r k) = (arrays m c).result i q := by
  have hc := columns m c t k (⟨q.val, by omega⟩ : Fin 22016) (⟨11008 + q.val, by omega⟩ : Fin 22016) hq rfl
  have e : silu (tapsAt (lhsAt m c t) ((arrays m c).weight ⟨q.val, by omega⟩) ((arrays m c).tap ⟨q.val, by omega⟩) ((arrays m c).bias ⟨q.val, by omega⟩) r)
      * tapsAt (lhsAt m c t) ((arrays m c).weight ⟨11008 + q.val, by omega⟩) ((arrays m c).tap ⟨11008 + q.val, by omega⟩) ((arrays m c).bias ⟨11008 + q.val, by omega⟩) r
        = (arrays m c).result i q := by
    rw [tapsAt_eq m c t r i _ hi, tapsAt_eq m c t r i _ hi]
    rfl
  have hj := (coords_val t).2
  by_cases h0 : t.val % 22 = 0
  · rw [blockAt_A m c t h0, outA_apply m c t r k _ _ _ _ _ _ hc, ← lhsAt_first]
    exact e
  by_cases h2 : t.val % 22 = 21
  · rw [blockAt_C m c t h2, outC_apply m c t r k _ _ _ _ _ _ hc h2 _ (by omega)]
    exact e
  · rw [blockAt_B m c t h0 h2, outB_apply m c t r k _ _ _ _ _ _ hc h0 h2]
    exact e

end Cert.Kernel3Ideal.Up
-- ==== Proof.Up.Array.lean ====
/-
  The gated projection's result after the run.
-/
module

public import proofs.«01_k».proof.Proof.Up.Rows

@[expose] public section

set_option maxRecDepth 16384

noncomputable section

open Idealize.ShloMosaic Idealize.ShloMosaic.TcCoe Idealize.SL.Sem
open Idealize.ShloMosaic.Pipeline

namespace Cert.Kernel3Ideal.Up

open Cert.Kernel3Ideal Cert.Kernel3Ideal.Gen Cert.Up

variable (m : (ℓ : Loc nD τ sig) → Buf (Elt Ideal) ℓ) (ρ : Dev nD → PrngReg) (c : Dev nD)

/-- The result array after the run. -/
theorem final : (dats m 0 c).arrAt 12 cfg0.N = fun y : S32768x11008.Idx => ((arrays m c).result (y 0) (y 1) : EReal) := by
  refine (dats m 0 c).arrAt_eq_of_covers 12 _ ((cfg0.win 12).covers_of_indexMap_surj rfl (by decide) fun β =>
    ⟨fun a => match a with
      | ⟨0, _⟩ => (⟨(β (0 : Fin 2)).val, lt_of_lt_of_eq (β (0 : Fin 2)).isLt (by decide +kernel : (cfg0.win 12).nblk (0 : Fin 2) = 32)⟩ : Fin 32)
      | ⟨1, _⟩ => (⟨(β (1 : Fin 2)).val, lt_of_lt_of_eq (β (1 : Fin 2)).isLt (by decide +kernel : (cfg0.win 12).nblk (1 : Fin 2) = 22)⟩ : Fin 22), fun a => ?_⟩) fun t hfl y => ?_
  · have h0 : (β (0 : Fin 2)).val < 32 := lt_of_lt_of_eq (β (0 : Fin 2)).isLt (by decide +kernel : (cfg0.win 12).nblk (0 : Fin 2) = 32)
    have h1 : (β (1 : Fin 2)).val < 22 := lt_of_lt_of_eq (β (1 : Fin 2)).isLt (by decide +kernel : (cfg0.win 12).nblk (1 : Fin 2) = 22)
    match a with
    | ⟨0, _⟩ => exact Nat.mod_eq_of_lt (by omega : (β (0 : Fin 2)).val < 2 ^ 32)
    | ⟨1, _⟩ => exact Nat.mod_eq_of_lt (by omega : (β (1 : Fin 2)).val < 2 ^ 32)
  · blk_simp
    rw [after0_12]
    refine (congrArg (blockAt m c t) (eq_ix2 _)).trans (block_apply m c t _ _ _ _ ?_ ?_)
    · blk_simp [indices t]
    · blk_simp [indices t]

/-- The run ends with the result array at that, and the arguments unchanged. -/
theorem run_result : θ_run defs (onTc (τ := τ) (main (F := Ideal))) ⟨m, fun _ => 0, ρ⟩ (fun r => ∀ c : Dev nD,
      r.2.mem ((c.tc : Thread nD τ).loc main_v2) = (fun y : S32768x11008.Idx => ((arrays m c).result (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 12).trans (final m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).1 9).trans (((dats m 0 c).arrAt_in 9 rfl _).trans ((A_eq m c 9).trans (V_main_arg2 m c))),
      ((h c).2 main_arg3 (Pipeline.mem_restRefs_of main_arg3 (by decide) (by decide))).trans (V_main_arg3 m c)⟩) (run_main m ρ)

end Cert.Kernel3Ideal.Up
-- ==== Proof.Up.Reference.lean ====
/-
  The reference's gated projection, read one element at a time.
-/
module

public import proofs.«01_k».proof.Proof.Gen.Reference3Ideal.Read
public import proofs.«01_k».proof.Proof.Up.Spec
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Reference3Ideal.Up

open Cert.Reference3Ideal Cert.Reference3Ideal.Gen Cert.Reference3Ideal.Read Cert.Up

/-- The reference's arguments hold the arrays `A`. -/
structure Holds (A : Arrays) (x0 : Vec Ideal S32768x4096 .bf16) (x1 : Vec Ideal S4096x22016 .f32) (x2 : Vec Ideal S3x22016 .f32)
    (x3 : Vec Ideal S22016 .f32) : Prop where
  tokens : ∀ i l, x0 (ix2 i l) = A.tokens i l
  weight : ∀ l q, x1 (ix2 l q) = A.weight q l
  tap : ∀ a q, x2 (ix2 a q) = A.tap q a
  bias : ∀ q, x3 (ix1 q) = A.bias q

variable {A : Arrays} {x0 : Vec Ideal S32768x4096 .bf16} {x1 : Vec Ideal S4096x22016 .f32} {x2 : Vec Ideal S3x22016 .f32} {x3 : Vec Ideal S22016 .f32}

theorem dot_apply (h : Holds A x0 x1 x2 x3) (i : Fin 32768) (q : Fin 22016) :
    val_main_v1 (F := Ideal) x0 x1 (ix2 i q) = dot (A.tokens i) (A.weight q) := by
  refine (val_main_v1_apply x0 x1 _).trans ?_
  refine Finset.sum_congr rfl fun l _ => ?_
  rw [show lidx_main_v1 (ix2 i q) l = ix2 i l from eq_ix2 _, show ridx_main_v1 (ix2 i q) l = ix2 l q from eq_ix2 _]
  exact congrArg₂ (HMul.hMul (α := EReal) (β := EReal)) (h.tokens i l) (h.weight l q)

theorem rows_apply (h : Holds A x0 x1 x2 x3) (b : Fin 8) (p : Fin 4096) (q : Fin 22016) :
    val_main_v2 (F := Ideal) x0 x1 (ix3 b p q) = dot (A.tokens ⟨b.val * 4096 + p.val, by omega⟩) (A.weight q) := by
  rw [← dot_apply h]
  pointwise [val_main_v2]

/-- A padded sequence at an inner row. -/
theorem padded_inner (h : Holds A x0 x1 x2 x3) (b : Fin 8) (j : Fin 4098) (q : Fin 22016) (i : Fin 32768) (h1 : 1 ≤ j.val) (h2 : j.val < 4097)
    (hi : i.val = b.val * 4096 + (j.val - 1)) : val_main_v3 (F := Ideal) x0 x1 (ix3 b j q) = dot (A.tokens i) (A.weight q) := by
  unfold val_main_v3
  refine (pad_apply_of_inside _ _ _ _ _ _ _ _ (ix3 b (⟨j.val - 1, by omega⟩ : Fin 4096) q) fun a => ?_).trans ?_
  · match a with
    | ⟨0, _⟩ => show b.val = 0 + b.val * (0 + 1); omega
    | ⟨1, _⟩ => show j.val = 1 + (j.val - 1) * (0 + 1); omega
    | ⟨2, _⟩ => show q.val = 0 + q.val * (0 + 1); omega
  · rw [rows_apply h]
    exact congrArg (fun z => dot (A.tokens z) _) (Fin.ext hi.symm)

/-- A padded sequence at its first or its last row. -/
theorem padded_outer (b : Fin 8) (j : Fin 4098) (q : Fin 22016) (h : j.val = 0 ∨ j.val = 4097) :
    val_main_v3 (F := Ideal) x0 x1 (ix3 b j q) = 0 := by
  unfold val_main_v3
  refine (pad_apply_of_not_inside _ _ _ _ _ _ _ _ (⟨1, by decide⟩ : Fin 3) ?_).trans ?_
  · show ¬(1 ≤ j.val ∧ (j.val - 1) % (0 + 1) = 0 ∧ (j.val - 1) / (0 + 1) < 4096)
    omega
  · show (((0#32 : BitVec 32).toInt : ℝ) : EReal) = 0
    simp

theorem conv_apply (h : Holds A x0 x1 x2 x3) (b : Fin 8) (p : Fin 4096) (q : Fin 22016) :
    val_main_v28 (F := Ideal) x0 x1 x2 x3 (ix3 b p q) = A.conv ⟨b.val * 4096 + p.val, by omega⟩ q := by
  have e : val_main_v28 (F := Ideal) x0 x1 x2 x3 (ix3 b p q) =
      taps (val_main_v3 (F := Ideal) x0 x1 (ix3 b ⟨p.val, by omega⟩ q)) (val_main_v3 (F := Ideal) x0 x1 (ix3 b ⟨1 + p.val, by omega⟩ q))
        (val_main_v3 (F := Ideal) x0 x1 (ix3 b ⟨2 + p.val, by omega⟩ q)) (fun a => x2 (ix2 a q)) (x3 (ix1 q)) := by
    unfold taps
    pointwise [val_main_v28, val_main_v27, val_main_v26, val_main_v25, val_main_v24, val_main_v23, val_main_v22, val_main_v21, val_main_v20,
      val_main_v19, val_main_v18, val_main_v17, val_main_v16, val_main_v15, val_main_v14, val_main_v13, val_main_v12, val_main_v11, val_main_v10,
      val_main_v9, val_main_v8, val_main_v7, val_main_v6, val_main_v5, val_main_v4, val_main_cst]
  rw [e]
  unfold Arrays.conv
  rw [padded_inner h b ⟨1 + p.val, by omega⟩ q ⟨b.val * 4096 + p.val, by omega⟩ (by show 1 ≤ 1 + p.val; omega) (by show 1 + p.val < 4097; omega)
      (by show b.val * 4096 + p.val = b.val * 4096 + (1 + p.val - 1); omega),
    show (fun a => x2 (ix2 a q)) = A.tap q from funext fun a => h.tap a q, h.bias q]
  have eb : val_main_v3 (F := Ideal) x0 x1 (ix3 b ⟨p.val, by omega⟩ q) = A.before ⟨b.val * 4096 + p.val, by omega⟩ q := by
    unfold Arrays.before
    by_cases hp : p.val = 0
    · rw [if_pos (by show (b.val * 4096 + p.val) % 4096 = 0; omega)]
      exact padded_outer b _ q (.inl hp)
    · rw [if_neg (by show ¬(b.val * 4096 + p.val) % 4096 = 0; omega)]
      exact padded_inner h b _ q _ (by show 1 ≤ p.val; omega) (by show p.val < 4097; omega) (by show b.val * 4096 + p.val - 1 = b.val * 4096 + (p.val - 1); omega)
  have ea : val_main_v3 (F := Ideal) x0 x1 (ix3 b ⟨2 + p.val, by omega⟩ q) = A.after ⟨b.val * 4096 + p.val, by omega⟩ q := by
    unfold Arrays.after
    by_cases hp : p.val = 4095
    · rw [dif_pos (by show (b.val * 4096 + p.val) % 4096 = 4095; omega)]
      exact padded_outer b _ q (.inr (by show 2 + p.val = 4097; omega))
    · rw [dif_neg (by show ¬(b.val * 4096 + p.val) % 4096 = 4095; omega)]
      exact padded_inner h b _ q _ (by show 1 ≤ 2 + p.val; omega) (by show 2 + p.val < 4097; omega) (by show b.val * 4096 + p.val + 1 = b.val * 4096 + (2 + p.val - 1); omega)
  rw [eb, ea]

/-- The gated projection's result of the reference. -/
theorem result_apply (h : Holds A x0 x1 x2 x3) (i : Fin 32768) (q : Fin 11008) :
    val_main_v34 (F := Ideal) x0 x1 x2 x3 (ix2 i q) = A.result i q := by
  have e : val_main_v34 (F := Ideal) x0 x1 x2 x3 (ix2 i q) =
      silu (val_main_v28 (F := Ideal) x0 x1 x2 x3 (ix3 ⟨i.val / 4096, by omega⟩ ⟨i.val % 4096, by omega⟩ ⟨q.val, by omega⟩))
        * val_main_v28 (F := Ideal) x0 x1 x2 x3 (ix3 ⟨i.val / 4096, by omega⟩ ⟨i.val % 4096, by omega⟩ ⟨11008 + q.val, by omega⟩) := by
    unfold silu
    pointwise [val_main_v34, val_main_v33, val_main_v32, val_main_v31, val_main_v30, val_main_v29, val_main_call1_v5, val_main_call1_v4, val_main_call1_v3,
      val_main_call1_v2, val_main_call1_v1, val_main_call1_v0, val_main_call1_cst, val_main_call1_cst_0]
    rfl
  rw [e, conv_apply h, conv_apply h]
  have hi : (⟨i.val / 4096 * 4096 + i.val % 4096, by omega⟩ : Fin 32768) = i := Fin.ext (by show i.val / 4096 * 4096 + i.val % 4096 = i.val; omega)
  unfold Arrays.result
  simp only [hi]

end Cert.Reference3Ideal.Up
-- ==== Proof.Up.Equal.lean ====
/-
  The gated projection's kernel and its reference compute one array.
-/
module

public import proofs.«01_k».proof.Defs
public import proofs.«01_k».proof.Proof.Up.Array
public import proofs.«01_k».proof.Proof.Up.Reference
public import proofs.«01_k».proof.Proof.Gen.Reference3Ideal
public import Idealize.ShloMosaic.Lib.Claim

@[expose] public section

set_option maxRecDepth 16384

noncomputable section

open Idealize.ShloMosaic Idealize.ShloMosaic.TcCoe Idealize.SL.Sem

namespace Cert.Up

/-- The frame of the reference. -/
theorem frame_reference : haveI := Cert.Reference3Ideal.Gen.facts; Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From arguments that agree, the kernel and the reference end with one array. -/
theorem algebraic : haveI := Cert.Kernel3Ideal.Gen.facts; haveI := Cert.Reference3Ideal.Gen.facts; Cert.algebraic_Kernel3Ideal_Reference3Ideal := by
  intro m ρ m' ρ' _ hagree
  refine ⟨fun c => fun y : Cert.Kernel3Ideal.S32768x11008.Idx => ((Cert.Kernel3Ideal.Up.arrays m c).result (y 0) (y 1) : EReal),
    Cert.Kernel3Ideal.Up.run_result m ρ, ?_⟩
  refine (θ_run Cert.Reference3Ideal.defs _ _).mono (fun r h c => ⟨(h c).1.trans ?_, (h c).2⟩) (Cert.Reference3Ideal.Value.run (F := Ideal) m' ρ')
  refine (Cert.Reference3Ideal.Read.val_main_v34_eq (F := Ideal) m' c).trans ?_
  obtain ⟨e0, e1, e2, e3⟩ := hagree c
  funext y
  refine (congrArg (Cert.Reference3Ideal.Read.val_main_v34 (F := Ideal) _ _ _ _) (eq_ix2 y)).trans
    (Cert.Reference3Ideal.Up.result_apply (A := Cert.Kernel3Ideal.Up.arrays m c) ?_ (y 0) (y 1))
  exact ⟨fun i l => congrFun e0 _, fun l q => congrFun e1 _, fun a q => congrFun e2 _, fun q => congrFun e3 _⟩

end Cert.Up
-- ==== Proof.Down.Setup.lean ====
/-
  The down-projection of the feed-forward layer with its gated residual, which of its seven cases a
  grid point takes, and the buffers its body is given.

  The grid is 32 row tiles by 26 steps, run row tile by row tile. Steps 0 to 21 multiply a block of 512
  columns of the gated tokens by the 512 matching rows of the weights and add the product to a scratch
  buffer; step 21 has 256 columns only, and takes the rows' scale from the finished sums. Steps 22 to 25
  write a quarter of the row tile each.
-/
module

public import proofs.«01_k».proof.Proof.Gen.Kernel2Ideal.Frame
public import proofs.«01_k».proof.Proof.Gen.Kernel2Ideal.Skeleton
public import Idealize.ShloMosaic.Lib.Ring
public import Idealize.ShloMosaic.Lib.WordCmp
public import Idealize.ShloMosaic.Lib.WholeRead
public import Idealize.ShloMosaic.Lib.VecWindow

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the product is stored. -/
abbrev cond0 (i : grid0.Coords) : Prop := (Scalar.cmpi .ne (Scalar.extui (Scalar.cmpi .eq (BitVec.ofNat 32 (i 1).val) 0#32)) 0#32) = 1#1
/-- It holds at the first step. -/
theorem hcond0 : ∀ t : Fin cfg0.N, cond0 (grid0.coords t) ↔ t.val % 26 = 0 :=
  (by decide +kernel : ∀ t : Fin grid0.N, cond0 (grid0.coords t) ↔ t.val % 26 = 0)

/-- The condition under which a whole product is added. -/
abbrev cond1 (i : grid0.Coords) : Prop := (Scalar.cmpi .ne (Scalar.extui (Scalar.andi (Scalar.cmpi .sgt (BitVec.ofNat 32 (i 1).val) 0#32) (Scalar.cmpi .slt (BitVec.ofNat 32 (i 1).val) 21#32))) 0#32) = 1#1
/-- It holds at the steps 1 to 20. -/
theorem hcond1 : ∀ t : Fin cfg0.N, cond1 (grid0.coords t) ↔ (1 ≤ t.val % 26 ∧ t.val % 26 ≤ 20) :=
  (by decide +kernel : ∀ t : Fin grid0.N, cond1 (grid0.coords t) ↔ (1 ≤ t.val % 26 ∧ t.val % 26 ≤ 20))

/-- The condition under which half a product is added and the scale taken. -/
abbrev cond2 (i : grid0.Coords) : Prop := (Scalar.cmpi .ne (Scalar.extui (Scalar.cmpi .eq (BitVec.ofNat 32 (i 1).val) 21#32)) 0#32) = 1#1
/-- It holds at step 21. -/
theorem hcond2 : ∀ t : Fin cfg0.N, cond2 (grid0.coords t) ↔ t.val % 26 = 21 :=
  (by decide +kernel : ∀ t : Fin grid0.N, cond2 (grid0.coords t) ↔ t.val % 26 = 21)

/-- The condition under which the first quarter is written. -/
abbrev cond3 (i : grid0.Coords) : Prop := k0_cond4 i = 1#1
/-- It holds at step 22. -/
theorem hcond3 : ∀ t : Fin cfg0.N, cond3 (grid0.coords t) ↔ t.val % 26 = 22 :=
  (by decide +kernel : ∀ t : Fin grid0.N, cond3 (grid0.coords t) ↔ t.val % 26 = 22)

/-- The condition under which the second quarter is written. -/
abbrev cond4 (i : grid0.Coords) : Prop := k0_cond5 i = 1#1
/-- It holds at step 23. -/
theorem hcond4 : ∀ t : Fin cfg0.N, cond4 (grid0.coords t) ↔ t.val % 26 = 23 :=
  (by decide +kernel : ∀ t : Fin grid0.N, cond4 (grid0.coords t) ↔ t.val % 26 = 23)

/-- The condition under which the third quarter is written. -/
abbrev cond5 (i : grid0.Coords) : Prop := k0_cond6 i = 1#1
/-- It holds at step 24. -/
theorem hcond5 : ∀ t : Fin cfg0.N, cond5 (grid0.coords t) ↔ t.val % 26 = 24 :=
  (by decide +kernel : ∀ t : Fin grid0.N, cond5 (grid0.coords t) ↔ t.val % 26 = 24)

/-- The condition under which the last quarter is written. -/
abbrev cond6 (i : grid0.Coords) : Prop := k0_cond7 i = 1#1
/-- It holds at step 25. -/
theorem hcond6 : ∀ t : Fin cfg0.N, cond6 (grid0.coords t) ↔ t.val % 26 = 25 :=
  (by decide +kernel : ∀ t : Fin grid0.N, cond6 (grid0.coords t) ↔ t.val % 26 = 25)

/-! The staging buffer each window uses at a point, a whole buffer. -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x4096 .f32 := win0_5.stage (cfg0.slots t 5)
abbrev hs5 (t : Fin cfg0.N) : (ms5 t).IsWhole := hstage0_5 ((cfg0.slots t 5).cast nbuf0_5)

/-- The scratch buffer the sums are kept in, and the one the rows' scales are kept in. -/
abbrev accM : Memref sig .tc .vmem S1024x4096 .f32 := Memref.whole cc0_scratch0
abbrev rsM : Memref sig .tc .vmem S1024x1 .f32 := Memref.whole cc0_scratch1

/-- The first 256 columns of a block of the tokens, and the first 256 rows of a block of the weights. -/
def leftHalf (x : Vec F S1024x512 .bf16) : Vec F S1024x256 .bf16 :=
  fun j => x ((Rect.unit (s := S1024x512) ![0, 0] S1024x256.size inb_S1024x512_S1024x256_0_0).toLoadRect.idx j)
def topHalf (x : Vec F S512x4096 .bf16) : Vec F S256x4096 .bf16 :=
  fun j => x ((Rect.unit (s := S512x4096) ![0, 0] S256x4096.size inb_S512x4096_S256x4096_0_0).toLoadRect.idx j)

/-- One view of the output's staging buffer: what the stores leave is read back through it. -/
abbrev VO : View sig .tc .vmem S256x4096 .f32 := (Memref.whole cc0_stg5_0 : Memref sig .tc .vmem S256x4096 .f32).view

/-- What the region holds between points: the two scratch buffers at some contents and the random state. -/
theorem PhiA0_eq (c : Dev nD) :
    (Pipeline.ΦA spec0 c : sProp 𝕄)
      = iprop(iprop((∃ d, owns (c : Thread nD τ) accM fullShare d) ∗ (∃ d, owns (c : Thread nD τ) rsM fullShare d)) ∗ (∃ r, prngReg c r)) := by
  unfold Pipeline.ΦA; rw [scopedRest0_eq]; simp only [accM, rsM, owns_whole]; try rfl

end Cert.Kernel2Ideal.Down

end
-- ==== Proof.Down.RunA.lean ====
/-
  The body at the first step of a row tile: it stores the product of the two blocks in the scratch buffer.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first step of a row tile: it stores the product of the two blocks in the scratch buffer. -/
theorem runA (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : cond0 i) (hc1 : ¬cond1 i) (hc2 : ¬cond2 i) (hc3 : ¬cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (x5 : Vec F S256x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 x0 x1) ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs1
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    rw [View.read_writes_full, View.readAt_full, View.readAt_full, hf0, hf1]
  iexists _; isplitr; · ipureintro; exact harg9.read_unread _
  iexact HS1

end Cert.Kernel2Ideal.Down

end
-- ==== Proof.Down.RunB.lean ====
/-
  The body at the steps 1 to 20: it adds the product of the two blocks to the scratch buffer.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the steps 1 to 20: it adds the product of the two blocks to the scratch buffer. -/
theorem runB (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : cond1 i) (hc2 : ¬cond2 i) (hc3 : ¬cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (x5 : Vec F S256x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 x1 xs0) ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    rw [View.read_writes_full, View.readAt_full, View.readAt_full, View.readAt_full, hf0, hf1, hfs0]
  iexists _; isplitr; · ipureintro; exact harg9.read_unread _
  iexact HS1

end Cert.Kernel2Ideal.Down

end
-- ==== Proof.Down.RunC.lean ====
/-
  The body at step 21: it adds the product of the two blocks' first halves to the scratch buffer and takes the rows' scales.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at step 21: it adds the product of the two blocks' first halves to the scratch buffer and takes the rows' scales. -/
theorem runC (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : cond2 i) (hc3 : ¬cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (x5 : Vec F S256x4096 .f32) (xs0 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (leftHalf x0) (topHalf x1) xs0) ∗ owns (c : Thread nD τ) arg9 fullShare (k0_pay5 (leftHalf x0) (topHalf x1) xs0)) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    have e0 : View.readAt (Elt F) arg2.view (Rect.unit (s := S1024x512) ![0, 0] S1024x256.size inb_S1024x512_S1024x256_0_0).toLoadRect (harg2.unread x0) = leftHalf x0 := funext fun j => harg2.readAt_unread x0 _ j
    have e1 : View.readAt (Elt F) arg3.view (Rect.unit (s := S512x4096) ![0, 0] S256x4096.size inb_S512x4096_S256x4096_0_0).toLoadRect (harg3.unread x1) = topHalf x1 := funext fun j => harg3.readAt_unread x1 _ j
    rw [View.read_writes_full, View.readAt_full, hfs0, e0, e1]
  · iexists _; isplitr
    swap; · iexact HS1
    ipureintro
    have e0 : View.readAt (Elt F) arg2.view (Rect.unit (s := S1024x512) ![0, 0] S1024x256.size inb_S1024x512_S1024x256_0_0).toLoadRect (harg2.unread x0) = leftHalf x0 := funext fun j => harg2.readAt_unread x0 _ j
    have e1 : View.readAt (Elt F) arg3.view (Rect.unit (s := S512x4096) ![0, 0] S256x4096.size inb_S512x4096_S256x4096_0_0).toLoadRect (harg3.unread x1) = topHalf x1 := funext fun j => harg3.readAt_unread x1 _ j
    rw [View.read_writes_full, View.readAt_full, hfs0, e0, e1]

end Cert.Kernel2Ideal.Down

end
-- ==== Proof.Down.RunR0.lean ====
/-
  The body at step 22: in 16 strips of 16 rows it writes the first quarter of the row tile.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip0 (i : grid0.Coords) (arg4 : Memref sig .tc .vmem S256x4096 .f32) (arg8 : Memref sig .tc .vmem S1024x4096 .f32) (arg9 : Memref sig .tc .vmem S1024x1 .f32) (hc3 : cond3 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t1_loop.trips) : View.Piece (Elt F) S256x4096 .f32 :=
  ⟨Rect.unit (s := S256x4096) (k0_off1 k) S16x4096.size (k0_off1_inb i k hc3),
    k0_pay6 v23 v25 (arg4.view.readAt (Elt F) (Rect.unit (s := S256x4096) (k0_off1 k) S16x4096.size (k0_off1_inb i k hc3)).toLoadRect X4)
      (arg8.view.readAt (Elt F) (Rect.unit (s := S1024x4096) (k0_off2 k) S16x4096.size (k0_off2_inb i k hc3)).toLoadRect X8)
      (arg9.view.readAt (Elt F) (Rect.unit (s := S1024x1) (k0_off3 k) S16x1.size (k0_off3_inb i k hc3)).toLoadRect X9)⟩

/-- The strips of the trips before `k`, the last first. -/
def strips0 (i : grid0.Coords) (arg4 : Memref sig .tc .vmem S256x4096 .f32) (arg8 : Memref sig .tc .vmem S1024x4096 .f32) (arg9 : Memref sig .tc .vmem S1024x1 .f32) (hc3 : cond3 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t1_loop.trips then strip0 i arg4 arg8 arg9 hc3 v23 v25 X4 X8 X9 ⟨k, h⟩ :: strips0 i arg4 arg8 arg9 hc3 v23 v25 X4 X8 X9 k
      else strips0 i arg4 arg8 arg9 hc3 v23 v25 X4 X8 X9 k

/-- What holds before trip `k`: the strips of the trips before it are written. -/
def inv0 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc3 : cond3 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips0 i arg4 arg8 arg9 hc3 v23 v25 X4 X8 X9 k)⌝))

set_option maxHeartbeats 1000000 in
/-- One trip. -/
theorem step0 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc3 : cond3 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t1_loop.trips) (u : Unit) :
    inv0 c i arg4 arg7 arg8 arg9 hc3 v23 v25 X4 X7 X8 X9 k u
      ⊢ wp frame (wpE (defs₀ (F := F)) Variants.none (c : Thread nD τ) none) E (k0_t1_body (F := F) i arg2 harg2 arg3 harg3 arg4 harg4 arg5 harg5 arg6 harg6 arg7 harg7 arg8 harg8 arg9 harg9 hc3 v23 v25 k u)
          (inv0 c i arg4 arg7 arg8 arg9 hc3 v23 v25 X4 X7 X8 X9 (k.val + 1)) := by
  unfold inv0 k0_t1_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips0 i arg4 arg8 arg9 hc3 v23 v25 X4 X8 X9 (k.val + 1))
  rw [strips0, dif_pos k.isLt]; rfl

set_option warn.classDefReducibility false in
/-- The loop, by its invariant. -/
def loop0 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc3 : cond3 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t1_loop.lb k0_t1_loop.ub k0_t1_loop.st (k0_t1_ok i hc3) ⟨⟩
      (k0_t1_body (F := F) i arg2 harg2 arg3 harg3 arg4 harg4 arg5 harg5 arg6 harg6 arg7 harg7 arg8 harg8 arg9 harg9 hc3 v23 v25) where
  inv := inv0 c i arg4 arg7 arg8 arg9 hc3 v23 v25 X4 X7 X8 X9
  step := step0 c i arg2 harg2 arg3 harg3 arg4 harg4 arg5 harg5 arg6 harg6 arg7 harg7 arg8 harg8 arg9 harg9 hc3 v23 v25 X4 X7 X8 X9 E

/-- The strips the body leaves in the output's buffer. -/
abbrev out0 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc3 : cond3 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips0 i arg4 arg8 arg9 hc3 x3 x4 (harg4.unread x2) (harg8.unread xs0) (harg9.unread xs1) 16

set_option maxHeartbeats 1000000 in
/-- The body at step 22. -/
theorem runR0 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out0 i arg2 harg2 arg3 harg3 arg4 harg4 arg5 harg5 arg6 harg6 arg7 harg7 arg8 harg8 arg9 harg9 hc3 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop0 (F := F) c i arg2 harg2 arg3 harg3 arg4 harg4 arg5 harg5 arg6 harg6 arg7 harg7 arg8 harg8 arg9 harg9 hc3 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel2Ideal.Down

end
-- ==== Proof.Down.RunR1.lean ====
/-
  The body at step 23: in 16 strips of 16 rows it writes the second quarter of the row tile.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip1 (i : grid0.Coords) (arg4 : Memref sig .tc .vmem S256x4096 .f32) (arg8 : Memref sig .tc .vmem S1024x4096 .f32) (arg9 : Memref sig .tc .vmem S1024x1 .f32) (hc4 : cond4 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t2_loop.trips) : View.Piece (Elt F) S256x4096 .f32 :=
  ⟨Rect.unit (s := S256x4096) (k0_off4 k) S16x4096.size (k0_off4_inb i k hc4),
    k0_pay7 v23 v25 (arg4.view.readAt (Elt F) (Rect.unit (s := S256x4096) (k0_off4 k) S16x4096.size (k0_off4_inb i k hc4)).toLoadRect X4)
      (arg8.view.readAt (Elt F) (Rect.unit (s := S1024x4096) (k0_off5 k) S16x4096.size (k0_off5_inb i k hc4)).toLoadRect X8)
      (arg9.view.readAt (Elt F) (Rect.unit (s := S1024x1) (k0_off6 k) S16x1.size (k0_off6_inb i k hc4)).toLoadRect X9)⟩

/-- The strips of the trips before `k`, the last first. -/
def strips1 (i : grid0.Coords) (arg4 : Memref sig .tc .vmem S256x4096 .f32) (arg8 : Memref sig .tc .vmem S1024x4096 .f32) (arg9 : Memref sig .tc .vmem S1024x1 .f32) (hc4 : cond4 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t2_loop.trips then strip1 i arg4 arg8 arg9 hc4 v23 v25 X4 X8 X9 ⟨k, h⟩ :: strips1 i arg4 arg8 arg9 hc4 v23 v25 X4 X8 X9 k
      else strips1 i arg4 arg8 arg9 hc4 v23 v25 X4 X8 X9 k

/-- What holds before trip `k`: the strips of the trips before it are written. -/
def inv1 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc4 : cond4 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips1 i arg4 arg8 arg9 hc4 v23 v25 X4 X8 X9 k)⌝))

set_option maxHeartbeats 1000000 in
/-- One trip. -/
theorem step1 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc4 : cond4 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t2_loop.trips) (u : Unit) :
    inv1 c i arg4 arg7 arg8 arg9 hc4 v23 v25 X4 X7 X8 X9 k u
      ⊢ wp frame (wpE (defs₀ (F := F)) Variants.none (c : Thread nD τ) none) E (k0_t2_body (F := F) i arg2 harg2 arg3 harg3 arg4 harg4 arg5 harg5 arg6 harg6 arg7 harg7 arg8 harg8 arg9 harg9 hc4 v23 v25 k u)
          (inv1 c i arg4 arg7 arg8 arg9 hc4 v23 v25 X4 X7 X8 X9 (k.val + 1)) := by
  unfold inv1 k0_t2_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips1 i arg4 arg8 arg9 hc4 v23 v25 X4 X8 X9 (k.val + 1))
  rw [strips1, dif_pos k.isLt]; rfl

set_option warn.classDefReducibility false in
/-- The loop, by its invariant. -/
def loop1 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc4 : cond4 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t2_loop.lb k0_t2_loop.ub k0_t2_loop.st (k0_t2_ok i hc4) ⟨⟩
      (k0_t2_body (F := F) i arg2 harg2 arg3 harg3 arg4 harg4 arg5 harg5 arg6 harg6 arg7 harg7 arg8 harg8 arg9 harg9 hc4 v23 v25) where
  inv := inv1 c i arg4 arg7 arg8 arg9 hc4 v23 v25 X4 X7 X8 X9
  step := step1 c i arg2 harg2 arg3 harg3 arg4 harg4 arg5 harg5 arg6 harg6 arg7 harg7 arg8 harg8 arg9 harg9 hc4 v23 v25 X4 X7 X8 X9 E

/-- The strips the body leaves in the output's buffer. -/
abbrev out1 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc4 : cond4 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips1 i arg4 arg8 arg9 hc4 x3 x4 (harg4.unread x2) (harg8.unread xs0) (harg9.unread xs1) 16

set_option maxHeartbeats 1000000 in
/-- The body at step 23. -/
theorem runR1 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : ¬cond3 i) (hc4 : cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out1 i arg2 harg2 arg3 harg3 arg4 harg4 arg5 harg5 arg6 harg6 arg7 harg7 arg8 harg8 arg9 harg9 hc4 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop1 (F := F) c i arg2 harg2 arg3 harg3 arg4 harg4 arg5 harg5 arg6 harg6 arg7 harg7 arg8 harg8 arg9 harg9 hc4 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel2Ideal.Down

end
-- ==== Proof.Down.RunR2.lean ====
/-
  The body at step 24: in 16 strips of 16 rows it writes the third quarter of the row tile.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip2 (i : grid0.Coords) (arg4 : Memref sig .tc .vmem S256x4096 .f32) (arg8 : Memref sig .tc .vmem S1024x4096 .f32) (arg9 : Memref sig .tc .vmem S1024x1 .f32) (hc5 : cond5 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t3_loop.trips) : View.Piece (Elt F) S256x4096 .f32 :=
  ⟨Rect.unit (s := S256x4096) (k0_off7 k) S16x4096.size (k0_off7_inb i k hc5),
    k0_pay8 v23 v25 (arg4.view.readAt (Elt F) (Rect.unit (s := S256x4096) (k0_off7 k) S16x4096.size (k0_off7_inb i k hc5)).toLoadRect X4)
      (arg8.view.readAt (Elt F) (Rect.unit (s := S1024x4096) (k0_off8 k) S16x4096.size (k0_off8_inb i k hc5)).toLoadRect X8)
      (arg9.view.readAt (Elt F) (Rect.unit (s := S1024x1) (k0_off9 k) S16x1.size (k0_off9_inb i k hc5)).toLoadRect X9)⟩

/-- The strips of the trips before `k`, the last first. -/
def strips2 (i : grid0.Coords) (arg4 : Memref sig .tc .vmem S256x4096 .f32) (arg8 : Memref sig .tc .vmem S1024x4096 .f32) (arg9 : Memref sig .tc .vmem S1024x1 .f32) (hc5 : cond5 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t3_loop.trips then strip2 i arg4 arg8 arg9 hc5 v23 v25 X4 X8 X9 ⟨k, h⟩ :: strips2 i arg4 arg8 arg9 hc5 v23 v25 X4 X8 X9 k
      else strips2 i arg4 arg8 arg9 hc5 v23 v25 X4 X8 X9 k

/-- What holds before trip `k`: the strips of the trips before it are written. -/
def inv2 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc5 : cond5 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips2 i arg4 arg8 arg9 hc5 v23 v25 X4 X8 X9 k)⌝))

set_option maxHeartbeats 1000000 in
/-- One trip. -/
theorem step2 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc5 : cond5 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t3_loop.trips) (u : Unit) :
    inv2 c i arg4 arg7 arg8 arg9 hc5 v23 v25 X4 X7 X8 X9 k u
      ⊢ wp frame (wpE (defs₀ (F := F)) Variants.none (c : Thread nD τ) none) E (k0_t3_body (F := F) i arg2 harg2 arg3 harg3 arg4 harg4 arg5 harg5 arg6 harg6 arg7 harg7 arg8 harg8 arg9 harg9 hc5 v23 v25 k u)
          (inv2 c i arg4 arg7 arg8 arg9 hc5 v23 v25 X4 X7 X8 X9 (k.val + 1)) := by
  unfold inv2 k0_t3_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips2 i arg4 arg8 arg9 hc5 v23 v25 X4 X8 X9 (k.val + 1))
  rw [strips2, dif_pos k.isLt]; rfl

set_option warn.classDefReducibility false in
/-- The loop, by its invariant. -/
def loop2 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc5 : cond5 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t3_loop.lb k0_t3_loop.ub k0_t3_loop.st (k0_t3_ok i hc5) ⟨⟩
      (k0_t3_body (F := F) i arg2 harg2 arg3 harg3 arg4 harg4 arg5 harg5 arg6 harg6 arg7 harg7 arg8 harg8 arg9 harg9 hc5 v23 v25) where
  inv := inv2 c i arg4 arg7 arg8 arg9 hc5 v23 v25 X4 X7 X8 X9
  step := step2 c i arg2 harg2 arg3 harg3 arg4 harg4 arg5 harg5 arg6 harg6 arg7 harg7 arg8 harg8 arg9 harg9 hc5 v23 v25 X4 X7 X8 X9 E

/-- The strips the body leaves in the output's buffer. -/
abbrev out2 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc5 : cond5 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips2 i arg4 arg8 arg9 hc5 x3 x4 (harg4.unread x2) (harg8.unread xs0) (harg9.unread xs1) 16

set_option maxHeartbeats 1000000 in
/-- The body at step 24. -/
theorem runR2 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : ¬cond3 i) (hc4 : ¬cond4 i) (hc5 : cond5 i) (hc6 : ¬cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out2 i arg2 harg2 arg3 harg3 arg4 harg4 arg5 harg5 arg6 harg6 arg7 harg7 arg8 harg8 arg9 harg9 hc5 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop2 (F := F) c i arg2 harg2 arg3 harg3 arg4 harg4 arg5 harg5 arg6 harg6 arg7 harg7 arg8 harg8 arg9 harg9 hc5 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel2Ideal.Down

end
-- ==== Proof.Down.RunR3.lean ====
/-
  The body at step 25: in 16 strips of 16 rows it writes the last quarter of the row tile.
-/
module

public import proofs.«01_k».proof.Proof.Down.Setup

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip3 (i : grid0.Coords) (arg4 : Memref sig .tc .vmem S256x4096 .f32) (arg8 : Memref sig .tc .vmem S1024x4096 .f32) (arg9 : Memref sig .tc .vmem S1024x1 .f32) (hc6 : cond6 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t4_loop.trips) : View.Piece (Elt F) S256x4096 .f32 :=
  ⟨Rect.unit (s := S256x4096) (k0_off10 k) S16x4096.size (k0_off10_inb i k hc6),
    k0_pay9 v23 v25 (arg4.view.readAt (Elt F) (Rect.unit (s := S256x4096) (k0_off10 k) S16x4096.size (k0_off10_inb i k hc6)).toLoadRect X4)
      (arg8.view.readAt (Elt F) (Rect.unit (s := S1024x4096) (k0_off11 k) S16x4096.size (k0_off11_inb i k hc6)).toLoadRect X8)
      (arg9.view.readAt (Elt F) (Rect.unit (s := S1024x1) (k0_off12 k) S16x1.size (k0_off12_inb i k hc6)).toLoadRect X9)⟩

/-- The strips of the trips before `k`, the last first. -/
def strips3 (i : grid0.Coords) (arg4 : Memref sig .tc .vmem S256x4096 .f32) (arg8 : Memref sig .tc .vmem S1024x4096 .f32) (arg9 : Memref sig .tc .vmem S1024x1 .f32) (hc6 : cond6 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t4_loop.trips then strip3 i arg4 arg8 arg9 hc6 v23 v25 X4 X8 X9 ⟨k, h⟩ :: strips3 i arg4 arg8 arg9 hc6 v23 v25 X4 X8 X9 k
      else strips3 i arg4 arg8 arg9 hc6 v23 v25 X4 X8 X9 k

/-- What holds before trip `k`: the strips of the trips before it are written. -/
def inv3 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc6 : cond6 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips3 i arg4 arg8 arg9 hc6 v23 v25 X4 X8 X9 k)⌝))

set_option maxHeartbeats 1000000 in
/-- One trip. -/
theorem step3 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc6 : cond6 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t4_loop.trips) (u : Unit) :
    inv3 c i arg4 arg7 arg8 arg9 hc6 v23 v25 X4 X7 X8 X9 k u
      ⊢ wp frame (wpE (defs₀ (F := F)) Variants.none (c : Thread nD τ) none) E (k0_t4_body (F := F) i arg2 harg2 arg3 harg3 arg4 harg4 arg5 harg5 arg6 harg6 arg7 harg7 arg8 harg8 arg9 harg9 hc6 v23 v25 k u)
          (inv3 c i arg4 arg7 arg8 arg9 hc6 v23 v25 X4 X7 X8 X9 (k.val + 1)) := by
  unfold inv3 k0_t4_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips3 i arg4 arg8 arg9 hc6 v23 v25 X4 X8 X9 (k.val + 1))
  rw [strips3, dif_pos k.isLt]; rfl

set_option warn.classDefReducibility false in
/-- The loop, by its invariant. -/
def loop3 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc6 : cond6 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t4_loop.lb k0_t4_loop.ub k0_t4_loop.st (k0_t4_ok i hc6) ⟨⟩
      (k0_t4_body (F := F) i arg2 harg2 arg3 harg3 arg4 harg4 arg5 harg5 arg6 harg6 arg7 harg7 arg8 harg8 arg9 harg9 hc6 v23 v25) where
  inv := inv3 c i arg4 arg7 arg8 arg9 hc6 v23 v25 X4 X7 X8 X9
  step := step3 c i arg2 harg2 arg3 harg3 arg4 harg4 arg5 harg5 arg6 harg6 arg7 harg7 arg8 harg8 arg9 harg9 hc6 v23 v25 X4 X7 X8 X9 E

/-- The strips the body leaves in the output's buffer. -/
abbrev out3 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc6 : cond6 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips3 i arg4 arg8 arg9 hc6 x3 x4 (harg4.unread x2) (harg8.unread xs0) (harg9.unread xs1) 16

set_option maxHeartbeats 1000000 in
/-- The body at step 25. -/
theorem runR3 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : ¬cond3 i) (hc4 : ¬cond4 i) (hc5 : ¬cond5 i) (hc6 : cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out3 i arg2 harg2 arg3 harg3 arg4 harg4 arg5 harg5 arg6 harg6 arg7 harg7 arg8 harg8 arg9 harg9 hc6 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop3 (F := F) c i arg2 harg2 arg3 harg3 arg4 harg4 arg5 harg5 arg6 harg6 arg7 harg7 arg8 harg8 arg9 harg9 hc6 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel2Ideal.Down

end
-- ==== Proof.Down.Frame.lean ====
/-
  What the two scratch buffers and the output's buffer hold at each grid point, and the run of the whole
  grid with them.
-/
module

public import proofs.«01_k».proof.Proof.Down.RunA
public import proofs.«01_k».proof.Proof.Down.RunB
public import proofs.«01_k».proof.Proof.Down.RunC
public import proofs.«01_k».proof.Proof.Down.RunR0
public import proofs.«01_k».proof.Proof.Down.RunR1
public import proofs.«01_k».proof.Proof.Down.RunR2
public import proofs.«01_k».proof.Proof.Down.RunR3
public import Idealize.ShloMosaic.Lib.Claim
public import Idealize.ShloMosaic.Lib.Pipeline.ValueKit

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of tokens and the block of weights a point multiplies. The last step's blocks overhang the
    arrays; outside them a filler stands here, and the body does not use it. -/
def x0At (c : Dev nD) (t : Fin cfg0.N) : Vec F S1024x512 .bf16 :=
  (cfg0.win 0).fill (grid0.coords t) (fun _ => Scalar.ofBits .bf16 0#16) (iblk m c 0 t)
def x1At (c : Dev nD) (t : Fin cfg0.N) : Vec F S512x4096 .bf16 :=
  (cfg0.win 1).fill (grid0.coords t) (fun _ => Scalar.ofBits .bf16 0#16) (iblk m c 1 t)

/-- What the sums' scratch buffer holds after a point. -/
def accN (c : Dev nD) : (n : ℕ) → n < cfg0.N → Vec F S1024x4096 .f32
  | 0, h => k0_pay1 (x0At m c ⟨0, h⟩) (x1At m c ⟨0, h⟩)
  | n + 1, h =>
    if (n + 1) % 26 = 0 then k0_pay1 (x0At m c ⟨n + 1, h⟩) (x1At m c ⟨n + 1, h⟩)
    else if (n + 1) % 26 ≤ 20 then k0_pay2 (x0At m c ⟨n + 1, h⟩) (x1At m c ⟨n + 1, h⟩) (accN c n (Nat.lt_of_succ_lt h))
    else if (n + 1) % 26 = 21 then k0_pay4 (leftHalf (x0At m c ⟨n + 1, h⟩)) (topHalf (x1At m c ⟨n + 1, h⟩)) (accN c n (Nat.lt_of_succ_lt h))
    else accN c n (Nat.lt_of_succ_lt h)

/-- What the scales' scratch buffer holds after a point, from the first step 21 on. -/
def rsN (c : Dev nD) : (n : ℕ) → n < cfg0.N → Vec F S1024x1 .f32
  | 0, h => fun _ => Scalar.ofBits .f32 0#32
  | n + 1, h =>
    if (n + 1) % 26 = 21 then k0_pay5 (leftHalf (x0At m c ⟨n + 1, h⟩)) (topHalf (x1At m c ⟨n + 1, h⟩)) (accN m c n (Nat.lt_of_succ_lt h))
    else rsN c n (Nat.lt_of_succ_lt h)

theorem accN_A (c : Dev nD) (n : ℕ) (h : n < cfg0.N) (h0 : n % 26 = 0) : accN m c n h = k0_pay1 (x0At m c ⟨n, h⟩) (x1At m c ⟨n, h⟩) := by
  cases n with
  | zero => rw [accN]
  | succ n => rw [accN, if_pos h0]

theorem accN_B (c : Dev nD) (n : ℕ) (h : n < cfg0.N) (h1 : 1 ≤ n % 26) (h2 : n % 26 ≤ 20) :
    accN m c n h = k0_pay2 (x0At m c ⟨n, h⟩) (x1At m c ⟨n, h⟩) (accN m c (n - 1) (by omega)) := by
  cases n with
  | zero => exact absurd h1 (by decide)
  | succ n => rw [accN, if_neg (by omega), if_pos h2]; rfl

theorem accN_C (c : Dev nD) (n : ℕ) (h : n < cfg0.N) (h1 : n % 26 = 21) :
    accN m c n h = k0_pay4 (leftHalf (x0At m c ⟨n, h⟩)) (topHalf (x1At m c ⟨n, h⟩)) (accN m c (n - 1) (by omega)) := by
  cases n with
  | zero => exact absurd h1 (by decide)
  | succ n => rw [accN, if_neg (by omega), if_neg (by omega), if_pos h1]; rfl

theorem accN_R (c : Dev nD) (n : ℕ) (h : n < cfg0.N) (h1 : 22 ≤ n % 26) : accN m c n h = accN m c (n - 1) (by omega) := by
  cases n with
  | zero => exact absurd h1 (by decide)
  | succ n => rw [accN, if_neg (by omega), if_neg (by omega), if_neg (by omega)]; rfl

theorem rsN_C (c : Dev nD) (n : ℕ) (h : n < cfg0.N) (h1 : n % 26 = 21) :
    rsN m c n h = k0_pay5 (leftHalf (x0At m c ⟨n, h⟩)) (topHalf (x1At m c ⟨n, h⟩)) (accN m c (n - 1) (by omega)) := by
  cases n with
  | zero => exact absurd h1 (by decide)
  | succ n => rw [rsN, if_pos h1]; rfl

theorem rsN_R (c : Dev nD) (n : ℕ) (h : n < cfg0.N) (h1 : 22 ≤ n % 26) : rsN m c n h = rsN m c (n - 1) (by omega) := by
  cases n with
  | zero => exact absurd h1 (by decide)
  | succ n => rw [rsN, if_neg (by omega)]; rfl

/-- What they hold before and after point `t`. -/
abbrev accAt (c : Dev nD) (t : Fin cfg0.N) : Vec F S1024x4096 .f32 := accN m c t.val t.isLt
abbrev rsAt (c : Dev nD) (t : Fin cfg0.N) : Vec F S1024x1 .f32 := rsN m c t.val t.isLt

/-- The strips step 22 leaves in the output's buffer, and what is read back from them. -/
abbrev stripsAt0 (c : Dev nD) (t : Fin cfg0.N) (h : t.val % 26 = 22) : List (View.Piece (Elt F) S256x4096 .f32) :=
  out0 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond3 t).mpr h) (iblk m c 2 t) (iblk m c 3 t) (iblk m c 4 t) (accAt m c t) (rsAt m c t)
def quarter0 (c : Dev nD) (t : Fin cfg0.N) (h : t.val % 26 = 22) : Vec F S256x4096 .f32 :=
  VO.read (Elt F) (VO.writes (Elt F) VO.junk (stripsAt0 m c t h))
theorem cover0 (c : Dev nD) (t : Fin cfg0.N) (h : t.val % 26 = 22) (y : S256x4096.Idx) : ∃ pc ∈ stripsAt0 m c t h, y ∈ pc.1.set :=
  View.cover_of_tiledL (stripsAt0 m c t h) S16x4096.size (by sl_kernel_rfl) y

/-- The strips step 23 leaves in the output's buffer, and what is read back from them. -/
abbrev stripsAt1 (c : Dev nD) (t : Fin cfg0.N) (h : t.val % 26 = 23) : List (View.Piece (Elt F) S256x4096 .f32) :=
  out1 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond4 t).mpr h) (iblk m c 2 t) (iblk m c 3 t) (iblk m c 4 t) (accAt m c t) (rsAt m c t)
def quarter1 (c : Dev nD) (t : Fin cfg0.N) (h : t.val % 26 = 23) : Vec F S256x4096 .f32 :=
  VO.read (Elt F) (VO.writes (Elt F) VO.junk (stripsAt1 m c t h))
theorem cover1 (c : Dev nD) (t : Fin cfg0.N) (h : t.val % 26 = 23) (y : S256x4096.Idx) : ∃ pc ∈ stripsAt1 m c t h, y ∈ pc.1.set :=
  View.cover_of_tiledL (stripsAt1 m c t h) S16x4096.size (by sl_kernel_rfl) y

/-- The strips step 24 leaves in the output's buffer, and what is read back from them. -/
abbrev stripsAt2 (c : Dev nD) (t : Fin cfg0.N) (h : t.val % 26 = 24) : List (View.Piece (Elt F) S256x4096 .f32) :=
  out2 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond5 t).mpr h) (iblk m c 2 t) (iblk m c 3 t) (iblk m c 4 t) (accAt m c t) (rsAt m c t)
def quarter2 (c : Dev nD) (t : Fin cfg0.N) (h : t.val % 26 = 24) : Vec F S256x4096 .f32 :=
  VO.read (Elt F) (VO.writes (Elt F) VO.junk (stripsAt2 m c t h))
theorem cover2 (c : Dev nD) (t : Fin cfg0.N) (h : t.val % 26 = 24) (y : S256x4096.Idx) : ∃ pc ∈ stripsAt2 m c t h, y ∈ pc.1.set :=
  View.cover_of_tiledL (stripsAt2 m c t h) S16x4096.size (by sl_kernel_rfl) y

/-- The strips step 25 leaves in the output's buffer, and what is read back from them. -/
abbrev stripsAt3 (c : Dev nD) (t : Fin cfg0.N) (h : t.val % 26 = 25) : List (View.Piece (Elt F) S256x4096 .f32) :=
  out3 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond6 t).mpr h) (iblk m c 2 t) (iblk m c 3 t) (iblk m c 4 t) (accAt m c t) (rsAt m c t)
def quarter3 (c : Dev nD) (t : Fin cfg0.N) (h : t.val % 26 = 25) : Vec F S256x4096 .f32 :=
  VO.read (Elt F) (VO.writes (Elt F) VO.junk (stripsAt3 m c t h))
theorem cover3 (c : Dev nD) (t : Fin cfg0.N) (h : t.val % 26 = 25) (y : S256x4096.Idx) : ∃ pc ∈ stripsAt3 m c t h, y ∈ pc.1.set :=
  View.cover_of_tiledL (stripsAt3 m c t h) S16x4096.size (by sl_kernel_rfl) y

/-- What a point leaves in the output's buffer, where it writes there. -/
def blockAt (c : Dev nD) (t : Fin cfg0.N) : Vec F S256x4096 .f32 :=
  if h : t.val % 26 = 22 then quarter0 m c t h
  else if h : t.val % 26 = 23 then quarter1 m c t h
  else if h : t.val % 26 = 24 then quarter2 m c t h
  else if h : t.val % 26 = 25 then quarter3 m c t h
  else fun _ => Scalar.ofBits .f32 0#32
theorem blockAt_0 (c : Dev nD) (t : Fin cfg0.N) (h : t.val % 26 = 22) : blockAt m c t = quarter0 m c t h := by
  unfold blockAt
  rw [dif_pos h]
theorem blockAt_1 (c : Dev nD) (t : Fin cfg0.N) (h : t.val % 26 = 23) : blockAt m c t = quarter1 m c t h := by
  unfold blockAt
  rw [dif_neg (by omega), dif_pos h]
theorem blockAt_2 (c : Dev nD) (t : Fin cfg0.N) (h : t.val % 26 = 24) : blockAt m c t = quarter2 m c t h := by
  unfold blockAt
  rw [dif_neg (by omega), dif_neg (by omega), dif_pos h]
theorem blockAt_3 (c : Dev nD) (t : Fin cfg0.N) (h : t.val % 26 = 25) : blockAt m c t = quarter3 m c t h := by
  unfold blockAt
  rw [dif_neg (by omega), dif_neg (by omega), dif_neg (by omega), dif_pos h]

/-- What holds between points: before the first the scratch buffers at anything, afterwards the sums, and
    from a step 21 to the end of the row tile the scales. -/
def PhiS (c : Dev nD) : (n : ℕ) → n ≤ cfg0.N → sProp 𝕄
  | 0, _ => Pipeline.ΦA spec0 c
  | n + 1, hn => iprop(iprop(owns (c : Thread nD τ) accM fullShare (accN m c n hn) ∗ (∃ d, ⌜21 ≤ n % 26 → d = rsN m c n hn⌝ ∗ owns (c : Thread nD τ) rsM fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accN m c n hn) ∗ (∃ d, ⌜21 ≤ n % 26 → d = rsN m c n hn⌝ ∗ owns (c : Thread nD τ) rsM fullShare d)) ∗ (∃ r, prngReg c r)) := rfl
theorem PhiS_pos (c : Dev nD) (n : ℕ) (h : n ≤ cfg0.N) (hz : n ≠ 0) :
    PhiS m c n h = iprop(iprop(owns (c : Thread nD τ) accM fullShare (accN m c (n - 1) (by omega)) ∗ (∃ d, ⌜21 ≤ (n - 1) % 26 → d = rsN m c (n - 1) (by omega)⌝ ∗ owns (c : Thread nD τ) rsM fullShare d)) ∗ (∃ r, prngReg c r)) := by
  cases n with
  | zero => exact absurd rfl hz
  | succ n => rfl

/-- The contents the run is proved with. -/
def dats (_ : Fin 1) (c : Dev nD) : Dat τ (Elt F) Unit ℕ (UR sig nD τ) ℕ cfg0 c where
  A w := V m c (Pipeline.arrRef spec0 w)
  after w t := match w with
    | ⟨0, _⟩ => x0At m c t
    | ⟨1, _⟩ => x1At m c t
    | ⟨2, _⟩ => iblk m c 2 t
    | ⟨3, _⟩ => iblk m c 3 t
    | ⟨4, _⟩ => iblk m c 4 t
    | ⟨5, _⟩ => blockAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = x0At m c t := by dsimp only [dats]
theorem after1 (c : Dev nD) (t : Fin cfg0.N) : (dats m 0 c).after 1 t = x1At m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = blockAt m c t := by dsimp only [dats]

/-- What the buffer of window 0 holds: the part of the block inside the array, and outside it anything. -/
theorem before0 (c : Dev nD) (t : Fin cfg0.N) (d) :
    (dats m 0 c).before 0 t d = (cfg0.win 0).fill (grid0.coords t) d (iblk m c 0 t) :=
  ((dats m 0 c).before_in_eq_fetched 0 rfl (fun _ => rfl)
      (fun t t' h => funext fun a => congrArg (fun x => Pipeline.Clip.of x _ _) (congrFun h a))
      (fun t => by rw [after0]; unfold x0At; rw [Window.cut_fill]; unfold Dat.blockOf iblk; rw [A_eq]) t d).trans
    (by unfold Dat.fetched Dat.blockOf iblk; rw [A_eq])
theorem cut0 (c : Dev nD) (t : Fin cfg0.N) : (cfg0.win 0).cut (grid0.coords t) ((dats m 0 c).after 0 t) = iblk m c 0 t := by
  rw [after0]; exact Window.cut_fill _ _ _ _
/-- Before the last step of the sums the block lies inside the array. -/
theorem inside0 : ∀ t : Fin cfg0.N, t.val % 26 ≤ 20 → (cfg0.win 0).clipped (grid0.coords t) = false :=
  (by decide +kernel : ∀ t : Fin grid0.N, t.val % 26 ≤ 20 → (cfg0.win 0).clipped (grid0.coords t) = false)
theorem fill0 (c : Dev nD) (t : Fin cfg0.N) (h : t.val % 26 ≤ 20) (d) :
    (cfg0.win 0).fill (grid0.coords t) d (iblk m c 0 t) = x0At m c t :=
  Pipeline.fill_of_clip_none (cfg := cfg0) 0 (grid0.coords t) (((cfg0.win 0).clipped_eq_false_iff _).mp (inside0 t h)) _ _ _

/-- What the buffer of window 1 holds: the part of the block inside the array, and outside it anything. -/
theorem before1 (c : Dev nD) (t : Fin cfg0.N) (d) :
    (dats m 0 c).before 1 t d = (cfg0.win 1).fill (grid0.coords t) d (iblk m c 1 t) :=
  ((dats m 0 c).before_in_eq_fetched 1 rfl (fun _ => rfl)
      (fun t t' h => funext fun a => congrArg (fun x => Pipeline.Clip.of x _ _) (congrFun h a))
      (fun t => by rw [after1]; unfold x1At; rw [Window.cut_fill]; unfold Dat.blockOf iblk; rw [A_eq]) t d).trans
    (by unfold Dat.fetched Dat.blockOf iblk; rw [A_eq])
theorem cut1 (c : Dev nD) (t : Fin cfg0.N) : (cfg0.win 1).cut (grid0.coords t) ((dats m 0 c).after 1 t) = iblk m c 1 t := by
  rw [after1]; exact Window.cut_fill _ _ _ _
/-- Before the last step of the sums the block lies inside the array. -/
theorem inside1 : ∀ t : Fin cfg0.N, t.val % 26 ≤ 20 → (cfg0.win 1).clipped (grid0.coords t) = false :=
  (by decide +kernel : ∀ t : Fin grid0.N, t.val % 26 ≤ 20 → (cfg0.win 1).clipped (grid0.coords t) = false)
theorem fill1 (c : Dev nD) (t : Fin cfg0.N) (h : t.val % 26 ≤ 20) (d) :
    (cfg0.win 1).fill (grid0.coords t) d (iblk m c 1 t) = x1At m c t :=
  Pipeline.fill_of_clip_none (cfg := cfg0) 1 (grid0.coords t) (((cfg0.win 1).clipped_eq_false_iff _).mp (inside1 t h)) _ _ _

/-- At that step the halves that are used lie inside. -/
theorem xsize0 : ∀ t : Fin cfg0.N, t.val % 26 = 21 → (cfg0.win 0).xsize (grid0.coords t) 0 = 1024 ∧ (cfg0.win 0).xsize (grid0.coords t) 1 = 256 :=
  (by decide +kernel : ∀ t : Fin grid0.N, t.val % 26 = 21 → (cfg0.win 0).xsize (grid0.coords t) 0 = 1024 ∧ (cfg0.win 0).xsize (grid0.coords t) 1 = 256)
theorem xsize1 : ∀ t : Fin cfg0.N, t.val % 26 = 21 → (cfg0.win 1).xsize (grid0.coords t) 0 = 256 ∧ (cfg0.win 1).xsize (grid0.coords t) 1 = 4096 :=
  (by decide +kernel : ∀ t : Fin grid0.N, t.val % 26 = 21 → (cfg0.win 1).xsize (grid0.coords t) 0 = 256 ∧ (cfg0.win 1).xsize (grid0.coords t) 1 = 4096)
theorem fill_moved (w : Fin cfg0.W) (i : grid0.Coords) {α : Type} (d d' : (cfg0.win w).block.Idx → α) (g : ((cfg0.win w).xblock i).Idx → α)
    (j : (cfg0.win w).block.Idx) (h : ∀ a, (j a).val < (cfg0.win w).xsize i a) : (cfg0.win w).fill i d g j = (cfg0.win w).fill i d' g j := by
  have hm := ((cfg0.win w).moved_iff i j).mpr h
  unfold Window.fill
  rw [dif_pos hm, dif_pos hm]
theorem half0 (c : Dev nD) (t : Fin cfg0.N) (h : t.val % 26 = 21) (d) :
    leftHalf ((cfg0.win 0).fill (grid0.coords t) d (iblk m c 0 t)) = leftHalf (x0At m c t) := by
  funext j
  unfold leftHalf x0At
  refine fill_moved 0 (grid0.coords t) _ _ _ _ fun a => ?_
  match a with
  | ⟨0, _⟩ => exact lt_of_lt_of_eq (lt_of_eq_of_lt ((Rect.idx_unit_val (s := S1024x512) ![0, 0] S1024x256.size inb_S1024x512_S1024x256_0_0 j 0).trans (Nat.zero_add _)) (j 0).isLt) (xsize0 t h).1.symm
  | ⟨1, _⟩ => exact lt_of_lt_of_eq (lt_of_eq_of_lt ((Rect.idx_unit_val (s := S1024x512) ![0, 0] S1024x256.size inb_S1024x512_S1024x256_0_0 j 1).trans (Nat.zero_add _)) (j 1).isLt) (xsize0 t h).2.symm
theorem half1 (c : Dev nD) (t : Fin cfg0.N) (h : t.val % 26 = 21) (d) :
    topHalf ((cfg0.win 1).fill (grid0.coords t) d (iblk m c 1 t)) = topHalf (x1At m c t) := by
  funext j
  unfold topHalf x1At
  refine fill_moved 1 (grid0.coords t) _ _ _ _ fun a => ?_
  match a with
  | ⟨0, _⟩ => exact lt_of_lt_of_eq (lt_of_eq_of_lt ((Rect.idx_unit_val (s := S512x4096) ![0, 0] S256x4096.size inb_S512x4096_S256x4096_0_0 j 0).trans (Nat.zero_add _)) (j 0).isLt) (xsize1 t h).1.symm
  | ⟨1, _⟩ => exact lt_of_lt_of_eq (lt_of_eq_of_lt ((Rect.idx_unit_val (s := S512x4096) ![0, 0] S256x4096.size inb_S512x4096_S256x4096_0_0 j 1).trans (Nat.zero_add _)) (j 1).isLt) (xsize1 t h).2.symm
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is run from at a point … -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
/-- … what it returns at the steps of the sums, which leave the output alone … -/
def postSum (c : Dev nD) (t : Fin cfg0.N) : sProp 𝕄 :=
  iprop((dats m 0 c).Φ t.succ ∗ (dats m 0 c).owesAt () t.succ
    ∗ (∃ d, owns (c : Thread nD τ) (ms0 t) fullShare ((cfg0.win 0).fill (grid0.coords t) d ((cfg0.win 0).cut (grid0.coords t) ((dats m 0 c).after 0 t))))
    ∗ (∃ d, owns (c : Thread nD τ) (ms1 t) fullShare ((cfg0.win 1).fill (grid0.coords t) d ((cfg0.win 1).cut (grid0.coords t) ((dats m 0 c).after 1 t))))
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare ((dats m 0 c).before 5 t d)))

/-- … and at the steps that write it. -/
def postOut (c : Dev nD) (t : Fin cfg0.N) : sProp 𝕄 :=
  iprop((dats m 0 c).Φ t.succ ∗ (dats m 0 c).owesAt () t.succ
    ∗ (∃ d, owns (c : Thread nD τ) (ms0 t) fullShare ((cfg0.win 0).fill (grid0.coords t) d ((cfg0.win 0).cut (grid0.coords t) ((dats m 0 c).after 0 t))))
    ∗ (∃ d, owns (c : Thread nD τ) (ms1 t) fullShare ((cfg0.win 1).fill (grid0.coords t) d ((cfg0.win 1).cut (grid0.coords t) ((dats m 0 c).after 1 t))))
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-! The body at a point, case by case. -/

set_option maxHeartbeats 4000000 in
theorem soundA (c : Dev nD) (t : Fin cfg0.N) (h : t.val % 26 = 0) :
    bodyPre m c t ⊢ wp frame (wpE (defs₀ (F := F)) Variants.none c none) Set.univ (bodyAt0 t) (fun _ => postSum m c t) := by
  unfold bodyPre postSum bodyAt0
  simp only [before0, before1, before2, before3, before4]
  rw [show (dats m 0 c).owesAt () t.succ = (dats m 0 c).owesAt () t.castSucc from rfl, cut0, cut1, after2, after3, after4]
  rw [show (dats m 0 c).Φ t.succ = PhiS m c (t.val + 1) t.isLt from rfl, PhiS_succ]
  have hN : t.val < 832 := lt_of_lt_of_eq t.isLt (show cfg0.N = 832 from N_0)
  rw [accN_A m c t.val t.isLt h]
  by_cases hz : t.val = 0
  · rw [PhiS_castSucc m c t, PhiS_zero m c _ _ hz, PhiA0_eq]
    iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩⟩
    iapply (runA c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond0 t).mpr (by omega)) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) ds1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    have eacc : k0_pay1 ((cfg0.win 0).fill (grid0.coords t) d0 (iblk m c 0 t)) ((cfg0.win 1).fill (grid0.coords t) d1 (iblk m c 1 t)) = k0_pay1 (x0At m c t) (x1At m c t) := by
      rw [fill0 m c t (by omega) d0, fill1 m c t (by omega) d1]
    rw [eacc]
    isplitl [HS0 HS1 Hg]
    · isplitl [HS0 HS1]
      · isplitl [HS0]
        · iexact HS0
        · iexists _; isplitr
          swap; · iexact HS1
          ipureintro; intro hh; omega
      iexact Hg
    isplitl [Ho]; · iexact Ho
    isplitl [H0]; · iexists d0; iexact H0
    isplitl [H1]; · iexists d1; iexact H1
    isplitl [H2]; · iexact H2
    isplitl [H3]; · iexact H3
    isplitl [H4]; · iexact H4
    iexists d5; iexact H5
  · rw [PhiS_castSucc m c t, PhiS_pos m c _ _ hz]
    iintro ⟨⟨⟨HS0, ⟨%ds1, -, HS1⟩⟩, Hg⟩, Ho, ⟨%d0, H0⟩, ⟨%d1, H1⟩, ⟨%d2, H2⟩, ⟨%d3, H3⟩, ⟨%d4, H4⟩, ⟨%d5, H5⟩⟩
    iapply (runA c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond0 t).mpr (by omega)) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) ds1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexact HS1
    iintro ⟨H0, H1, H2, H3, H4, H5, HS0, HS1⟩
    have eacc : k0_pay1 ((cfg0.win 0).fill (grid0.coords t) d0 (iblk m c 0 t)) ((cfg0.win 1).fill (grid0.coords t) d1 (iblk m c 1 t)) = k0_pay1 (x0At m c t) (x1At m c t) := by
      rw [fill0 m c t (by omega) d0, fill1 m c t (by omega) d1]
    rw [eacc]
    isplitl [HS0 HS1 Hg]
    · isplitl [HS0 HS1]
      · isplitl [HS0]
        · iexact HS0
        · iexists _; isplitr
          swap; · iexact HS1
          ipureintro; intro hh; omega
      iexact Hg
    isplitl [Ho]; · iexact Ho
    isplitl [H0]; · iexists d0; iexact H0
    isplitl [H1]; · iexists d1; iexact H1
    isplitl [H2]; · iexact H2
    isplitl [H3]; · iexact H3
    isplitl [H4]; · iexact H4
    iexists d5; iexact H5

set_option maxHeartbeats 4000000 in
theorem soundB (c : Dev nD) (t : Fin cfg0.N) (h1 : 1 ≤ t.val % 26) (h2 : t.val % 26 ≤ 20) :
    bodyPre m c t ⊢ wp frame (wpE (defs₀ (F := F)) Variants.none c none) Set.univ (bodyAt0 t) (fun _ => postSum m c t) := by
  unfold bodyPre postSum bodyAt0
  simp only [before0, before1, before2, before3, before4]
  rw [show (dats m 0 c).owesAt () t.succ = (dats m 0 c).owesAt () t.castSucc from rfl, cut0, cut1, after2, after3, after4]
  rw [show (dats m 0 c).Φ t.succ = PhiS m c (t.val + 1) t.isLt from rfl, PhiS_succ]
  have hN : t.val < 832 := lt_of_lt_of_eq t.isLt (show cfg0.N = 832 from N_0)
  rw [accN_B m c t.val t.isLt h1 h2]
  have hz : t.val ≠ 0 := fun e => by rw [e] at h1; exact absurd h1 (by decide)
  rw [PhiS_castSucc m c t, PhiS_pos m c _ _ hz]
  iintro ⟨⟨⟨HS0, ⟨%ds1, -, HS1⟩⟩, Hg⟩, Ho, ⟨%d0, H0⟩, ⟨%d1, H1⟩, ⟨%d2, H2⟩, ⟨%d3, H3⟩, ⟨%d4, H4⟩, ⟨%d5, H5⟩⟩
  iapply (runB c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) ((hcond1 t).mpr (by omega)) (fun h => by have := (hcond2 t).mp h; omega) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) (accN m c (t.val - 1) (by omega)) ds1 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  have eacc : k0_pay2 ((cfg0.win 0).fill (grid0.coords t) d0 (iblk m c 0 t)) ((cfg0.win 1).fill (grid0.coords t) d1 (iblk m c 1 t)) (accN m c (t.val - 1) (by omega)) = k0_pay2 (x0At m c t) (x1At m c t) (accN m c (t.val - 1) (by omega)) := by
    rw [fill0 m c t h2 d0, fill1 m c t h2 d1]
  rw [eacc]
  isplitl [HS0 HS1 Hg]
  · isplitl [HS0 HS1]
    · isplitl [HS0]
      · iexact HS0
      · iexists _; isplitr
        swap; · iexact HS1
        ipureintro; intro hh; omega
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  iexists d5; iexact H5

set_option maxHeartbeats 4000000 in
theorem soundC (c : Dev nD) (t : Fin cfg0.N) (h : t.val % 26 = 21) :
    bodyPre m c t ⊢ wp frame (wpE (defs₀ (F := F)) Variants.none c none) Set.univ (bodyAt0 t) (fun _ => postSum m c t) := by
  unfold bodyPre postSum bodyAt0
  simp only [before0, before1, before2, before3, before4]
  rw [show (dats m 0 c).owesAt () t.succ = (dats m 0 c).owesAt () t.castSucc from rfl, cut0, cut1, after2, after3, after4]
  rw [show (dats m 0 c).Φ t.succ = PhiS m c (t.val + 1) t.isLt from rfl, PhiS_succ]
  have hN : t.val < 832 := lt_of_lt_of_eq t.isLt (show cfg0.N = 832 from N_0)
  rw [accN_C m c t.val t.isLt h, rsN_C m c t.val t.isLt h]
  have hz : t.val ≠ 0 := fun e => by rw [e] at h; exact absurd h (by decide)
  rw [PhiS_castSucc m c t, PhiS_pos m c _ _ hz]
  iintro ⟨⟨⟨HS0, ⟨%ds1, -, HS1⟩⟩, Hg⟩, Ho, ⟨%d0, H0⟩, ⟨%d1, H1⟩, ⟨%d2, H2⟩, ⟨%d3, H3⟩, ⟨%d4, H4⟩, ⟨%d5, H5⟩⟩
  iapply (runC c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) ((hcond2 t).mpr (by omega)) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) (accN m c (t.val - 1) (by omega)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexists _; iexact HS1
  iintro ⟨H0, H1, H2, H3, H4, H5, HS0, HS1⟩
  rw [half0 m c t h d0, half1 m c t h d1]
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  iexists d5; iexact H5

set_option maxHeartbeats 4000000 in
theorem soundR0 (c : Dev nD) (t : Fin cfg0.N) (h : t.val % 26 = 22) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 832 := lt_of_lt_of_eq t.isLt (show cfg0.N = 832 from N_0)
  rw [blockAt_0 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR0 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) ((hcond3 t).mpr (by omega)) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover0 m c t h)

set_option maxHeartbeats 4000000 in
theorem soundR1 (c : Dev nD) (t : Fin cfg0.N) (h : t.val % 26 = 23) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 832 := lt_of_lt_of_eq t.isLt (show cfg0.N = 832 from N_0)
  rw [blockAt_1 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR1 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) (fun h => by have := (hcond3 t).mp h; omega) ((hcond4 t).mpr (by omega)) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover1 m c t h)

set_option maxHeartbeats 4000000 in
theorem soundR2 (c : Dev nD) (t : Fin cfg0.N) (h : t.val % 26 = 24) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 832 := lt_of_lt_of_eq t.isLt (show cfg0.N = 832 from N_0)
  rw [blockAt_2 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR2 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) (fun h => by have := (hcond3 t).mp h; omega) (fun h => by have := (hcond4 t).mp h; omega) ((hcond5 t).mpr (by omega)) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover2 m c t h)

set_option maxHeartbeats 4000000 in
theorem soundR3 (c : Dev nD) (t : Fin cfg0.N) (h : t.val % 26 = 25) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 832 := lt_of_lt_of_eq t.isLt (show cfg0.N = 832 from N_0)
  rw [blockAt_3 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR3 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr (by omega)) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover3 m c t h)

theorem defs₀_row (t : Fin cfg0.N) :
    defs₀ (F := F) .tc cfg0.body (cfg0.bodyArgs t (cfg0.slots t)) = bodyAt0 t := by
  unfold defs₀; rw [Defs.onTc_tc]

/-- Of the two overhanging inputs only the part inside the array is asked for. -/
theorem loose0 : cfg0.loose 0 = true := rfl
theorem loose1 : cfg0.loose 1 = true := rfl

/-- The steps of the sums leave the output's buffer alone and do not write it back; the others write it. -/
theorem idle5 : ∀ t : Fin cfg0.N, t.val % 26 ≤ 21 → idle0 5 (grid0.coords t) = true :=
  (by decide +kernel : ∀ t : Fin grid0.N, t.val % 26 ≤ 21 → idle0 5 (grid0.coords t) = true)
theorem live5 : ∀ t : Fin cfg0.N, 22 ≤ t.val % 26 → idle0 5 (grid0.coords t) = false :=
  (by decide +kernel : ∀ t : Fin grid0.N, 22 ≤ t.val % 26 → idle0 5 (grid0.coords t) = false)
theorem stay5 : ∀ t : Fin cfg0.N, t.val % 26 ≤ 21 → (cfg0.win 5).flush t = false :=
  (by decide +kernel : ∀ t : Fin grid0.N, t.val % 26 ≤ 21 → (cfg0.win 5).flush t = false)

theorem sound_sum (c : Dev nD) (t : Fin cfg0.N) (h : t.val % 26 ≤ 21) :
    bodyPre m c t ⊢ wp frame (wpE (defs₀ (F := F)) Variants.none c none) Set.univ (bodyAt0 t) (fun _ => postSum m c t) := by
  by_cases h0 : t.val % 26 = 0
  · exact soundA m c t h0
  · by_cases h1 : t.val % 26 ≤ 20
    · exact soundB m c t (by omega) h1
    · exact soundC m c t (by omega)

theorem sound_out (c : Dev nD) (t : Fin cfg0.N) (h : 22 ≤ t.val % 26) :
    bodyPre m c t ⊢ wp frame (wpE (defs₀ (F := F)) Variants.none c none) Set.univ (bodyAt0 t) (fun _ => postOut m c t) := by
  by_cases h0 : t.val % 26 = 22
  · exact soundR0 m c t h0
  · by_cases h1 : t.val % 26 = 23
    · exact soundR1 m c t h1
    · by_cases h2 : t.val % 26 = 24
      · exact soundR2 m c t h2
      · exact soundR3 m c t (by omega)

theorem body_obligation (c : Dev nD) : BodyObligationLoose (dats (F := F) m 0 c) (defs₀ (F := F)) Variants.none () Set.univ := fun t => by
  rw [bigSep_W0, bigSep_W0, defs₀_row]
  simp only [loose0, loose1]
  by_cases h : t.val % 26 ≤ 21
  · refine triple_restated (sound_sum m c t h) rfl .rfl fun _ => ?_
    unfold postSum
    rw [show idle0 5 (cfg0.grid.coords t) = true from idle5 t h, stay5 t h]
    iintro H; iexact H
  · refine triple_restated (sound_out m c t (by omega)) rfl .rfl fun _ => ?_
    unfold postOut
    rw [show idle0 5 (cfg0.grid.coords t) = false from live5 t (by omega)]
    iintro H; iexact H

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d, -, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 832 := N_0; omega)

set_option backward.isDefEq.respectTransparency.types false in
/-- The run of the grid: it ends with every array at what the blocks written make of it, and with no
    semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged by the run … -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- … and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Down

end
-- ==== Proof.Words.Down.lean ====
/-
  The run of the down-projection on the latent tokens on words. Its text is the one read over the extended reals,
  and the run of that text is proved for any reading of the floats: here it is taken over. The two body tables are
  compared label by label.
-/
module

public import proofs.«01_k».proof.Proof.Down.Frame
public import proofs.«01_k».proof.Proof.Gen.Kernel2.Frame
public import Idealize.ShloMosaic.Lib.Claim

@[expose] public section

set_option maxRecDepth 16384

noncomputable section

namespace Cert.Kernel2.Down

open Cert.Kernel2 Cert.Kernel2.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The kernel's body is the same under its label in both texts. -/
theorem bodies : defs₀ (F := F) = Cert.Kernel2Ideal.defs₀ (F := F) := by
  funext p l a
  cases p
  · match l, a with
    | 0, (t, s) => rfl
  · rfl
  · rfl

/-- So the body tables are equal. -/
theorem table : defs (F := F) = Cert.Kernel2Ideal.defs (F := F) :=
  congrArg (Pipeline.defs (pcfgs (F := F))) bodies

/-- The arguments are unchanged by the run, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [table]
  exact Cert.Kernel2Ideal.Down.frame (F := F) m ρ

end Cert.Kernel2.Down

end
-- ==== Proof.Down.Spec.lean ====
/-
  The down-projection as a function of its arguments: a matrix product, a root mean square norm of each of its rows, and
  a gated sum.
-/
module

public import Idealize.ShloMosaic.PureOps.Ideal

@[expose] public section

noncomputable section

open Idealize.ShloMosaic

namespace Cert.Down

/-- A row's scale, of the row. -/
def scaleOf (y : Fin 4096 → EReal) : EReal :=
  Ideal.rsqrt (Ideal.div (∑ q, y q * y q) (Ideal.ofBits .f32 0x45800000#32) + Ideal.ofBits .f32 0x358637BD#32)

/-- The arguments: the tokens, the weights by column, the array added to, the gates of each sequence, and the norm's scale. -/
structure Arrays where
  tokens : Fin 32768 → Fin 11008 → EReal
  weight : Fin 4096 → Fin 11008 → EReal
  rest : Fin 32768 → Fin 4096 → EReal
  gate : Fin 8 → Fin 4096 → EReal
  scale : Fin 4096 → EReal

namespace Arrays
variable (A : Arrays)

/-- The matrix product. -/
def dot (i : Fin 32768) (q : Fin 4096) : EReal := ∑ l, A.tokens i l * A.weight q l

/-- The result. -/
def result (i : Fin 32768) (q : Fin 4096) : EReal :=
  A.rest i q + A.gate ⟨i.val / 4096, by omega⟩ q * (A.dot i q * scaleOf (A.dot i) * A.scale q)

end Arrays
end Cert.Down
-- ==== Proof.Down.Entry.lean ====
/-
  The blocks the down-projection's launch stages, as parts of its arguments.
-/
module

public import proofs.«01_k».proof.Proof.Down.Frame
public import proofs.«01_k».proof.Proof.Down.Spec
public import Idealize.ShloMosaic.Lib.Pointwise
public import Idealize.ShloMosaic.Lib.Pipeline.Covers

@[expose] public section

set_option maxRecDepth 16384

noncomputable section

open Idealize.ShloMosaic Idealize.ShloMosaic.TcCoe Idealize.SL.Sem
open Idealize.ShloMosaic.Pipeline (Window)

namespace Cert.Kernel2Ideal.Down

open Cert.Kernel2Ideal Cert.Kernel2Ideal.Gen Cert.Down

variable (m : (ℓ : Loc nD τ sig) → Buf (Elt Ideal) ℓ) (c : Dev nD)

/-- The arguments as functions. -/
def arrays : Arrays where
  tokens i l := m ((c : Thread nD τ).loc main_arg0) (ix2 i l)
  weight q l := m ((c : Thread nD τ).loc main_arg1) (ix2 l q)
  rest i q := m ((c : Thread nD τ).loc main_arg2) (ix2 i q)
  gate b q := m ((c : Thread nD τ).loc main_arg3) (ix3 b (0 : Fin 1) q)
  scale q := m ((c : Thread nD τ).loc main_arg4) (ix1 q)

/-- The weights as the launch holds them. -/
theorem V_weight (l : Fin 11008) (q : Fin 4096) : V m c main_v0 (ix2 l q) = m ((c : Thread nD τ).loc main_arg1) (ix2 l q) := by
  unfold V
  entry_read
  pointwise

/-- The norm's scale as the launch holds it. -/
theorem V_scale (q : Fin 4096) : V m c main_v1 (ix2 (0 : Fin 1) q) = m ((c : Thread nD τ).loc main_arg4) (ix1 q) := by
  unfold V
  entry_read
  pointwise

/-- The block each window reads or writes at a grid point. -/
theorem indices : ∀ t : Fin cfg0.N, win0_0.index t = ![(grid0.coords t 0).val, min (grid0.coords t 1).val 21] ∧ win0_1.index t = ![min (grid0.coords t 1).val 21, 0]
    ∧ win0_2.index t = ![4 * (grid0.coords t 0).val + ((grid0.coords t 1).val - 22), 0]
    ∧ win0_3.index t = ![(grid0.coords t 0).val / 4, 0, 0] ∧ win0_4.index t = ![0, 0]
    ∧ win0_5.index t = ![4 * (grid0.coords t 0).val + ((grid0.coords t 1).val - 22), 0] := by decide +kernel

/-- A grid point's coordinates. -/
theorem coords_val : ∀ t : Fin cfg0.N, (grid0.coords t 0).val = t.val / 26 ∧ (grid0.coords t 1).val = t.val % 26 := by decide +kernel

/-- How much of a point's blocks of tokens and weights lies in the arrays. -/
theorem sizes : ∀ t : Fin cfg0.N, t.val % 26 ≤ 21 → (win0_0.xsize (grid0.coords t) 0 = 1024 ∧ win0_0.xsize (grid0.coords t) 1 = min 512 (11008 - 512 * (t.val % 26)))
    ∧ win0_1.xsize (grid0.coords t) 0 = min 512 (11008 - 512 * (t.val % 26)) ∧ win0_1.xsize (grid0.coords t) 1 = 4096 := by decide +kernel

/-- The block of tokens, inside the array. -/
theorem tokens_apply (t : Fin cfg0.N) (ht : t.val % 26 ≤ 21) (r : Fin 1024) (k : Fin 512) (i : Fin 32768) (l : Fin 11008)
    (hi : i.val = t.val / 26 * 1024 + r.val) (hl : l.val = 512 * (t.val % 26) + k.val) : x0At m c t (ix2 r k) = (arrays m c).tokens i l := by
  have hs := (sizes t ht).1
  have hcv := coords_val t
  have hm : (cfg0.win 0).moved (grid0.coords t) (ix2 r k) = true := ((cfg0.win 0).moved_iff (grid0.coords t) (ix2 r k)).mpr fun a => match a with
    | ⟨0, _⟩ => lt_of_lt_of_eq r.isLt hs.1.symm
    | ⟨1, _⟩ => lt_of_lt_of_eq (show k.val < min 512 (11008 - 512 * (t.val % 26)) by omega) hs.2.symm
  unfold x0At Window.fill
  rw [dif_pos hm]
  unfold arrays
  blk_ext [iblk, V, indices t]

/-- The block of weights, inside the array. -/
theorem weight_apply (t : Fin cfg0.N) (ht : t.val % 26 ≤ 21) (k : Fin 512) (q : Fin 4096) (l : Fin 11008)
    (hl : l.val = 512 * (t.val % 26) + k.val) : x1At m c t (ix2 k q) = (arrays m c).weight q l := by
  have hs := (sizes t ht).2
  have hcv := coords_val t
  have hm : (cfg0.win 1).moved (grid0.coords t) (ix2 k q) = true := ((cfg0.win 1).moved_iff (grid0.coords t) (ix2 k q)).mpr fun a => match a with
    | ⟨0, _⟩ => lt_of_lt_of_eq (show k.val < min 512 (11008 - 512 * (t.val % 26)) by omega) hs.1.symm
    | ⟨1, _⟩ => lt_of_lt_of_eq q.isLt hs.2.symm
  unfold x1At Window.fill
  rw [dif_pos hm]
  refine Eq.trans ?_ (V_weight m c l q)
  blk_ext [iblk, indices t]

/-- The quarter of a row tile that is added to. -/
theorem rest_apply (t : Fin cfg0.N) (ht : 22 ≤ t.val % 26) (p : Fin 256) (q : Fin 4096) (i : Fin 32768)
    (hi : i.val = t.val / 26 * 1024 + 256 * (t.val % 26 - 22) + p.val) : iblk m c 2 t (ix2 p q) = (arrays m c).rest i q := by
  have hcv := coords_val t
  unfold arrays
  blk_ext [iblk, V, indices t]

/-- The gates of the row tile's sequence. -/
theorem gate_apply (t : Fin cfg0.N) (q : Fin 4096) (b : Fin 8) (hb : b.val = t.val / 26 / 4) :
    iblk m c 3 t (ix3 (0 : Fin 1) (0 : Fin 1) q) = (arrays m c).gate b q := by
  have hcv := coords_val t
  unfold arrays
  blk_ext [iblk, V, indices t]

/-- The norm's scale. -/
theorem scale_apply (t : Fin cfg0.N) (q : Fin 4096) : iblk m c 4 t (ix2 (0 : Fin 1) q) = (arrays m c).scale q := by
  refine Eq.trans ?_ (V_scale m c q)
  blk_ext [iblk, indices t]

end Cert.Kernel2Ideal.Down
-- ==== Proof.Down.Tile.lean ====
/-
  The blocks the down-projection's steps compute, read one element at a time over the extended reals.
-/
module

public import proofs.«01_k».proof.Proof.Gen.Kernel2Ideal.Skeleton
public import proofs.«01_k».proof.Proof.Down.Spec
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Kernel2Ideal.Down

open Cert.Kernel2Ideal Cert.Kernel2Ideal.Gen Cert.Down

/-- The first product. -/
theorem pay1_apply (x : Vec Ideal S1024x512 .bf16) (w : Vec Ideal S512x4096 .bf16) (r : Fin 1024) (q : Fin 4096) :
    k0_pay1 x w (ix2 r q) = ∑ l : Fin 512, HMul.hMul (α := EReal) (β := EReal) (x (ix2 r l)) (w (ix2 l q)) := by
  pointwise [k0_pay1]

/-- A product added to the sums. -/
theorem pay2_apply (x : Vec Ideal S1024x512 .bf16) (w : Vec Ideal S512x4096 .bf16) (a : Vec Ideal S1024x4096 .f32) (r : Fin 1024) (q : Fin 4096) :
    k0_pay2 x w a (ix2 r q) = HAdd.hAdd (α := EReal) (β := EReal) (a (ix2 r q)) (∑ l : Fin 512, HMul.hMul (α := EReal) (β := EReal) (x (ix2 r l)) (w (ix2 l q))) := by
  pointwise [k0_pay2]

/-- The last, half a product. -/
theorem pay3_apply (x : Vec Ideal S1024x256 .bf16) (w : Vec Ideal S256x4096 .bf16) (a : Vec Ideal S1024x4096 .f32) (r : Fin 1024) (q : Fin 4096) :
    k0_pay3 x w a (ix2 r q) = HAdd.hAdd (α := EReal) (β := EReal) (a (ix2 r q)) (∑ l : Fin 256, HMul.hMul (α := EReal) (β := EReal) (x (ix2 r l)) (w (ix2 l q))) := by
  pointwise [k0_pay3]

theorem pay4_apply (x : Vec Ideal S1024x256 .bf16) (w : Vec Ideal S256x4096 .bf16) (a : Vec Ideal S1024x4096 .f32) (r : Fin 1024) (q : Fin 4096) :
    k0_pay4 x w a (ix2 r q) = k0_pay3 x w a (ix2 r q) := by
  pointwise [k0_pay4]

/-- The rows' scales. -/
theorem pay5_apply (x : Vec Ideal S1024x256 .bf16) (w : Vec Ideal S256x4096 .bf16) (a : Vec Ideal S1024x4096 .f32) (r : Fin 1024) :
    k0_pay5 x w a (ix2 r (0 : Fin 1)) = scaleOf (fun q => k0_pay3 x w a (ix2 r q)) := by
  unfold scaleOf
  pointwise [k0_pay5]

section
variable (v23 : Vec Ideal S1x1x4096 .f32) (v25 : Vec Ideal S1x4096 .f32) (v33 v35 : Vec Ideal S16x4096 .f32) (v37 : Vec Ideal S16x1 .f32) (p : Fin 16) (q : Fin 4096)

/-- An element of a strip. -/
def stripAt : EReal :=
  HAdd.hAdd (α := EReal) (β := EReal) (v33 (ix2 p q)) (HMul.hMul (α := EReal) (β := EReal) (HMul.hMul (α := EReal) (β := EReal) (v23 (ix3 (0 : Fin 1) (0 : Fin 1) q)) (v25 (ix2 (0 : Fin 1) q)))
    (HMul.hMul (α := EReal) (β := EReal) (v35 (ix2 p q)) (v37 (ix2 p (0 : Fin 1)))))

theorem pay6_apply : k0_pay6 v23 v25 v33 v35 v37 (ix2 p q) = stripAt v23 v25 v33 v35 v37 p q := by
  unfold stripAt
  pointwise [k0_pay6]
theorem pay7_apply : k0_pay7 v23 v25 v33 v35 v37 (ix2 p q) = stripAt v23 v25 v33 v35 v37 p q := by
  unfold stripAt
  pointwise [k0_pay7]
theorem pay8_apply : k0_pay8 v23 v25 v33 v35 v37 (ix2 p q) = stripAt v23 v25 v33 v35 v37 p q := by
  unfold stripAt
  pointwise [k0_pay8]
theorem pay9_apply : k0_pay9 v23 v25 v33 v35 v37 (ix2 p q) = stripAt v23 v25 v33 v35 v37 p q := by
  unfold stripAt
  pointwise [k0_pay9]
end

end Cert.Kernel2Ideal.Down
-- ==== Proof.Down.Sum.lean ====
/-
  The sums and the scales the scratch buffers hold, of the arguments.
-/
module

public import proofs.«01_k».proof.Proof.Down.Entry
public import proofs.«01_k».proof.Proof.Down.Tile
public import Idealize.ShloMosaic.Lib.Pipeline.ValueKit

@[expose] public section

set_option maxRecDepth 16384

noncomputable section

open Idealize.ShloMosaic Idealize.ShloMosaic.TcCoe Idealize.SL.Sem

namespace Cert.Kernel2Ideal.Down

open Cert.Kernel2Ideal Cert.Kernel2Ideal.Gen Cert.Down

variable (m : (ℓ : Loc nD τ sig) → Buf (Elt Ideal) ℓ) (c : Dev nD)

/-- Term `l` of the product's element `(i, q)`, zero past the last. -/
def term (i : Fin 32768) (q : Fin 4096) (l : ℕ) : EReal :=
  if h : l < 11008 then (arrays m c).tokens i ⟨l, h⟩ * (arrays m c).weight q ⟨l, h⟩ else 0

/-- The sum of its first `n` terms. -/
def part (i : Fin 32768) (q : Fin 4096) (n : ℕ) : EReal := ∑ l ∈ Finset.range n, term m c i q l

theorem part_add (i : Fin 32768) (q : Fin 4096) (n k : ℕ) : part m c i q (n + k) = part m c i q n + ∑ l ∈ Finset.range k, term m c i q (n + l) :=
  Finset.sum_range_add _ n k

/-- All its terms make the element. -/
theorem part_all (i : Fin 32768) (q : Fin 4096) : part m c i q 11008 = (arrays m c).dot i q := by
  unfold part Arrays.dot
  rw [Finset.sum_range]
  exact Finset.sum_congr rfl fun l _ => dif_pos l.isLt

/-- The product of a step's blocks. -/
theorem step_apply (t : Fin cfg0.N) (ht : t.val % 26 ≤ 20) (r : Fin 1024) (q : Fin 4096) (i : Fin 32768) (hi : i.val = t.val / 26 * 1024 + r.val) :
    (∑ l : Fin 512, HMul.hMul (α := EReal) (β := EReal) (x0At m c t (ix2 r l)) (x1At m c t (ix2 l q)))
      = ∑ l ∈ Finset.range 512, term m c i q (512 * (t.val % 26) + l) := by
  rw [Finset.sum_range]
  refine Finset.sum_congr rfl fun l _ => ?_
  have hl : 512 * (t.val % 26) + l.val < 11008 := by omega
  refine Eq.trans ?_ (dif_pos hl).symm
  rw [tokens_apply m c t (by omega) r l i ⟨_, hl⟩ hi rfl, weight_apply m c t (by omega) l q ⟨_, hl⟩ rfl]

/-- The product of the last step's halves. -/
theorem last_apply (t : Fin cfg0.N) (ht : t.val % 26 = 21) (r : Fin 1024) (q : Fin 4096) (i : Fin 32768) (hi : i.val = t.val / 26 * 1024 + r.val) :
    (∑ l : Fin 256, HMul.hMul (α := EReal) (β := EReal) (leftHalf (x0At m c t) (ix2 r l)) (topHalf (x1At m c t) (ix2 l q)))
      = ∑ l ∈ Finset.range 256, term m c i q (10752 + l) := by
  rw [Finset.sum_range]
  refine Finset.sum_congr rfl fun l _ => ?_
  have hl : 10752 + l.val < 11008 := by omega
  refine Eq.trans ?_ (dif_pos hl).symm
  have e0 : leftHalf (x0At m c t) (ix2 r l) = x0At m c t (ix2 r (⟨l.val, by omega⟩ : Fin 512)) := by
    unfold leftHalf
    refine congrArg (x0At m c t) (funext fun a => Fin.ext ?_)
    match a with
    | ⟨0, _⟩ => exact (Rect.idx_unit_val (s := S1024x512) ![0, 0] S1024x256.size inb_S1024x512_S1024x256_0_0 (ix2 r l) 0).trans (Nat.zero_add _)
    | ⟨1, _⟩ => exact (Rect.idx_unit_val (s := S1024x512) ![0, 0] S1024x256.size inb_S1024x512_S1024x256_0_0 (ix2 r l) 1).trans (Nat.zero_add _)
  have e1 : topHalf (x1At m c t) (ix2 l q) = x1At m c t (ix2 (⟨l.val, by omega⟩ : Fin 512) q) := by
    unfold topHalf
    refine congrArg (x1At m c t) (funext fun a => Fin.ext ?_)
    match a with
    | ⟨0, _⟩ => exact (Rect.idx_unit_val (s := S512x4096) ![0, 0] S256x4096.size inb_S512x4096_S256x4096_0_0 (ix2 l q) 0).trans (Nat.zero_add _)
    | ⟨1, _⟩ => exact (Rect.idx_unit_val (s := S512x4096) ![0, 0] S256x4096.size inb_S512x4096_S256x4096_0_0 (ix2 l q) 1).trans (Nat.zero_add _)
  rw [e0, e1, tokens_apply m c t (by omega) r _ i ⟨_, hl⟩ hi (by show 10752 + l.val = 512 * (t.val % 26) + l.val; omega),
    weight_apply m c t (by omega) _ q ⟨_, hl⟩ (by show 10752 + l.val = 512 * (t.val % 26) + l.val; omega)]

/-- The sums after a step of whole products. -/
theorem acc_apply : ∀ (n : ℕ) (hn : n < cfg0.N) (_ : n % 26 ≤ 20) (r : Fin 1024) (q : Fin 4096) (i : Fin 32768) (_ : i.val = n / 26 * 1024 + r.val),
    accN m c n hn (ix2 r q) = part m c i q (512 * (n % 26) + 512)
  | n, hn, h, r, q, i, hi => by
    rw [part_add]
    by_cases h0 : n % 26 = 0
    · rw [accN_A m c n hn h0, pay1_apply, step_apply m c ⟨n, hn⟩ h r q i hi]
      have hz : part m c i q (512 * (n % 26)) = 0 := by rw [h0]; rfl
      rw [hz, zero_add]
    · rw [accN_B m c n hn (by omega) h, pay2_apply, step_apply m c ⟨n, hn⟩ h r q i hi,
        acc_apply (n - 1) (by omega) (by omega) r q i (by rw [hi]; omega), show 512 * ((n - 1) % 26) + 512 = 512 * (n % 26) by omega]

/-- After the last product they are the matrix product's elements … -/
theorem sum_apply (n : ℕ) (hn : n < cfg0.N) (h : n % 26 = 21) (r : Fin 1024) (q : Fin 4096) (i : Fin 32768) (hi : i.val = n / 26 * 1024 + r.val) :
    k0_pay3 (leftHalf (x0At m c ⟨n, hn⟩)) (topHalf (x1At m c ⟨n, hn⟩)) (accN m c (n - 1) (by omega)) (ix2 r q) = (arrays m c).dot i q := by
  rw [pay3_apply, last_apply m c ⟨n, hn⟩ h r q i hi, acc_apply m c (n - 1) (by omega) (by omega) r q i (by rw [hi]; omega), ← part_all,
    show 512 * ((n - 1) % 26) + 512 = 10752 by omega, ← part_add]

/-- … and stay so to the end of the row tile. -/
theorem accs_apply : ∀ (n : ℕ) (hn : n < cfg0.N) (_ : 21 ≤ n % 26) (r : Fin 1024) (q : Fin 4096) (i : Fin 32768) (_ : i.val = n / 26 * 1024 + r.val),
    accN m c n hn (ix2 r q) = (arrays m c).dot i q
  | n, hn, h, r, q, i, hi => by
    by_cases h0 : n % 26 = 21
    · rw [accN_C m c n hn h0, pay4_apply]
      exact sum_apply m c n hn h0 r q i hi
    · rw [accN_R m c n hn (by omega)]
      exact accs_apply (n - 1) (by omega) (by omega) r q i (by rw [hi]; omega)

/-- The scales likewise. -/
theorem rs_apply : ∀ (n : ℕ) (hn : n < cfg0.N) (_ : 21 ≤ n % 26) (r : Fin 1024) (i : Fin 32768) (_ : i.val = n / 26 * 1024 + r.val),
    rsN m c n hn (ix2 r (0 : Fin 1)) = scaleOf ((arrays m c).dot i)
  | n, hn, h, r, i, hi => by
    by_cases h0 : n % 26 = 21
    · rw [rsN_C m c n hn h0, pay5_apply]
      exact congrArg scaleOf (funext fun q => sum_apply m c n hn h0 r q i hi)
    · rw [rsN_R m c n hn (by omega)]
      exact rs_apply (n - 1) (by omega) (by omega) r i (by rw [hi]; omega)

end Cert.Kernel2Ideal.Down
-- ==== Proof.Down.Block.lean ====
/-
  The quarters of a row tile that the last four steps write, of what the buffers hold.
-/
module

public import proofs.«01_k».proof.Proof.Down.Frame
public import proofs.«01_k».proof.Proof.Down.Tile
public import Idealize.ShloMosaic.Lib.WholeRead
public import Idealize.ShloMosaic.Lib.Pipeline.ValueKit

@[expose] public section

set_option maxRecDepth 16384

noncomputable section

open Idealize.ShloMosaic Idealize.ShloMosaic.TcCoe Idealize.SL.Sem

namespace Cert.Kernel2Ideal.Down

open Cert.Kernel2Ideal Cert.Kernel2Ideal.Gen Cert.Down

/-- A load through a rectangle of a whole buffer, at an index. -/
theorem load {S : Shape} {e : EltTy} {M : Memref sig .tc .vmem S e} (h : M.IsWhole) (X : S.Idx → Elt Ideal e) (off size : Fin S.rank → ℕ) (inb)
    (x : (Rect.unit off size inb).shape.Idx) (i : S.Idx) (hi : ∀ a, (i a).val = off a + (x a).val) :
    View.readAt (Elt Ideal) M.view (Rect.unit off size inb).toLoadRect (h.unread X) x = X i :=
  (h.readAt_unread X _ x).trans (congrArg X (funext fun a => Fin.ext ((Rect.idx_unit_val off size inb x a).trans (hi a).symm)))

/-- Two coordinates placed at an offset. -/
theorem placed {A B : ℕ} {off : Fin 2 → ℕ} {x : Fin 2 → ℕ} (p : Fin A) (q : Fin B) (h0 : p.val = off 0 + x 0) (h1 : q.val = off 1 + x 1) :
    ∀ a : Fin 2, ((ix2 p q : (⟨2, ![A, B]⟩ : Shape).Idx) a).val = off a + x a := fun a => by
  match a with
  | ⟨0, _⟩ => exact h0
  | ⟨1, _⟩ => exact h1

/-- Element `(p, q)` of a quarter whose row `p` is row `r` of the row tile. -/
def cell (x2 : Vec Ideal S256x4096 .f32) (x3 : Vec Ideal S1x1x4096 .f32) (x4 : Vec Ideal S1x4096 .f32) (xs0 : Vec Ideal S1024x4096 .f32)
    (xs1 : Vec Ideal S1024x1 .f32) (p : Fin 256) (r : Fin 1024) (q : Fin 4096) : EReal :=
  HAdd.hAdd (α := EReal) (β := EReal) (x2 (ix2 p q)) (HMul.hMul (α := EReal) (β := EReal) (HMul.hMul (α := EReal) (β := EReal) (x3 (ix3 (0 : Fin 1) (0 : Fin 1) q)) (x4 (ix2 (0 : Fin 1) q)))
    (HMul.hMul (α := EReal) (β := EReal) (xs0 (ix2 r q)) (xs1 (ix2 r (0 : Fin 1)))))

variable (m : (ℓ : Loc nD τ sig) → Buf (Elt Ideal) ℓ) (c : Dev nD)

/-! The first quarter. -/

/-- Where a trip of its loop reads and writes. -/
theorem place0 : ∀ k : Fin k0_t1_loop.trips, k0_off1 k = ![16 * k.val, 0] ∧ k0_off2 k = ![0 + 16 * k.val, 0] ∧ k0_off3 k = ![0 + 16 * k.val, 0] := by
  decide +kernel

/-- Every strip of its loop that holds an element has its value there. -/
theorem allAt0 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond3 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 0 + p.val) :
    ∀ n : ℕ, View.AllAt (strips0 i arg4 arg8 arg9 hc x3 x4 (harg4.unread x2) (harg8.unread xs0) (harg9.unread xs1) n) (ix2 p q) (cell x2 x3 x4 xs0 xs1 p r q)
  | 0 => View.allAt_nil _ _
  | n + 1 => by
    rw [strips0]
    by_cases h : n < k0_t1_loop.trips
    · rw [dif_pos h]
      unfold strip0
      refine View.allAt_cons_unit _ _ _ _ _ (fun x hx => ?_) (allAt0 i arg4 harg4 arg8 harg8 arg9 harg9 hc x2 x3 x4 xs0 xs1 p r q hr n)
      obtain ⟨e1, e2, e3⟩ := place0 ⟨n, h⟩
      have h0 : p.val = k0_off1 ⟨n, h⟩ 0 + (x 0).val := hx 0
      have h1 : q.val = k0_off1 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off2 ⟨n, h⟩ 0 + (x 0).val := by rw [e2]; show r.val = 0 + 16 * n + (x 0).val; omega
      have g3 : q.val = k0_off2 ⟨n, h⟩ 1 + (x 1).val := by rw [e2]; exact g1.trans (Nat.zero_add _).symm
      have g4 : r.val = k0_off3 ⟨n, h⟩ 0 + (x 0).val := by rw [e3]; show r.val = 0 + 16 * n + (x 0).val; omega
      have g5 : (0 : Fin 1).val = k0_off3 ⟨n, h⟩ 1 + (0 : Fin 1).val := by rw [e3]; rfl
      have hq : (x 1 : Fin 4096) = q := Fin.ext g1.symm
      refine (congrArg _ (eq_ix2 x)).trans ((pay6_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt0 i arg4 harg4 arg8 harg8 arg9 harg9 hc x2 x3 x4 xs0 xs1 p r q hr n

theorem quarter0_apply (t : Fin cfg0.N) (h : t.val % 26 = 22) (p : Fin 256) (r : Fin 1024) (q : Fin 4096) (hr : r.val = 0 + p.val) :
    quarter0 m c t h (ix2 p q) = cell (iblk m c 2 t) (iblk m c 3 t) (iblk m c 4 t) (accAt m c t) (rsAt m c t) p r q := by
  have hc := cover0 m c t h (ix2 p q)
  unfold quarter0
  rw [View.read_writes_junk_eq_canon]
  exact View.canon_eq_of_allAt _ _ _ hc (allAt0 _ _ _ _ _ _ _ _ _ _ _ _ _ p r q hr 16)

/-! The second quarter. -/

/-- Where a trip of its loop reads and writes. -/
theorem place1 : ∀ k : Fin k0_t2_loop.trips, k0_off4 k = ![16 * k.val, 0] ∧ k0_off5 k = ![256 + 16 * k.val, 0] ∧ k0_off6 k = ![256 + 16 * k.val, 0] := by
  decide +kernel

/-- Every strip of its loop that holds an element has its value there. -/
theorem allAt1 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond4 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 256 + p.val) :
    ∀ n : ℕ, View.AllAt (strips1 i arg4 arg8 arg9 hc x3 x4 (harg4.unread x2) (harg8.unread xs0) (harg9.unread xs1) n) (ix2 p q) (cell x2 x3 x4 xs0 xs1 p r q)
  | 0 => View.allAt_nil _ _
  | n + 1 => by
    rw [strips1]
    by_cases h : n < k0_t2_loop.trips
    · rw [dif_pos h]
      unfold strip1
      refine View.allAt_cons_unit _ _ _ _ _ (fun x hx => ?_) (allAt1 i arg4 harg4 arg8 harg8 arg9 harg9 hc x2 x3 x4 xs0 xs1 p r q hr n)
      obtain ⟨e1, e2, e3⟩ := place1 ⟨n, h⟩
      have h0 : p.val = k0_off4 ⟨n, h⟩ 0 + (x 0).val := hx 0
      have h1 : q.val = k0_off4 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off5 ⟨n, h⟩ 0 + (x 0).val := by rw [e2]; show r.val = 256 + 16 * n + (x 0).val; omega
      have g3 : q.val = k0_off5 ⟨n, h⟩ 1 + (x 1).val := by rw [e2]; exact g1.trans (Nat.zero_add _).symm
      have g4 : r.val = k0_off6 ⟨n, h⟩ 0 + (x 0).val := by rw [e3]; show r.val = 256 + 16 * n + (x 0).val; omega
      have g5 : (0 : Fin 1).val = k0_off6 ⟨n, h⟩ 1 + (0 : Fin 1).val := by rw [e3]; rfl
      have hq : (x 1 : Fin 4096) = q := Fin.ext g1.symm
      refine (congrArg _ (eq_ix2 x)).trans ((pay7_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt1 i arg4 harg4 arg8 harg8 arg9 harg9 hc x2 x3 x4 xs0 xs1 p r q hr n

theorem quarter1_apply (t : Fin cfg0.N) (h : t.val % 26 = 23) (p : Fin 256) (r : Fin 1024) (q : Fin 4096) (hr : r.val = 256 + p.val) :
    quarter1 m c t h (ix2 p q) = cell (iblk m c 2 t) (iblk m c 3 t) (iblk m c 4 t) (accAt m c t) (rsAt m c t) p r q := by
  have hc := cover1 m c t h (ix2 p q)
  unfold quarter1
  rw [View.read_writes_junk_eq_canon]
  exact View.canon_eq_of_allAt _ _ _ hc (allAt1 _ _ _ _ _ _ _ _ _ _ _ _ _ p r q hr 16)

/-! The third quarter. -/

/-- Where a trip of its loop reads and writes. -/
theorem place2 : ∀ k : Fin k0_t3_loop.trips, k0_off7 k = ![16 * k.val, 0] ∧ k0_off8 k = ![512 + 16 * k.val, 0] ∧ k0_off9 k = ![512 + 16 * k.val, 0] := by
  decide +kernel

/-- Every strip of its loop that holds an element has its value there. -/
theorem allAt2 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond5 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 512 + p.val) :
    ∀ n : ℕ, View.AllAt (strips2 i arg4 arg8 arg9 hc x3 x4 (harg4.unread x2) (harg8.unread xs0) (harg9.unread xs1) n) (ix2 p q) (cell x2 x3 x4 xs0 xs1 p r q)
  | 0 => View.allAt_nil _ _
  | n + 1 => by
    rw [strips2]
    by_cases h : n < k0_t3_loop.trips
    · rw [dif_pos h]
      unfold strip2
      refine View.allAt_cons_unit _ _ _ _ _ (fun x hx => ?_) (allAt2 i arg4 harg4 arg8 harg8 arg9 harg9 hc x2 x3 x4 xs0 xs1 p r q hr n)
      obtain ⟨e1, e2, e3⟩ := place2 ⟨n, h⟩
      have h0 : p.val = k0_off7 ⟨n, h⟩ 0 + (x 0).val := hx 0
      have h1 : q.val = k0_off7 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off8 ⟨n, h⟩ 0 + (x 0).val := by rw [e2]; show r.val = 512 + 16 * n + (x 0).val; omega
      have g3 : q.val = k0_off8 ⟨n, h⟩ 1 + (x 1).val := by rw [e2]; exact g1.trans (Nat.zero_add _).symm
      have g4 : r.val = k0_off9 ⟨n, h⟩ 0 + (x 0).val := by rw [e3]; show r.val = 512 + 16 * n + (x 0).val; omega
      have g5 : (0 : Fin 1).val = k0_off9 ⟨n, h⟩ 1 + (0 : Fin 1).val := by rw [e3]; rfl
      have hq : (x 1 : Fin 4096) = q := Fin.ext g1.symm
      refine (congrArg _ (eq_ix2 x)).trans ((pay8_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt2 i arg4 harg4 arg8 harg8 arg9 harg9 hc x2 x3 x4 xs0 xs1 p r q hr n

theorem quarter2_apply (t : Fin cfg0.N) (h : t.val % 26 = 24) (p : Fin 256) (r : Fin 1024) (q : Fin 4096) (hr : r.val = 512 + p.val) :
    quarter2 m c t h (ix2 p q) = cell (iblk m c 2 t) (iblk m c 3 t) (iblk m c 4 t) (accAt m c t) (rsAt m c t) p r q := by
  have hc := cover2 m c t h (ix2 p q)
  unfold quarter2
  rw [View.read_writes_junk_eq_canon]
  exact View.canon_eq_of_allAt _ _ _ hc (allAt2 _ _ _ _ _ _ _ _ _ _ _ _ _ p r q hr 16)

/-! The last quarter. -/

/-- Where a trip of its loop reads and writes. -/
theorem place3 : ∀ k : Fin k0_t4_loop.trips, k0_off10 k = ![16 * k.val, 0] ∧ k0_off11 k = ![768 + 16 * k.val, 0] ∧ k0_off12 k = ![768 + 16 * k.val, 0] := by
  decide +kernel

/-- Every strip of its loop that holds an element has its value there. -/
theorem allAt3 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond6 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 768 + p.val) :
    ∀ n : ℕ, View.AllAt (strips3 i arg4 arg8 arg9 hc x3 x4 (harg4.unread x2) (harg8.unread xs0) (harg9.unread xs1) n) (ix2 p q) (cell x2 x3 x4 xs0 xs1 p r q)
  | 0 => View.allAt_nil _ _
  | n + 1 => by
    rw [strips3]
    by_cases h : n < k0_t4_loop.trips
    · rw [dif_pos h]
      unfold strip3
      refine View.allAt_cons_unit _ _ _ _ _ (fun x hx => ?_) (allAt3 i arg4 harg4 arg8 harg8 arg9 harg9 hc x2 x3 x4 xs0 xs1 p r q hr n)
      obtain ⟨e1, e2, e3⟩ := place3 ⟨n, h⟩
      have h0 : p.val = k0_off10 ⟨n, h⟩ 0 + (x 0).val := hx 0
      have h1 : q.val = k0_off10 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off11 ⟨n, h⟩ 0 + (x 0).val := by rw [e2]; show r.val = 768 + 16 * n + (x 0).val; omega
      have g3 : q.val = k0_off11 ⟨n, h⟩ 1 + (x 1).val := by rw [e2]; exact g1.trans (Nat.zero_add _).symm
      have g4 : r.val = k0_off12 ⟨n, h⟩ 0 + (x 0).val := by rw [e3]; show r.val = 768 + 16 * n + (x 0).val; omega
      have g5 : (0 : Fin 1).val = k0_off12 ⟨n, h⟩ 1 + (0 : Fin 1).val := by rw [e3]; rfl
      have hq : (x 1 : Fin 4096) = q := Fin.ext g1.symm
      refine (congrArg _ (eq_ix2 x)).trans ((pay9_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt3 i arg4 harg4 arg8 harg8 arg9 harg9 hc x2 x3 x4 xs0 xs1 p r q hr n

theorem quarter3_apply (t : Fin cfg0.N) (h : t.val % 26 = 25) (p : Fin 256) (r : Fin 1024) (q : Fin 4096) (hr : r.val = 768 + p.val) :
    quarter3 m c t h (ix2 p q) = cell (iblk m c 2 t) (iblk m c 3 t) (iblk m c 4 t) (accAt m c t) (rsAt m c t) p r q := by
  have hc := cover3 m c t h (ix2 p q)
  unfold quarter3
  rw [View.read_writes_junk_eq_canon]
  exact View.canon_eq_of_allAt _ _ _ hc (allAt3 _ _ _ _ _ _ _ _ _ _ _ _ _ p r q hr 16)

/-- A quarter's element, at whichever of the four steps. -/
theorem cell_apply (t : Fin cfg0.N) (h : 22 ≤ t.val % 26) (p : Fin 256) (r : Fin 1024) (q : Fin 4096) (hr : r.val = 256 * (t.val % 26 - 22) + p.val) :
    blockAt m c t (ix2 p q) = cell (iblk m c 2 t) (iblk m c 3 t) (iblk m c 4 t) (accAt m c t) (rsAt m c t) p r q := by
  obtain h0 | h0 | h0 | h0 : t.val % 26 = 22 ∨ t.val % 26 = 23 ∨ t.val % 26 = 24 ∨ t.val % 26 = 25 := by omega
  · rw [blockAt_0 m c t h0, quarter0_apply m c t h0 p r q (by omega)]
  · rw [blockAt_1 m c t h0, quarter1_apply m c t h0 p r q (by omega)]
  · rw [blockAt_2 m c t h0, quarter2_apply m c t h0 p r q (by omega)]
  · rw [blockAt_3 m c t h0, quarter3_apply m c t h0 p r q (by omega)]

end Cert.Kernel2Ideal.Down
-- ==== Proof.Down.Array.lean ====
/-
  The down-projection's result after the run.
-/
module

public import proofs.«01_k».proof.Proof.Down.Sum
public import proofs.«01_k».proof.Proof.Down.Block

@[expose] public section

set_option maxRecDepth 16384

noncomputable section

open Idealize.ShloMosaic Idealize.ShloMosaic.TcCoe Idealize.SL.Sem
open Idealize.ShloMosaic.Pipeline

namespace Cert.Kernel2Ideal.Down

open Cert.Kernel2Ideal Cert.Kernel2Ideal.Gen Cert.Down

variable (m : (ℓ : Loc nD τ sig) → Buf (Elt Ideal) ℓ) (ρ : Dev nD → PrngReg) (c : Dev nD)

/-- The kernel multiplies the gate by the norm's scale first; the product is the same. -/
theorem regroup (g s y r : EReal) : g * s * (y * r) = g * (y * r * s) := by
  rw [mul_assoc, mul_comm s]

/-- An element of the quarter a point writes is the result's. -/
theorem block_apply (t : Fin cfg0.N) (h : 22 ≤ t.val % 26) (p : Fin 256) (q : Fin 4096) (i : Fin 32768)
    (hi : i.val = t.val / 26 * 1024 + 256 * (t.val % 26 - 22) + p.val) : blockAt m c t (ix2 p q) = (arrays m c).result i q := by
  have hr : i.val = t.val / 26 * 1024 + (⟨256 * (t.val % 26 - 22) + p.val, by omega⟩ : Fin 1024).val := by
    show i.val = t.val / 26 * 1024 + (256 * (t.val % 26 - 22) + p.val)
    omega
  rw [cell_apply m c t h p ⟨256 * (t.val % 26 - 22) + p.val, by omega⟩ q rfl]
  unfold cell
  rw [rest_apply m c t h p q i hi, gate_apply m c t q ⟨i.val / 4096, by omega⟩ (by show i.val / 4096 = t.val / 26 / 4; omega), scale_apply m c t q,
    show accAt m c t (ix2 _ q) = _ from accs_apply m c t.val t.isLt (by omega) _ q i hr, show rsAt m c t (ix2 _ (0 : Fin 1)) = _ from rs_apply m c t.val t.isLt (by omega) _ i hr, regroup]
  rfl

/-- The result array after the run. -/
theorem final : (dats m 0 c).arrAt 5 cfg0.N = fun y : S32768x4096.Idx => ((arrays m c).result (y 0) (y 1) : EReal) := by
  refine (dats m 0 c).arrAt_eq_of_covers 5 _ ((cfg0.win 5).covers_of_index_surj rfl (by decide) fun β => ?_) fun t hfl y => ?_
  · have h0 : (β (0 : Fin 2)).val < 128 := lt_of_lt_of_eq (β (0 : Fin 2)).isLt (by decide +kernel : (cfg0.win 5).nblk (0 : Fin 2) = 128)
    have h1 : (β (1 : Fin 2)).val < 1 := lt_of_lt_of_eq (β (1 : Fin 2)).isLt (by decide +kernel : (cfg0.win 5).nblk (1 : Fin 2) = 1)
    let t : Fin cfg0.N := ⟨(β (0 : Fin 2)).val / 4 * 26 + (22 + (β (0 : Fin 2)).val % 4), lt_of_lt_of_eq (by omega) (show 832 = cfg0.N from N_0.symm)⟩
    have hcv := coords_val t
    have hv : t.val = (β (0 : Fin 2)).val / 4 * 26 + (22 + (β (0 : Fin 2)).val % 4) := rfl
    have hix : (cfg0.win 5).index t = ![4 * (grid0.coords t 0).val + ((grid0.coords t 1).val - 22), 0] := (indices t).2.2.2.2.2
    refine ⟨t, fun a => ?_⟩
    rw [hix]
    match a with
    | ⟨0, _⟩ =>
      show 4 * (grid0.coords t 0).val + ((grid0.coords t 1).val - 22) = (β (0 : Fin 2)).val
      rw [hcv.1, hcv.2, hv]
      omega
    | ⟨1, _⟩ =>
      show 0 = (β (1 : Fin 2)).val
      omega
  · have hcv := coords_val t
    have h22 : 22 ≤ t.val % 26 := by
      by_contra hlt
      exact absurd hfl (by rw [stay5 t (by omega)]; decide)
    blk_simp
    rw [after5]
    refine (congrArg (blockAt m c t) (eq_ix2 _)).trans ((block_apply m c t h22 _ _ ⟨t.val / 26 * 1024 + 256 * (t.val % 26 - 22) + (y 0).val, ?_⟩ rfl).trans
      (congrArg₂ (arrays m c).result (Fin.ext ?_) (Fin.ext ?_)))
    · have hp : (y 0).val < 256 := (y 0).isLt
      have hN : t.val < 832 := lt_of_lt_of_eq t.isLt (show cfg0.N = 832 from N_0)
      omega
    · blk_simp [indices t]
      rw [hcv.1, hcv.2]
      show t.val / 26 * 1024 + 256 * (t.val % 26 - 22) + (y 0).val = _
      omega
    · blk_simp [indices t]

/-- The run ends with the result array at that, and the arguments unchanged. -/
theorem run_result : θ_run defs (onTc (τ := τ) (main (F := Ideal))) ⟨m, fun _ => 0, ρ⟩ (fun r => ∀ c : Dev nD,
      r.2.mem ((c.tc : Thread nD τ).loc main_v2) = (fun y : S32768x4096.Idx => ((arrays m c).result (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩) (run_main m ρ)

end Cert.Kernel2Ideal.Down
-- ==== Proof.Down.Reference.lean ====
/-
  The reference's down-projection, read one element at a time.
-/
module

public import proofs.«01_k».proof.Proof.Gen.Reference2Ideal.Read
public import proofs.«01_k».proof.Proof.Down.Spec
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Reference2Ideal.Down

open Cert.Reference2Ideal Cert.Reference2Ideal.Gen Cert.Reference2Ideal.Read Cert.Down

/-- The reference's arguments hold the arrays `A`. -/
structure Holds (A : Arrays) (x0 : Vec Ideal S32768x11008 .bf16) (x1 : Vec Ideal S11008x4096 .f32) (x2 : Vec Ideal S32768x4096 .f32)
    (x3 : Vec Ideal S8x1x4096 .f32) (x4 : Vec Ideal S4096 .f32) : Prop where
  tokens : ∀ i l, x0 (ix2 i l) = A.tokens i l
  weight : ∀ l q, x1 (ix2 l q) = A.weight q l
  rest : ∀ i q, x2 (ix2 i q) = A.rest i q
  gate : ∀ b q, x3 (ix3 b (0 : Fin 1) q) = A.gate b q
  scale : ∀ q, x4 (ix1 q) = A.scale q

variable {A : Arrays} {x0 : Vec Ideal S32768x11008 .bf16} {x1 : Vec Ideal S11008x4096 .f32} {x2 : Vec Ideal S32768x4096 .f32}
    {x3 : Vec Ideal S8x1x4096 .f32} {x4 : Vec Ideal S4096 .f32}

theorem dot_apply (h : Holds A x0 x1 x2 x3 x4) (i : Fin 32768) (q : Fin 4096) : val_main_v1 (F := Ideal) x0 x1 (ix2 i q) = A.dot i q := by
  refine (val_main_v1_apply x0 x1 _).trans ?_
  refine Finset.sum_congr rfl fun l _ => ?_
  rw [show lidx_main_v1 (ix2 i q) l = ix2 i l from eq_ix2 _, show ridx_main_v1 (ix2 i q) l = ix2 l q from eq_ix2 _]
  exact congrArg₂ (HMul.hMul (α := EReal) (β := EReal)) (h.tokens i l) (h.weight l q)

/-- The sum of a row's squares. -/
theorem squares_apply (h : Holds A x0 x1 x2 x3 x4) (i : Fin 32768) :
    val_main_v3 (F := Ideal) x0 x1 (ix1 i) = ∑ q, A.dot i q * A.dot i q := by
  refine (val_main_v3_apply x0 x1 _).trans ?_
  refine (congrArg₂ (HAdd.hAdd (α := EReal) (β := EReal)) (show _ = (0 : EReal) from ?_) (Finset.sum_congr rfl fun q _ => ?_)).trans (zero_add _)
  · pointwise [val_main_cst]
  · rw [show idx_main_v3 (ix1 i) q = ix2 i q from eq_ix2 _]
    exact (val_main_v2_apply x0 x1 _).trans (congrArg₂ (HMul.hMul (α := EReal) (β := EReal)) (dot_apply h i q) (dot_apply h i q))

/-- A row's scale. -/
theorem scale_apply (h : Holds A x0 x1 x2 x3 x4) (i : Fin 32768) :
    val_main_v9 (F := Ideal) x0 x1 (ix2 i (0 : Fin 1)) = scaleOf (A.dot i) := by
  unfold scaleOf
  rw [← squares_apply h i]
  pointwise [val_main_v9, val_main_v8, val_main_v7, val_main_v6, val_main_v5, val_main_v4, val_main_cst_0, val_main_cst_1]

/-- The reference's result. -/
theorem result_apply (h : Holds A x0 x1 x2 x3 x4) (i : Fin 32768) (q : Fin 4096) :
    val_main_v20 (F := Ideal) x0 x1 x2 x3 x4 (ix2 i q) = A.result i q := by
  unfold Arrays.result
  rw [← dot_apply h, ← scale_apply h, ← h.rest, ← h.gate, ← h.scale]
  pointwise [val_main_v20, val_main_v19, val_main_v18, val_main_v17, val_main_v16, val_main_v15, val_main_v14, val_main_v13, val_main_v12, val_main_v11, val_main_v10]

end Cert.Reference2Ideal.Down
-- ==== Proof.Down.Equal.lean ====
/-
  The down-projection's kernel and its reference compute one array.
-/
module

public import proofs.«01_k».proof.Defs
public import proofs.«01_k».proof.Proof.Down.Array
public import proofs.«01_k».proof.Proof.Down.Reference
public import proofs.«01_k».proof.Proof.Gen.Reference2Ideal
public import Idealize.ShloMosaic.Lib.Claim

@[expose] public section

set_option maxRecDepth 16384

noncomputable section

open Idealize.ShloMosaic Idealize.ShloMosaic.TcCoe Idealize.SL.Sem

namespace Cert.Down

/-- The frame of the reference. -/
theorem frame_reference : haveI := Cert.Reference2Ideal.Gen.facts; Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From arguments that agree, the kernel and the reference end with one array. -/
theorem algebraic : haveI := Cert.Kernel2Ideal.Gen.facts; haveI := Cert.Reference2Ideal.Gen.facts; Cert.algebraic_Kernel2Ideal_Reference2Ideal := by
  intro m ρ m' ρ' _ hagree
  refine ⟨fun c => fun y : Cert.Kernel2Ideal.S32768x4096.Idx => ((Cert.Kernel2Ideal.Down.arrays m c).result (y 0) (y 1) : EReal),
    Cert.Kernel2Ideal.Down.run_result m ρ, ?_⟩
  refine (θ_run Cert.Reference2Ideal.defs _ _).mono (fun r h c => ⟨(h c).1.trans ?_, (h c).2⟩) (Cert.Reference2Ideal.Value.run (F := Ideal) m' ρ')
  refine (Cert.Reference2Ideal.Read.val_main_v20_eq (F := Ideal) _ _ _ _ _).trans ?_
  obtain ⟨e0, e1, e2, e3, e4⟩ := hagree c
  funext y
  refine (congrArg (Cert.Reference2Ideal.Read.val_main_v20 (F := Ideal) _ _ _ _ _) (eq_ix2 y)).trans
    (Cert.Reference2Ideal.Down.result_apply (A := Cert.Kernel2Ideal.Down.arrays m c) ?_ (y 0) (y 1))
  exact ⟨fun i l => congrFun e0 _, fun l q => congrFun e1 _, fun i q => congrFun e2 _, fun b q => congrFun e3 _, fun q => congrFun e4 _⟩

end Cert.Down
-- ==== Proof.Proj.Spec.lean ====
/-
  The input projection as a function of its arguments: rows of tokens against columns of weights.
-/
module

public import Idealize.ShloMosaic.PureOps.Ideal

@[expose] public section

noncomputable section

open Idealize.ShloMosaic

namespace Cert.Proj

/-- The arguments: the rows of tokens and the weights by column. -/
structure Arrays (n : Nat) where
  tokens : Fin n → Fin 4096 → EReal
  weight : Fin 5632 → Fin 4096 → EReal

/-- A row of tokens against a column of weights. -/
def Arrays.product {n : Nat} (A : Arrays n) (i : Fin n) (q : Fin 5632) : EReal := ∑ l, A.tokens i l * A.weight q l

/-- The column of weights behind a column of the result: the result begins with the last 1024. -/
def source (q : Fin 5632) : Fin 5632 := ⟨(q.val + 4608) % 5632, Nat.mod_lt _ (by decide)⟩

/-- A token of a sequence, by its row among all sixteen sequences' tokens. -/
def row (b : Fin 16) (s : Fin 256) : Fin 4096 := ⟨b.val * 256 + s.val, by omega⟩

/-- Keys or values by sequence, token, head and lane, their columns beginning at `o`. -/
def Arrays.heads (A : Arrays 4096) (H o : Nat) (ho : o + H * 128 ≤ 5632) (y : (⟨4, ![16, 256, H, 128]⟩ : Shape).Idx) : EReal :=
  A.product (row (y 0) (y 1)) ⟨o + ((y 2).val * 128 + (y 3).val), by
    have h2 : (y 2).val < H := (y 2).isLt
    have h3 : (y 3).val < 128 := (y 3).isLt
    omega⟩

end Cert.Proj
-- ==== Proof.Proj.PromptArray.lean ====
/-
  The projection of the prompt tokens: the array that the call leaves.
-/
module

public import proofs.«01_k».proof.Proof.Gen.Kernel4Ideal.Frame
public import proofs.«01_k».proof.Proof.Proj.Spec
public import Idealize.ShloMosaic.Lib.Pointwise
public import Idealize.ShloMosaic.Lib.Pipeline.Covers
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
open Idealize.ShloMosaic.Pipeline

namespace Cert.Kernel4Ideal.Prompt

open Cert.Kernel4Ideal Cert.Kernel4Ideal.Gen Cert.Proj

/-- The offsets of a whole block. -/
theorem zeros : (![0, 0] : Fin 2 → Nat) = fun _ => 0 := by decide

/-- A block of the product. -/
theorem pay_apply (x : Vec Ideal S1024x4096 .bf16) (w : Vec Ideal S4096x512 .bf16) (r : Fin 1024) (k : Fin 512) :
    k0_pay1 x w (ix2 r k) = ∑ l : Fin 4096, HMul.hMul (α := EReal) (β := EReal) (x (ix2 r l)) (w (ix2 l k)) := by
  pointwise [k0_pay1]

/-- What the body leaves in the result's buffer: one store fills it. -/
theorem out_apply (x : Vec Ideal S1024x4096 .bf16) (w : Vec Ideal S4096x512 .bf16) (r : Fin 1024) (k : Fin 512) :
    out0_2 x w (ix2 r k) = ∑ l : Fin 4096, HMul.hMul (α := EReal) (β := EReal) (x (ix2 r l)) (w (ix2 l k)) := by
  have e0 : View.ld x r0_0 = x := View.ld_unit_zero (Val := Elt Ideal) zeros _ x
  have e1 : View.ld w r0_1 = w := View.ld_unit_zero (Val := Elt Ideal) zeros _ w
  unfold out0_2
  rw [e0, e1]
  refine Eq.trans ?_ (pay_apply x w r k)
  exact congrFun (View.canon_unit_zero (Val := Elt Ideal) zeros _ _) _

variable (m : (ℓ : Loc nD τ sig) → Buf (Elt Ideal) ℓ) (c : Dev nD)

/-- The arguments as functions. -/
def arrays : Arrays 4096 where
  tokens i l := m ((c : Thread nD τ).loc main_arg0) (ix2 i l)
  weight q l := m ((c : Thread nD τ).loc main_arg1) (ix2 l q)

/-- The weights as the launch holds them. -/
theorem V_weight (l : Fin 4096) (q : Fin 5632) : V m c main_v0 (ix2 l q) = m ((c : Thread nD τ).loc main_arg1) (ix2 l q) := by
  show StableHlo.after (hostOps0 (F := Ideal)) (fun b => m (c, b)) (Proc.devRef .tc main_v0) (ix2 l q) = _
  entry_read
  pointwise

/-- The block each window reads or writes at a grid point. -/
theorem indices : ∀ t : Fin cfg0.N, win0_0.index t = ![(grid0.coords t 0).val, 0] ∧ win0_1.index t = ![0, ((grid0.coords t 1).val + 9) % 11]
    ∧ win0_2.index t = ![(grid0.coords t 0).val, (grid0.coords t 1).val] := by decide +kernel

/-- The tile's rows. -/
theorem tokens_apply (t : Fin cfg0.N) (r : Fin 1024) (l : Fin 4096) (i : Fin 4096) (hi : i.val = (grid0.coords t 0).val * 1024 + r.val) :
    iblk m c 0 t (ix2 r l) = (arrays m c).tokens i l := by
  unfold arrays
  blk_ext [iblk, V, V0, indices t]

/-- The tile's columns, nine blocks of columns further on, or two back. -/
theorem weight_apply (t : Fin cfg0.N) (l : Fin 4096) (k : Fin 512) (q : Fin 5632) (hq : q.val = ((grid0.coords t 1).val + 9) % 11 * 512 + k.val) :
    iblk m c 1 t (ix2 l k) = (arrays m c).weight q l := by
  refine Eq.trans ?_ (V_weight m c l q)
  blk_ext [iblk, indices t]

/-- An element of the block a point writes. -/
theorem block_apply (t : Fin cfg0.N) (r : Fin 1024) (k : Fin 512) (i : Fin 4096) (q : Fin 5632)
    (hi : i.val = (grid0.coords t 0).val * 1024 + r.val) (hq : q.val = (grid0.coords t 1).val * 512 + k.val) :
    out0_2 (iblk m c 0 t) (iblk m c 1 t) (ix2 r k) = (arrays m c).product i (source q) := by
  refine (out_apply _ _ r k).trans (Finset.sum_congr rfl fun l _ => ?_)
  have h1 : (grid0.coords t 1).val < 11 := (grid0.coords t 1).isLt
  refine congrArg₂ (HMul.hMul (α := EReal) (β := EReal)) (tokens_apply m c t r l i hi) (weight_apply m c t l k (source q) ?_)
  show (q.val + 4608) % 5632 = _
  omega

/-- The array after the run. -/
theorem final : (dats m 0 c).arrAt 2 cfg0.N = fun y : S4096x5632.Idx => ((arrays m c).product (y 0) (source (y 1)) : EReal) := by
  refine (dats m 0 c).arrAt_eq_of_covers 2 _ ((cfg0.win 2).covers_of_indexMap_surj rfl (by decide) fun β =>
    ⟨fun a => match a with
      | ⟨0, _⟩ => (⟨(β (0 : Fin 2)).val, lt_of_lt_of_eq (β (0 : Fin 2)).isLt (by decide +kernel : (cfg0.win 2).nblk (0 : Fin 2) = 4)⟩ : Fin 4)
      | ⟨1, _⟩ => (⟨(β (1 : Fin 2)).val, lt_of_lt_of_eq (β (1 : Fin 2)).isLt (by decide +kernel : (cfg0.win 2).nblk (1 : Fin 2) = 11)⟩ : Fin 11), fun a => ?_⟩) fun t hfl y => ?_
  · have h0 : (β (0 : Fin 2)).val < 4 := lt_of_lt_of_eq (β (0 : Fin 2)).isLt (by decide +kernel : (cfg0.win 2).nblk (0 : Fin 2) = 4)
    have h1 : (β (1 : Fin 2)).val < 11 := lt_of_lt_of_eq (β (1 : Fin 2)).isLt (by decide +kernel : (cfg0.win 2).nblk (1 : Fin 2) = 11)
    match a with
    | ⟨0, _⟩ => exact Nat.mod_eq_of_lt (by omega : (β (0 : Fin 2)).val < 2 ^ 32)
    | ⟨1, _⟩ => exact Nat.mod_eq_of_lt (by omega : (β (1 : Fin 2)).val < 2 ^ 32)
  · blk_simp
    rw [after0_2]
    refine (congrArg (out0_2 (iblk m c 0 t) (iblk m c 1 t)) (eq_ix2 _)).trans (block_apply m c t _ _ _ _ ?_ ?_)
    · blk_simp [indices t]
    · blk_simp [indices t]

end Cert.Kernel4Ideal.Prompt
-- ==== Proof.Proj.PromptResults.lean ====
/-
  The projection of the prompt tokens: what the operations after the call leave.
-/
module

public import proofs.«01_k».proof.Proof.Proj.PromptArray

@[expose] public section

set_option maxRecDepth 16384

noncomputable section

open Idealize.ShloMosaic Idealize.ShloMosaic.TcCoe Idealize.SL.Sem
open Idealize.ShloMosaic.Pipeline

namespace Cert.Kernel4Ideal.Prompt

open Cert.Kernel4Ideal Cert.Kernel4Ideal.Gen Cert.Proj

/-- The new keys of the first attention, cut from the product. -/
theorem after_v4 (σ : Valuation τ sig (Elt Ideal)) (b : Fin 16) (s : Fin 256) (g : Fin 8) (d : Fin 128) :
    StableHlo.after (hostOps1 (F := Ideal)) σ (Proc.devRef .tc main_v4) (ix4 b s g d)
      = σ (Proc.devRef .tc main_v1) (ix2 (row b s) ⟨2048 + (g.val * 128 + d.val), by omega⟩) := by
  entry_read
  pointwise
  rfl

/-- The new values of the first attention, cut from the product. -/
theorem after_v6 (σ : Valuation τ sig (Elt Ideal)) (b : Fin 16) (s : Fin 256) (g : Fin 8) (d : Fin 128) :
    StableHlo.after (hostOps1 (F := Ideal)) σ (Proc.devRef .tc main_v6) (ix4 b s g d)
      = σ (Proc.devRef .tc main_v1) (ix2 (row b s) ⟨3072 + (g.val * 128 + d.val), by omega⟩) := by
  entry_read
  pointwise
  rfl

/-- The new keys of the second attention, cut from the product. -/
theorem after_v8 (σ : Valuation τ sig (Elt Ideal)) (b : Fin 16) (s : Fin 256) (g : Fin 2) (d : Fin 128) :
    StableHlo.after (hostOps1 (F := Ideal)) σ (Proc.devRef .tc main_v8) (ix4 b s g d)
      = σ (Proc.devRef .tc main_v1) (ix2 (row b s) ⟨5120 + (g.val * 128 + d.val), by omega⟩) := by
  entry_read
  pointwise
  rfl

/-- The new values of the second attention, cut from the product. -/
theorem after_v10 (σ : Valuation τ sig (Elt Ideal)) (b : Fin 16) (s : Fin 256) (g : Fin 2) (d : Fin 128) :
    StableHlo.after (hostOps1 (F := Ideal)) σ (Proc.devRef .tc main_v10) (ix4 b s g d)
      = σ (Proc.devRef .tc main_v1) (ix2 (row b s) ⟨5376 + (g.val * 128 + d.val), by omega⟩) := by
  entry_read
  pointwise
  rfl

variable (m : (ℓ : Loc nD τ sig) → Buf (Elt Ideal) ℓ) (c : Dev nD)

/-- What the call leaves, for the operations after it. -/
def left : Valuation τ sig (Elt Ideal) :=
  Pipeline.withArrays spec0 c (V0 m c) fun w => (dats m 0 c).arrAt w cfg0.N

/-- The product is what they read. -/
theorem left_apply (i : Fin 4096) (q : Fin 5632) : left m c (Proc.devRef .tc main_v1) (ix2 i q) = (arrays m c).product i (source q) :=
  (congrFun (Pipeline.withArrays_arr spec0 launch0.win.arr_inj c (V0 m c) (fun w => (dats m 0 c).arrAt w cfg0.N) 2) (ix2 i q)).trans
    (congrFun (final m c) (ix2 i q))

theorem tail_v4 : Pipeline.afterTail₀ cfgs (dats m) 0 (V0 m) [hostOps1] c main_v4 = (arrays m c).heads 8 1024 (by decide) := by
  funext y
  refine (congrArg (StableHlo.after (hostOps1 (F := Ideal)) (left m c) (Proc.devRef .tc main_v4)) (eq_ix4 y)).trans
    ((after_v4 (left m c) (y 0) (y 1) (y 2) (y 3)).trans ((left_apply m c _ _).trans ?_))
  refine congrArg ((arrays m c).product _) (Fin.ext ?_)
  have h2 : (y 2).val < 8 := (y 2).isLt
  have h3 : (y 3).val < 128 := (y 3).isLt
  show (2048 + ((y 2).val * 128 + (y 3).val) + 4608) % 5632 = 1024 + ((y 2).val * 128 + (y 3).val)
  omega

theorem tail_v6 : Pipeline.afterTail₀ cfgs (dats m) 0 (V0 m) [hostOps1] c main_v6 = (arrays m c).heads 8 2048 (by decide) := by
  funext y
  refine (congrArg (StableHlo.after (hostOps1 (F := Ideal)) (left m c) (Proc.devRef .tc main_v6)) (eq_ix4 y)).trans
    ((after_v6 (left m c) (y 0) (y 1) (y 2) (y 3)).trans ((left_apply m c _ _).trans ?_))
  refine congrArg ((arrays m c).product _) (Fin.ext ?_)
  have h2 : (y 2).val < 8 := (y 2).isLt
  have h3 : (y 3).val < 128 := (y 3).isLt
  show (3072 + ((y 2).val * 128 + (y 3).val) + 4608) % 5632 = 2048 + ((y 2).val * 128 + (y 3).val)
  omega

theorem tail_v8 : Pipeline.afterTail₀ cfgs (dats m) 0 (V0 m) [hostOps1] c main_v8 = (arrays m c).heads 2 4096 (by decide) := by
  funext y
  refine (congrArg (StableHlo.after (hostOps1 (F := Ideal)) (left m c) (Proc.devRef .tc main_v8)) (eq_ix4 y)).trans
    ((after_v8 (left m c) (y 0) (y 1) (y 2) (y 3)).trans ((left_apply m c _ _).trans ?_))
  refine congrArg ((arrays m c).product _) (Fin.ext ?_)
  have h2 : (y 2).val < 2 := (y 2).isLt
  have h3 : (y 3).val < 128 := (y 3).isLt
  show (5120 + ((y 2).val * 128 + (y 3).val) + 4608) % 5632 = 4096 + ((y 2).val * 128 + (y 3).val)
  omega

theorem tail_v10 : Pipeline.afterTail₀ cfgs (dats m) 0 (V0 m) [hostOps1] c main_v10 = (arrays m c).heads 2 4352 (by decide) := by
  funext y
  refine (congrArg (StableHlo.after (hostOps1 (F := Ideal)) (left m c) (Proc.devRef .tc main_v10)) (eq_ix4 y)).trans
    ((after_v10 (left m c) (y 0) (y 1) (y 2) (y 3)).trans ((left_apply m c _ _).trans ?_))
  refine congrArg ((arrays m c).product _) (Fin.ext ?_)
  have h2 : (y 2).val < 2 := (y 2).isLt
  have h3 : (y 3).val < 128 := (y 3).isLt
  show (5376 + ((y 2).val * 128 + (y 3).val) + 4608) % 5632 = 4352 + ((y 2).val * 128 + (y 3).val)
  omega

/-- The run ends with the product, the new keys and values, and the arguments unchanged. -/
theorem run_result (ρ : Dev nD → PrngReg) : θ_run defs (onTc (τ := τ) (main (F := Ideal))) ⟨m, fun _ => 0, ρ⟩ (fun r => ∀ c : Dev nD,
      r.2.mem ((c.tc : Thread nD τ).loc main_v1) = (fun y : S4096x5632.Idx => ((arrays m c).product (y 0) (source (y 1)) : EReal))
      ∧ r.2.mem ((c.tc : Thread nD τ).loc main_v4) = (arrays m c).heads 8 1024 (by decide)
      ∧ r.2.mem ((c.tc : Thread nD τ).loc main_v6) = (arrays m c).heads 8 2048 (by decide)
      ∧ r.2.mem ((c.tc : Thread nD τ).loc main_v8) = (arrays m c).heads 2 4096 (by decide)
      ∧ r.2.mem ((c.tc : Thread nD τ).loc main_v10) = (arrays m c).heads 2 4352 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final m c),
      ((h c).2 main_v4 (Pipeline.mem_restRefs_of main_v4 (by decide) (by decide))).trans (tail_v4 m c),
      ((h c).2 main_v6 (Pipeline.mem_restRefs_of main_v6 (by decide) (by decide))).trans (tail_v6 m c),
      ((h c).2 main_v8 (Pipeline.mem_restRefs_of main_v8 (by decide) (by decide))).trans (tail_v8 m c),
      ((h c).2 main_v10 (Pipeline.mem_restRefs_of main_v10 (by decide) (by decide))).trans (tail_v10 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Cert.Kernel4Ideal.Prompt
-- ==== Proof.Proj.PromptReference.lean ====
/-
  The reference's projection of the prompt tokens, read one element at a time.
-/
module

public import proofs.«01_k».proof.Proof.Gen.Reference4Ideal.Read
public import proofs.«01_k».proof.Proof.Proj.Spec
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Reference4Ideal.Prompt

open Cert.Reference4Ideal Cert.Reference4Ideal.Gen Cert.Reference4Ideal.Read Cert.Proj

/-- The reference's arguments hold the arrays `A`. -/
structure Holds (A : Arrays 4096) (x0 : Vec Ideal S4096x4096 .bf16) (x1 : Vec Ideal S4096x5632 .f32) : Prop where
  tokens : ∀ i l, x0 (ix2 i l) = A.tokens i l
  weight : ∀ l q, x1 (ix2 l q) = A.weight q l

variable {A : Arrays 4096} {x0 : Vec Ideal S4096x4096 .bf16} {x1 : Vec Ideal S4096x5632 .f32}

theorem product_apply (h : Holds A x0 x1) (i : Fin 4096) (q : Fin 5632) : val_main_v1 (F := Ideal) x0 x1 (ix2 i q) = A.product i q := by
  refine (val_main_v1_apply x0 x1 _).trans ?_
  refine Finset.sum_congr rfl fun l _ => ?_
  rw [show lidx_main_v1 (ix2 i q) l = ix2 i l from eq_ix2 _, show ridx_main_v1 (ix2 i q) l = ix2 l q from eq_ix2 _]
  exact congrArg₂ (HMul.hMul (α := EReal) (β := EReal)) (h.tokens i l) (h.weight l q)

/-- The joined columns. -/
theorem columns_apply (h : Holds A x0 x1) (i : Fin 4096) (q : Fin 5632) : val_main_v9 (F := Ideal) x0 x1 (ix2 i q) = A.product i (source q) := by
  rw [← product_apply h]
  pointwise [val_main_v9, val_main_v8, val_main_v7, val_main_v6, val_main_v5, val_main_v4, val_main_v3, val_main_v2]
  split_ifs
  all_goals exact congrArg (fun p => val_main_v1 (F := Ideal) x0 x1 (ix2 i p)) (Fin.ext (by simp only [source]; omega))

/-- The new keys of the first attention. -/
theorem v10_apply (h : Holds A x0 x1) (b : Fin 16) (s : Fin 256) (g : Fin 8) (d : Fin 128) :
    val_main_v10 (F := Ideal) x0 x1 (ix4 b s g d) = A.heads 8 1024 (by decide) (ix4 b s g d) := by
  refine Eq.trans ?_ (product_apply h (row b s) ⟨1024 + (g.val * 128 + d.val), by omega⟩)
  pointwise [val_main_v10, val_main_v3]
  rfl

/-- The new values of the first attention. -/
theorem v11_apply (h : Holds A x0 x1) (b : Fin 16) (s : Fin 256) (g : Fin 8) (d : Fin 128) :
    val_main_v11 (F := Ideal) x0 x1 (ix4 b s g d) = A.heads 8 2048 (by decide) (ix4 b s g d) := by
  refine Eq.trans ?_ (product_apply h (row b s) ⟨2048 + (g.val * 128 + d.val), by omega⟩)
  pointwise [val_main_v11, val_main_v4]
  rfl

/-- The new keys of the second attention. -/
theorem v12_apply (h : Holds A x0 x1) (b : Fin 16) (s : Fin 256) (g : Fin 2) (d : Fin 128) :
    val_main_v12 (F := Ideal) x0 x1 (ix4 b s g d) = A.heads 2 4096 (by decide) (ix4 b s g d) := by
  refine Eq.trans ?_ (product_apply h (row b s) ⟨4096 + (g.val * 128 + d.val), by omega⟩)
  pointwise [val_main_v12, val_main_v6]
  rfl

/-- The new values of the second attention. -/
theorem v13_apply (h : Holds A x0 x1) (b : Fin 16) (s : Fin 256) (g : Fin 2) (d : Fin 128) :
    val_main_v13 (F := Ideal) x0 x1 (ix4 b s g d) = A.heads 2 4352 (by decide) (ix4 b s g d) := by
  refine Eq.trans ?_ (product_apply h (row b s) ⟨4352 + (g.val * 128 + d.val), by omega⟩)
  pointwise [val_main_v13, val_main_v7]
  rfl

end Cert.Reference4Ideal.Prompt
-- ==== Proof.Proj.PromptEqual.lean ====
/-
  The projection of the prompt tokens: the kernel and its reference compute the same arrays.
-/
module

public import proofs.«01_k».proof.Defs
public import proofs.«01_k».proof.Proof.Proj.PromptResults
public import proofs.«01_k».proof.Proof.Proj.PromptReference
public import proofs.«01_k».proof.Proof.Gen.Reference4Ideal
public import Idealize.ShloMosaic.Lib.Claim

@[expose] public section

set_option maxRecDepth 16384

noncomputable section

open Idealize.ShloMosaic Idealize.ShloMosaic.TcCoe Idealize.SL.Sem

namespace Cert.Proj.Prompt

/-- The frame of the reference. -/
theorem frame_reference : haveI := Cert.Reference4Ideal.Gen.facts; Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- What the arguments' agreement gives the reference. -/
theorem holds (m : (ℓ : Loc Cert.Kernel4Ideal.nD Cert.Kernel4Ideal.τ Cert.Kernel4Ideal.sig) → Buf (Elt Ideal) ℓ) (c : Dev Cert.Kernel4Ideal.nD)
    {x0 : Vec Ideal Cert.Reference4Ideal.S4096x4096 .bf16} {x1 : Vec Ideal Cert.Reference4Ideal.S4096x5632 .f32}
    (e0 : x0 = m ((c.tc : Thread Cert.Kernel4Ideal.nD Cert.Kernel4Ideal.τ).loc Cert.Kernel4Ideal.main_arg0)) (e1 : x1 = m ((c.tc : Thread Cert.Kernel4Ideal.nD Cert.Kernel4Ideal.τ).loc Cert.Kernel4Ideal.main_arg1)) :
    Cert.Reference4Ideal.Prompt.Holds (Cert.Kernel4Ideal.Prompt.arrays m c) x0 x1 := ⟨fun i l => congrFun e0 _, fun l q => congrFun e1 _⟩

/-- From arguments that agree, the kernel and the reference end with the same arrays. -/
theorem algebraic : haveI := Cert.Kernel4Ideal.Gen.facts; haveI := Cert.Reference4Ideal.Gen.facts; Cert.algebraic_Kernel4Ideal_Reference4Ideal := by
  intro m ρ m' ρ' _ hagree
  refine ⟨fun c => fun y : Cert.Kernel4Ideal.S4096x5632.Idx => ((Cert.Kernel4Ideal.Prompt.arrays m c).product (y 0) (source (y 1)) : EReal),
    fun c => (Cert.Kernel4Ideal.Prompt.arrays m c).heads 8 1024 (by decide),
    fun c => (Cert.Kernel4Ideal.Prompt.arrays m c).heads 8 2048 (by decide),
    fun c => (Cert.Kernel4Ideal.Prompt.arrays m c).heads 2 4096 (by decide),
    fun c => (Cert.Kernel4Ideal.Prompt.arrays m c).heads 2 4352 (by decide),
    Cert.Kernel4Ideal.Prompt.run_result m ρ, ?_⟩
  refine (θ_run Cert.Reference4Ideal.defs _ _).mono (fun r h c => ⟨(h c).1.trans ?_, (h c).2.1.trans ?_, (h c).2.2.1.trans ?_, (h c).2.2.2.1.trans ?_,
    (h c).2.2.2.2.1.trans ?_, (h c).2.2.2.2.2⟩) (Cert.Reference4Ideal.Value.run (F := Ideal) m' ρ')
  all_goals obtain ⟨e0, e1⟩ := hagree c
  · refine (Cert.Reference4Ideal.Read.val_main_v9_eq (F := Ideal) _ _).trans (funext fun y => ?_)
    exact (congrArg (Cert.Reference4Ideal.Read.val_main_v9 (F := Ideal) _ _) (eq_ix2 y)).trans (Cert.Reference4Ideal.Prompt.columns_apply (holds m c e0 e1) (y 0) (y 1))
  · refine (Cert.Reference4Ideal.Read.val_main_v10_eq (F := Ideal) _ _).trans (funext fun y => ?_)
    exact (congrArg (Cert.Reference4Ideal.Read.val_main_v10 (F := Ideal) _ _) (eq_ix4 y)).trans
      ((Cert.Reference4Ideal.Prompt.v10_apply (holds m c e0 e1) (y 0) (y 1) (y 2) (y 3)).trans (congrArg ((Cert.Kernel4Ideal.Prompt.arrays m c).heads 8 1024 (by decide)) (eq_ix4 y).symm))
  · refine (Cert.Reference4Ideal.Read.val_main_v11_eq (F := Ideal) _ _).trans (funext fun y => ?_)
    exact (congrArg (Cert.Reference4Ideal.Read.val_main_v11 (F := Ideal) _ _) (eq_ix4 y)).trans
      ((Cert.Reference4Ideal.Prompt.v11_apply (holds m c e0 e1) (y 0) (y 1) (y 2) (y 3)).trans (congrArg ((Cert.Kernel4Ideal.Prompt.arrays m c).heads 8 2048 (by decide)) (eq_ix4 y).symm))
  · refine (Cert.Reference4Ideal.Read.val_main_v12_eq (F := Ideal) _ _).trans (funext fun y => ?_)
    exact (congrArg (Cert.Reference4Ideal.Read.val_main_v12 (F := Ideal) _ _) (eq_ix4 y)).trans
      ((Cert.Reference4Ideal.Prompt.v12_apply (holds m c e0 e1) (y 0) (y 1) (y 2) (y 3)).trans (congrArg ((Cert.Kernel4Ideal.Prompt.arrays m c).heads 2 4096 (by decide)) (eq_ix4 y).symm))
  · refine (Cert.Reference4Ideal.Read.val_main_v13_eq (F := Ideal) _ _).trans (funext fun y => ?_)
    exact (congrArg (Cert.Reference4Ideal.Read.val_main_v13 (F := Ideal) _ _) (eq_ix4 y)).trans
      ((Cert.Reference4Ideal.Prompt.v13_apply (holds m c e0 e1) (y 0) (y 1) (y 2) (y 3)).trans (congrArg ((Cert.Kernel4Ideal.Prompt.arrays m c).heads 2 4352 (by decide)) (eq_ix4 y).symm))

end Cert.Proj.Prompt
-- ==== Proof.Proj.LatentArray.lean ====
/-
  The projection of the latent tokens: the array that the call leaves.
-/
module

public import proofs.«01_k».proof.Proof.Gen.Kernel5Ideal.Frame
public import proofs.«01_k».proof.Proof.Proj.Spec
public import Idealize.ShloMosaic.Lib.Pointwise
public import Idealize.ShloMosaic.Lib.Pipeline.Covers
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
open Idealize.ShloMosaic.Pipeline

namespace Cert.Kernel5Ideal.Latent

open Cert.Kernel5Ideal Cert.Kernel5Ideal.Gen Cert.Proj

/-- The offsets of a whole block. -/
theorem zeros : (![0, 0] : Fin 2 → Nat) = fun _ => 0 := by decide

/-- A block of the product. -/
theorem pay_apply (x : Vec Ideal S1024x4096 .bf16) (w : Vec Ideal S4096x512 .bf16) (r : Fin 1024) (k : Fin 512) :
    k0_pay1 x w (ix2 r k) = ∑ l : Fin 4096, HMul.hMul (α := EReal) (β := EReal) (x (ix2 r l)) (w (ix2 l k)) := by
  pointwise [k0_pay1]

/-- What the body leaves in the result's buffer: one store fills it. -/
theorem out_apply (x : Vec Ideal S1024x4096 .bf16) (w : Vec Ideal S4096x512 .bf16) (r : Fin 1024) (k : Fin 512) :
    out0_2 x w (ix2 r k) = ∑ l : Fin 4096, HMul.hMul (α := EReal) (β := EReal) (x (ix2 r l)) (w (ix2 l k)) := by
  have e0 : View.ld x r0_0 = x := View.ld_unit_zero (Val := Elt Ideal) zeros _ x
  have e1 : View.ld w r0_1 = w := View.ld_unit_zero (Val := Elt Ideal) zeros _ w
  unfold out0_2
  rw [e0, e1]
  refine Eq.trans ?_ (pay_apply x w r k)
  exact congrFun (View.canon_unit_zero (Val := Elt Ideal) zeros _ _) _

variable (m : (ℓ : Loc nD τ sig) → Buf (Elt Ideal) ℓ) (c : Dev nD)

/-- The arguments as functions. -/
def arrays : Arrays 32768 where
  tokens i l := m ((c : Thread nD τ).loc main_arg0) (ix2 i l)
  weight q l := m ((c : Thread nD τ).loc main_arg1) (ix2 l q)

/-- The weights as the launch holds them. -/
theorem V_weight (l : Fin 4096) (q : Fin 5632) : V m c main_v0 (ix2 l q) = m ((c : Thread nD τ).loc main_arg1) (ix2 l q) := by
  unfold V
  entry_read
  pointwise

/-- The block each window reads or writes at a grid point. -/
theorem indices : ∀ t : Fin cfg0.N, win0_0.index t = ![(grid0.coords t 0).val, 0] ∧ win0_1.index t = ![0, ((grid0.coords t 1).val + 9) % 11]
    ∧ win0_2.index t = ![(grid0.coords t 0).val, (grid0.coords t 1).val] := by decide +kernel

/-- The tile's rows. -/
theorem tokens_apply (t : Fin cfg0.N) (r : Fin 1024) (l : Fin 4096) (i : Fin 32768) (hi : i.val = (grid0.coords t 0).val * 1024 + r.val) :
    iblk m c 0 t (ix2 r l) = (arrays m c).tokens i l := by
  unfold arrays
  blk_ext [iblk, V, indices t]

/-- The tile's columns, nine blocks of columns further on, or two back. -/
theorem weight_apply (t : Fin cfg0.N) (l : Fin 4096) (k : Fin 512) (q : Fin 5632) (hq : q.val = ((grid0.coords t 1).val + 9) % 11 * 512 + k.val) :
    iblk m c 1 t (ix2 l k) = (arrays m c).weight q l := by
  refine Eq.trans ?_ (V_weight m c l q)
  blk_ext [iblk, indices t]

/-- An element of the block a point writes. -/
theorem block_apply (t : Fin cfg0.N) (r : Fin 1024) (k : Fin 512) (i : Fin 32768) (q : Fin 5632)
    (hi : i.val = (grid0.coords t 0).val * 1024 + r.val) (hq : q.val = (grid0.coords t 1).val * 512 + k.val) :
    out0_2 (iblk m c 0 t) (iblk m c 1 t) (ix2 r k) = (arrays m c).product i (source q) := by
  refine (out_apply _ _ r k).trans (Finset.sum_congr rfl fun l _ => ?_)
  have h1 : (grid0.coords t 1).val < 11 := (grid0.coords t 1).isLt
  refine congrArg₂ (HMul.hMul (α := EReal) (β := EReal)) (tokens_apply m c t r l i hi) (weight_apply m c t l k (source q) ?_)
  show (q.val + 4608) % 5632 = _
  omega

/-- The array after the run. -/
theorem final : (dats m 0 c).arrAt 2 cfg0.N = fun y : S32768x5632.Idx => ((arrays m c).product (y 0) (source (y 1)) : EReal) := by
  refine (dats m 0 c).arrAt_eq_of_covers 2 _ ((cfg0.win 2).covers_of_indexMap_surj rfl (by decide) fun β =>
    ⟨fun a => match a with
      | ⟨0, _⟩ => (⟨(β (0 : Fin 2)).val, lt_of_lt_of_eq (β (0 : Fin 2)).isLt (by decide +kernel : (cfg0.win 2).nblk (0 : Fin 2) = 32)⟩ : Fin 32)
      | ⟨1, _⟩ => (⟨(β (1 : Fin 2)).val, lt_of_lt_of_eq (β (1 : Fin 2)).isLt (by decide +kernel : (cfg0.win 2).nblk (1 : Fin 2) = 11)⟩ : Fin 11), fun a => ?_⟩) fun t hfl y => ?_
  · have h0 : (β (0 : Fin 2)).val < 32 := lt_of_lt_of_eq (β (0 : Fin 2)).isLt (by decide +kernel : (cfg0.win 2).nblk (0 : Fin 2) = 32)
    have h1 : (β (1 : Fin 2)).val < 11 := lt_of_lt_of_eq (β (1 : Fin 2)).isLt (by decide +kernel : (cfg0.win 2).nblk (1 : Fin 2) = 11)
    match a with
    | ⟨0, _⟩ => exact Nat.mod_eq_of_lt (by omega : (β (0 : Fin 2)).val < 2 ^ 32)
    | ⟨1, _⟩ => exact Nat.mod_eq_of_lt (by omega : (β (1 : Fin 2)).val < 2 ^ 32)
  · blk_simp
    rw [after0_2]
    refine (congrArg (out0_2 (iblk m c 0 t) (iblk m c 1 t)) (eq_ix2 _)).trans (block_apply m c t _ _ _ _ ?_ ?_)
    · blk_simp [indices t]
    · blk_simp [indices t]

/-- The run ends with the product of the tokens and the weights, and the arguments unchanged. -/
theorem run_result (ρ : Dev nD → PrngReg) : θ_run defs (onTc (τ := τ) (main (F := Ideal))) ⟨m, fun _ => 0, ρ⟩ (fun r => ∀ c : Dev nD,
      r.2.mem ((c.tc : Thread nD τ).loc main_v1) = (fun y : S32768x5632.Idx => ((arrays m c).product (y 0) (source (y 1)) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.Kernel5Ideal.Latent
-- ==== Proof.Proj.LatentReference.lean ====
/-
  The reference's projection of the latent tokens, read one element at a time.
-/
module

public import proofs.«01_k».proof.Proof.Gen.Reference5Ideal.Read
public import proofs.«01_k».proof.Proof.Proj.Spec
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Reference5Ideal.Latent

open Cert.Reference5Ideal Cert.Reference5Ideal.Gen Cert.Reference5Ideal.Read Cert.Proj

/-- The reference's arguments hold the arrays `A`. -/
structure Holds (A : Arrays 32768) (x0 : Vec Ideal S32768x4096 .bf16) (x1 : Vec Ideal S4096x5632 .f32) : Prop where
  tokens : ∀ i l, x0 (ix2 i l) = A.tokens i l
  weight : ∀ l q, x1 (ix2 l q) = A.weight q l

variable {A : Arrays 32768} {x0 : Vec Ideal S32768x4096 .bf16} {x1 : Vec Ideal S4096x5632 .f32}

theorem product_apply (h : Holds A x0 x1) (i : Fin 32768) (q : Fin 5632) : val_main_v1 (F := Ideal) x0 x1 (ix2 i q) = A.product i q := by
  refine (val_main_v1_apply x0 x1 _).trans ?_
  refine Finset.sum_congr rfl fun l _ => ?_
  rw [show lidx_main_v1 (ix2 i q) l = ix2 i l from eq_ix2 _, show ridx_main_v1 (ix2 i q) l = ix2 l q from eq_ix2 _]
  exact congrArg₂ (HMul.hMul (α := EReal) (β := EReal)) (h.tokens i l) (h.weight l q)

/-- The joined columns. -/
theorem columns_apply (h : Holds A x0 x1) (i : Fin 32768) (q : Fin 5632) : val_main_v9 (F := Ideal) x0 x1 (ix2 i q) = A.product i (source q) := by
  rw [← product_apply h]
  pointwise [val_main_v9, val_main_v8, val_main_v7, val_main_v6, val_main_v5, val_main_v4, val_main_v3, val_main_v2]
  split_ifs
  all_goals exact congrArg (fun p => val_main_v1 (F := Ideal) x0 x1 (ix2 i p)) (Fin.ext (by simp only [source]; omega))

/-- The result. -/
theorem result_apply (h : Holds A x0 x1) (i : Fin 32768) (q : Fin 5632) : val_main_v10 (F := Ideal) x0 x1 (ix2 i q) = A.product i (source q) := by
  rw [← columns_apply h]
  pointwise [val_main_v10]

end Cert.Reference5Ideal.Latent
-- ==== Proof.Proj.LatentEqual.lean ====
/-
  The projection of the latent tokens: the kernel and its reference compute the same arrays.
-/
module

public import proofs.«01_k».proof.Defs
public import proofs.«01_k».proof.Proof.Proj.LatentArray
public import proofs.«01_k».proof.Proof.Proj.LatentReference
public import proofs.«01_k».proof.Proof.Gen.Reference5Ideal
public import Idealize.ShloMosaic.Lib.Claim

@[expose] public section

set_option maxRecDepth 16384

noncomputable section

open Idealize.ShloMosaic Idealize.ShloMosaic.TcCoe Idealize.SL.Sem

namespace Cert.Proj.Latent

/-- The frame of the reference. -/
theorem frame_reference : haveI := Cert.Reference5Ideal.Gen.facts; Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- What the arguments' agreement gives the reference. -/
theorem holds (m : (ℓ : Loc Cert.Kernel5Ideal.nD Cert.Kernel5Ideal.τ Cert.Kernel5Ideal.sig) → Buf (Elt Ideal) ℓ) (c : Dev Cert.Kernel5Ideal.nD)
    {x0 : Vec Ideal Cert.Reference5Ideal.S32768x4096 .bf16} {x1 : Vec Ideal Cert.Reference5Ideal.S4096x5632 .f32}
    (e0 : x0 = m ((c.tc : Thread Cert.Kernel5Ideal.nD Cert.Kernel5Ideal.τ).loc Cert.Kernel5Ideal.main_arg0)) (e1 : x1 = m ((c.tc : Thread Cert.Kernel5Ideal.nD Cert.Kernel5Ideal.τ).loc Cert.Kernel5Ideal.main_arg1)) :
    Cert.Reference5Ideal.Latent.Holds (Cert.Kernel5Ideal.Latent.arrays m c) x0 x1 := ⟨fun i l => congrFun e0 _, fun l q => congrFun e1 _⟩

/-- From arguments that agree, the kernel and the reference end with the same arrays. -/
theorem algebraic : haveI := Cert.Kernel5Ideal.Gen.facts; haveI := Cert.Reference5Ideal.Gen.facts; Cert.algebraic_Kernel5Ideal_Reference5Ideal := by
  intro m ρ m' ρ' _ hagree
  refine ⟨fun c => fun y : Cert.Kernel5Ideal.S32768x5632.Idx => ((Cert.Kernel5Ideal.Latent.arrays m c).product (y 0) (source (y 1)) : EReal),
    Cert.Kernel5Ideal.Latent.run_result m ρ, ?_⟩
  refine (θ_run Cert.Reference5Ideal.defs _ _).mono (fun r h c => ⟨(h c).1.trans ?_, (h c).2⟩) (Cert.Reference5Ideal.Value.run (F := Ideal) m' ρ')
  refine (Cert.Reference5Ideal.Read.val_main_v10_eq (F := Ideal) _ _).trans ?_
  obtain ⟨e0, e1⟩ := hagree c
  funext y
  exact (congrArg (Cert.Reference5Ideal.Read.val_main_v10 (F := Ideal) _ _) (eq_ix2 y)).trans (Cert.Reference5Ideal.Latent.result_apply (holds m c e0 e1) (y 0) (y 1))

end Cert.Proj.Latent
-- ==== Proof.DownPrompt.Setup.lean ====
/-
  The down-projection of the feed-forward layer with its gated residual, which of its seven cases a
  grid point takes, and the buffers its body is given.

  The grid is 4 row tiles by 26 steps, run row tile by row tile. Steps 0 to 21 multiply a block of 512
  columns of the gated tokens by the 512 matching rows of the weights and add the product to a scratch
  buffer; step 21 has 256 columns only, and takes the rows' scale from the finished sums. Steps 22 to 25
  write a quarter of the row tile each.
-/
module

public import proofs.«01_k».proof.Proof.Gen.Kernel6Ideal.Frame
public import proofs.«01_k».proof.Proof.Gen.Kernel6Ideal.Skeleton
public import Idealize.ShloMosaic.Lib.Ring
public import Idealize.ShloMosaic.Lib.WordCmp
public import Idealize.ShloMosaic.Lib.WholeRead
public import Idealize.ShloMosaic.Lib.VecWindow

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the product is stored. -/
abbrev cond0 (i : grid0.Coords) : Prop := (Scalar.cmpi .ne (Scalar.extui (Scalar.cmpi .eq (BitVec.ofNat 32 (i 1).val) 0#32)) 0#32) = 1#1
/-- It holds at the first step. -/
theorem hcond0 : ∀ t : Fin cfg0.N, cond0 (grid0.coords t) ↔ t.val % 26 = 0 :=
  (by decide +kernel : ∀ t : Fin grid0.N, cond0 (grid0.coords t) ↔ t.val % 26 = 0)

/-- The condition under which a whole product is added. -/
abbrev cond1 (i : grid0.Coords) : Prop := (Scalar.cmpi .ne (Scalar.extui (Scalar.andi (Scalar.cmpi .sgt (BitVec.ofNat 32 (i 1).val) 0#32) (Scalar.cmpi .slt (BitVec.ofNat 32 (i 1).val) 21#32))) 0#32) = 1#1
/-- It holds at the steps 1 to 20. -/
theorem hcond1 : ∀ t : Fin cfg0.N, cond1 (grid0.coords t) ↔ (1 ≤ t.val % 26 ∧ t.val % 26 ≤ 20) :=
  (by decide +kernel : ∀ t : Fin grid0.N, cond1 (grid0.coords t) ↔ (1 ≤ t.val % 26 ∧ t.val % 26 ≤ 20))

/-- The condition under which half a product is added and the scale taken. -/
abbrev cond2 (i : grid0.Coords) : Prop := (Scalar.cmpi .ne (Scalar.extui (Scalar.cmpi .eq (BitVec.ofNat 32 (i 1).val) 21#32)) 0#32) = 1#1
/-- It holds at step 21. -/
theorem hcond2 : ∀ t : Fin cfg0.N, cond2 (grid0.coords t) ↔ t.val % 26 = 21 :=
  (by decide +kernel : ∀ t : Fin grid0.N, cond2 (grid0.coords t) ↔ t.val % 26 = 21)

/-- The condition under which the first quarter is written. -/
abbrev cond3 (i : grid0.Coords) : Prop := k0_cond4 i = 1#1
/-- It holds at step 22. -/
theorem hcond3 : ∀ t : Fin cfg0.N, cond3 (grid0.coords t) ↔ t.val % 26 = 22 :=
  (by decide +kernel : ∀ t : Fin grid0.N, cond3 (grid0.coords t) ↔ t.val % 26 = 22)

/-- The condition under which the second quarter is written. -/
abbrev cond4 (i : grid0.Coords) : Prop := k0_cond5 i = 1#1
/-- It holds at step 23. -/
theorem hcond4 : ∀ t : Fin cfg0.N, cond4 (grid0.coords t) ↔ t.val % 26 = 23 :=
  (by decide +kernel : ∀ t : Fin grid0.N, cond4 (grid0.coords t) ↔ t.val % 26 = 23)

/-- The condition under which the third quarter is written. -/
abbrev cond5 (i : grid0.Coords) : Prop := k0_cond6 i = 1#1
/-- It holds at step 24. -/
theorem hcond5 : ∀ t : Fin cfg0.N, cond5 (grid0.coords t) ↔ t.val % 26 = 24 :=
  (by decide +kernel : ∀ t : Fin grid0.N, cond5 (grid0.coords t) ↔ t.val % 26 = 24)

/-- The condition under which the last quarter is written. -/
abbrev cond6 (i : grid0.Coords) : Prop := k0_cond7 i = 1#1
/-- It holds at step 25. -/
theorem hcond6 : ∀ t : Fin cfg0.N, cond6 (grid0.coords t) ↔ t.val % 26 = 25 :=
  (by decide +kernel : ∀ t : Fin grid0.N, cond6 (grid0.coords t) ↔ t.val % 26 = 25)

/-! The staging buffer each window uses at a point, a whole buffer. -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x4096 .f32 := win0_5.stage (cfg0.slots t 5)
abbrev hs5 (t : Fin cfg0.N) : (ms5 t).IsWhole := hstage0_5 ((cfg0.slots t 5).cast nbuf0_5)

/-- The scratch buffer the sums are kept in, and the one the rows' scales are kept in. -/
abbrev accM : Memref sig .tc .vmem S1024x4096 .f32 := Memref.whole cc0_scratch0
abbrev rsM : Memref sig .tc .vmem S1024x1 .f32 := Memref.whole cc0_scratch1

/-- The first 256 columns of a block of the tokens, and the first 256 rows of a block of the weights. -/
def leftHalf (x : Vec F S1024x512 .bf16) : Vec F S1024x256 .bf16 :=
  fun j => x ((Rect.unit (s := S1024x512) ![0, 0] S1024x256.size inb_S1024x512_S1024x256_0_0).toLoadRect.idx j)
def topHalf (x : Vec F S512x4096 .bf16) : Vec F S256x4096 .bf16 :=
  fun j => x ((Rect.unit (s := S512x4096) ![0, 0] S256x4096.size inb_S512x4096_S256x4096_0_0).toLoadRect.idx j)

/-- One view of the output's staging buffer: what the stores leave is read back through it. -/
abbrev VO : View sig .tc .vmem S256x4096 .f32 := (Memref.whole cc0_stg5_0 : Memref sig .tc .vmem S256x4096 .f32).view

/-- What the region holds between points: the two scratch buffers at some contents and the random state. -/
theorem PhiA0_eq (c : Dev nD) :
    (Pipeline.ΦA spec0 c : sProp 𝕄)
      = iprop(iprop((∃ d, owns (c : Thread nD τ) accM fullShare d) ∗ (∃ d, owns (c : Thread nD τ) rsM fullShare d)) ∗ (∃ r, prngReg c r)) := by
  unfold Pipeline.ΦA; rw [scopedRest0_eq]; simp only [accM, rsM, owns_whole]; try rfl

end Cert.Kernel6Ideal.DownPrompt

end
-- ==== Proof.DownPrompt.RunA.lean ====
/-
  The body at the first step of a row tile: it stores the product of the two blocks in the scratch buffer.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first step of a row tile: it stores the product of the two blocks in the scratch buffer. -/
theorem runA (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : cond0 i) (hc1 : ¬cond1 i) (hc2 : ¬cond2 i) (hc3 : ¬cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (x5 : Vec F S256x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 x0 x1) ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs1
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    rw [View.read_writes_full, View.readAt_full, View.readAt_full, hf0, hf1]
  iexists _; isplitr; · ipureintro; exact harg9.read_unread _
  iexact HS1

end Cert.Kernel6Ideal.DownPrompt

end
-- ==== Proof.DownPrompt.RunB.lean ====
/-
  The body at the steps 1 to 20: it adds the product of the two blocks to the scratch buffer.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the steps 1 to 20: it adds the product of the two blocks to the scratch buffer. -/
theorem runB (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : cond1 i) (hc2 : ¬cond2 i) (hc3 : ¬cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (x5 : Vec F S256x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 x1 xs0) ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    rw [View.read_writes_full, View.readAt_full, View.readAt_full, View.readAt_full, hf0, hf1, hfs0]
  iexists _; isplitr; · ipureintro; exact harg9.read_unread _
  iexact HS1

end Cert.Kernel6Ideal.DownPrompt

end
-- ==== Proof.DownPrompt.RunC.lean ====
/-
  The body at step 21: it adds the product of the two blocks' first halves to the scratch buffer and takes the rows' scales.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at step 21: it adds the product of the two blocks' first halves to the scratch buffer and takes the rows' scales. -/
theorem runC (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : cond2 i) (hc3 : ¬cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (x5 : Vec F S256x4096 .f32) (xs0 : Vec F S1024x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (leftHalf x0) (topHalf x1) xs0) ∗ owns (c : Thread nD τ) arg9 fullShare (k0_pay5 (leftHalf x0) (topHalf x1) xs0)) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    have e0 : View.readAt (Elt F) arg2.view (Rect.unit (s := S1024x512) ![0, 0] S1024x256.size inb_S1024x512_S1024x256_0_0).toLoadRect (harg2.unread x0) = leftHalf x0 := funext fun j => harg2.readAt_unread x0 _ j
    have e1 : View.readAt (Elt F) arg3.view (Rect.unit (s := S512x4096) ![0, 0] S256x4096.size inb_S512x4096_S256x4096_0_0).toLoadRect (harg3.unread x1) = topHalf x1 := funext fun j => harg3.readAt_unread x1 _ j
    rw [View.read_writes_full, View.readAt_full, hfs0, e0, e1]
  · iexists _; isplitr
    swap; · iexact HS1
    ipureintro
    have e0 : View.readAt (Elt F) arg2.view (Rect.unit (s := S1024x512) ![0, 0] S1024x256.size inb_S1024x512_S1024x256_0_0).toLoadRect (harg2.unread x0) = leftHalf x0 := funext fun j => harg2.readAt_unread x0 _ j
    have e1 : View.readAt (Elt F) arg3.view (Rect.unit (s := S512x4096) ![0, 0] S256x4096.size inb_S512x4096_S256x4096_0_0).toLoadRect (harg3.unread x1) = topHalf x1 := funext fun j => harg3.readAt_unread x1 _ j
    rw [View.read_writes_full, View.readAt_full, hfs0, e0, e1]

end Cert.Kernel6Ideal.DownPrompt

end
-- ==== Proof.DownPrompt.RunR0.lean ====
/-
  The body at step 22: in 16 strips of 16 rows it writes the first quarter of the row tile.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip0 (i : grid0.Coords) (arg4 : Memref sig .tc .vmem S256x4096 .f32) (arg8 : Memref sig .tc .vmem S1024x4096 .f32) (arg9 : Memref sig .tc .vmem S1024x1 .f32) (hc3 : cond3 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t1_loop.trips) : View.Piece (Elt F) S256x4096 .f32 :=
  ⟨Rect.unit (s := S256x4096) (k0_off1 k) S16x4096.size (k0_off1_inb i k hc3),
    k0_pay6 v23 v25 (arg4.view.readAt (Elt F) (Rect.unit (s := S256x4096) (k0_off1 k) S16x4096.size (k0_off1_inb i k hc3)).toLoadRect X4)
      (arg8.view.readAt (Elt F) (Rect.unit (s := S1024x4096) (k0_off2 k) S16x4096.size (k0_off2_inb i k hc3)).toLoadRect X8)
      (arg9.view.readAt (Elt F) (Rect.unit (s := S1024x1) (k0_off3 k) S16x1.size (k0_off3_inb i k hc3)).toLoadRect X9)⟩

/-- The strips of the trips before `k`, the last first. -/
def strips0 (i : grid0.Coords) (arg4 : Memref sig .tc .vmem S256x4096 .f32) (arg8 : Memref sig .tc .vmem S1024x4096 .f32) (arg9 : Memref sig .tc .vmem S1024x1 .f32) (hc3 : cond3 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t1_loop.trips then strip0 i arg4 arg8 arg9 hc3 v23 v25 X4 X8 X9 ⟨k, h⟩ :: strips0 i arg4 arg8 arg9 hc3 v23 v25 X4 X8 X9 k
      else strips0 i arg4 arg8 arg9 hc3 v23 v25 X4 X8 X9 k

/-- What holds before trip `k`: the strips of the trips before it are written. -/
def inv0 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc3 : cond3 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips0 i arg4 arg8 arg9 hc3 v23 v25 X4 X8 X9 k)⌝))

set_option maxHeartbeats 1000000 in
/-- One trip. -/
theorem step0 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc3 : cond3 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t1_loop.trips) (u : Unit) :
    inv0 c i arg4 arg7 arg8 arg9 hc3 v23 v25 X4 X7 X8 X9 k u
      ⊢ wp frame (wpE (defs₀ (F := F)) Variants.none (c : Thread nD τ) none) E (k0_t1_body (F := F) i arg2 harg2 arg3 harg3 arg4 harg4 arg5 harg5 arg6 harg6 arg7 harg7 arg8 harg8 arg9 harg9 hc3 v23 v25 k u)
          (inv0 c i arg4 arg7 arg8 arg9 hc3 v23 v25 X4 X7 X8 X9 (k.val + 1)) := by
  unfold inv0 k0_t1_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips0 i arg4 arg8 arg9 hc3 v23 v25 X4 X8 X9 (k.val + 1))
  rw [strips0, dif_pos k.isLt]; rfl

set_option warn.classDefReducibility false in
/-- The loop, by its invariant. -/
def loop0 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc3 : cond3 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t1_loop.lb k0_t1_loop.ub k0_t1_loop.st (k0_t1_ok i hc3) ⟨⟩
      (k0_t1_body (F := F) i arg2 harg2 arg3 harg3 arg4 harg4 arg5 harg5 arg6 harg6 arg7 harg7 arg8 harg8 arg9 harg9 hc3 v23 v25) where
  inv := inv0 c i arg4 arg7 arg8 arg9 hc3 v23 v25 X4 X7 X8 X9
  step := step0 c i arg2 harg2 arg3 harg3 arg4 harg4 arg5 harg5 arg6 harg6 arg7 harg7 arg8 harg8 arg9 harg9 hc3 v23 v25 X4 X7 X8 X9 E

/-- The strips the body leaves in the output's buffer. -/
abbrev out0 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc3 : cond3 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips0 i arg4 arg8 arg9 hc3 x3 x4 (harg4.unread x2) (harg8.unread xs0) (harg9.unread xs1) 16

set_option maxHeartbeats 1000000 in
/-- The body at step 22. -/
theorem runR0 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : cond3 i) (hc4 : ¬cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out0 i arg2 harg2 arg3 harg3 arg4 harg4 arg5 harg5 arg6 harg6 arg7 harg7 arg8 harg8 arg9 harg9 hc3 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop0 (F := F) c i arg2 harg2 arg3 harg3 arg4 harg4 arg5 harg5 arg6 harg6 arg7 harg7 arg8 harg8 arg9 harg9 hc3 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel6Ideal.DownPrompt

end
-- ==== Proof.DownPrompt.RunR1.lean ====
/-
  The body at step 23: in 16 strips of 16 rows it writes the second quarter of the row tile.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip1 (i : grid0.Coords) (arg4 : Memref sig .tc .vmem S256x4096 .f32) (arg8 : Memref sig .tc .vmem S1024x4096 .f32) (arg9 : Memref sig .tc .vmem S1024x1 .f32) (hc4 : cond4 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t2_loop.trips) : View.Piece (Elt F) S256x4096 .f32 :=
  ⟨Rect.unit (s := S256x4096) (k0_off4 k) S16x4096.size (k0_off4_inb i k hc4),
    k0_pay7 v23 v25 (arg4.view.readAt (Elt F) (Rect.unit (s := S256x4096) (k0_off4 k) S16x4096.size (k0_off4_inb i k hc4)).toLoadRect X4)
      (arg8.view.readAt (Elt F) (Rect.unit (s := S1024x4096) (k0_off5 k) S16x4096.size (k0_off5_inb i k hc4)).toLoadRect X8)
      (arg9.view.readAt (Elt F) (Rect.unit (s := S1024x1) (k0_off6 k) S16x1.size (k0_off6_inb i k hc4)).toLoadRect X9)⟩

/-- The strips of the trips before `k`, the last first. -/
def strips1 (i : grid0.Coords) (arg4 : Memref sig .tc .vmem S256x4096 .f32) (arg8 : Memref sig .tc .vmem S1024x4096 .f32) (arg9 : Memref sig .tc .vmem S1024x1 .f32) (hc4 : cond4 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t2_loop.trips then strip1 i arg4 arg8 arg9 hc4 v23 v25 X4 X8 X9 ⟨k, h⟩ :: strips1 i arg4 arg8 arg9 hc4 v23 v25 X4 X8 X9 k
      else strips1 i arg4 arg8 arg9 hc4 v23 v25 X4 X8 X9 k

/-- What holds before trip `k`: the strips of the trips before it are written. -/
def inv1 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc4 : cond4 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips1 i arg4 arg8 arg9 hc4 v23 v25 X4 X8 X9 k)⌝))

set_option maxHeartbeats 1000000 in
/-- One trip. -/
theorem step1 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc4 : cond4 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t2_loop.trips) (u : Unit) :
    inv1 c i arg4 arg7 arg8 arg9 hc4 v23 v25 X4 X7 X8 X9 k u
      ⊢ wp frame (wpE (defs₀ (F := F)) Variants.none (c : Thread nD τ) none) E (k0_t2_body (F := F) i arg2 harg2 arg3 harg3 arg4 harg4 arg5 harg5 arg6 harg6 arg7 harg7 arg8 harg8 arg9 harg9 hc4 v23 v25 k u)
          (inv1 c i arg4 arg7 arg8 arg9 hc4 v23 v25 X4 X7 X8 X9 (k.val + 1)) := by
  unfold inv1 k0_t2_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips1 i arg4 arg8 arg9 hc4 v23 v25 X4 X8 X9 (k.val + 1))
  rw [strips1, dif_pos k.isLt]; rfl

set_option warn.classDefReducibility false in
/-- The loop, by its invariant. -/
def loop1 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc4 : cond4 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t2_loop.lb k0_t2_loop.ub k0_t2_loop.st (k0_t2_ok i hc4) ⟨⟩
      (k0_t2_body (F := F) i arg2 harg2 arg3 harg3 arg4 harg4 arg5 harg5 arg6 harg6 arg7 harg7 arg8 harg8 arg9 harg9 hc4 v23 v25) where
  inv := inv1 c i arg4 arg7 arg8 arg9 hc4 v23 v25 X4 X7 X8 X9
  step := step1 c i arg2 harg2 arg3 harg3 arg4 harg4 arg5 harg5 arg6 harg6 arg7 harg7 arg8 harg8 arg9 harg9 hc4 v23 v25 X4 X7 X8 X9 E

/-- The strips the body leaves in the output's buffer. -/
abbrev out1 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc4 : cond4 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips1 i arg4 arg8 arg9 hc4 x3 x4 (harg4.unread x2) (harg8.unread xs0) (harg9.unread xs1) 16

set_option maxHeartbeats 1000000 in
/-- The body at step 23. -/
theorem runR1 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : ¬cond3 i) (hc4 : cond4 i) (hc5 : ¬cond5 i) (hc6 : ¬cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out1 i arg2 harg2 arg3 harg3 arg4 harg4 arg5 harg5 arg6 harg6 arg7 harg7 arg8 harg8 arg9 harg9 hc4 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop1 (F := F) c i arg2 harg2 arg3 harg3 arg4 harg4 arg5 harg5 arg6 harg6 arg7 harg7 arg8 harg8 arg9 harg9 hc4 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel6Ideal.DownPrompt

end
-- ==== Proof.DownPrompt.RunR2.lean ====
/-
  The body at step 24: in 16 strips of 16 rows it writes the third quarter of the row tile.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip2 (i : grid0.Coords) (arg4 : Memref sig .tc .vmem S256x4096 .f32) (arg8 : Memref sig .tc .vmem S1024x4096 .f32) (arg9 : Memref sig .tc .vmem S1024x1 .f32) (hc5 : cond5 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t3_loop.trips) : View.Piece (Elt F) S256x4096 .f32 :=
  ⟨Rect.unit (s := S256x4096) (k0_off7 k) S16x4096.size (k0_off7_inb i k hc5),
    k0_pay8 v23 v25 (arg4.view.readAt (Elt F) (Rect.unit (s := S256x4096) (k0_off7 k) S16x4096.size (k0_off7_inb i k hc5)).toLoadRect X4)
      (arg8.view.readAt (Elt F) (Rect.unit (s := S1024x4096) (k0_off8 k) S16x4096.size (k0_off8_inb i k hc5)).toLoadRect X8)
      (arg9.view.readAt (Elt F) (Rect.unit (s := S1024x1) (k0_off9 k) S16x1.size (k0_off9_inb i k hc5)).toLoadRect X9)⟩

/-- The strips of the trips before `k`, the last first. -/
def strips2 (i : grid0.Coords) (arg4 : Memref sig .tc .vmem S256x4096 .f32) (arg8 : Memref sig .tc .vmem S1024x4096 .f32) (arg9 : Memref sig .tc .vmem S1024x1 .f32) (hc5 : cond5 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t3_loop.trips then strip2 i arg4 arg8 arg9 hc5 v23 v25 X4 X8 X9 ⟨k, h⟩ :: strips2 i arg4 arg8 arg9 hc5 v23 v25 X4 X8 X9 k
      else strips2 i arg4 arg8 arg9 hc5 v23 v25 X4 X8 X9 k

/-- What holds before trip `k`: the strips of the trips before it are written. -/
def inv2 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc5 : cond5 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips2 i arg4 arg8 arg9 hc5 v23 v25 X4 X8 X9 k)⌝))

set_option maxHeartbeats 1000000 in
/-- One trip. -/
theorem step2 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc5 : cond5 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t3_loop.trips) (u : Unit) :
    inv2 c i arg4 arg7 arg8 arg9 hc5 v23 v25 X4 X7 X8 X9 k u
      ⊢ wp frame (wpE (defs₀ (F := F)) Variants.none (c : Thread nD τ) none) E (k0_t3_body (F := F) i arg2 harg2 arg3 harg3 arg4 harg4 arg5 harg5 arg6 harg6 arg7 harg7 arg8 harg8 arg9 harg9 hc5 v23 v25 k u)
          (inv2 c i arg4 arg7 arg8 arg9 hc5 v23 v25 X4 X7 X8 X9 (k.val + 1)) := by
  unfold inv2 k0_t3_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips2 i arg4 arg8 arg9 hc5 v23 v25 X4 X8 X9 (k.val + 1))
  rw [strips2, dif_pos k.isLt]; rfl

set_option warn.classDefReducibility false in
/-- The loop, by its invariant. -/
def loop2 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc5 : cond5 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t3_loop.lb k0_t3_loop.ub k0_t3_loop.st (k0_t3_ok i hc5) ⟨⟩
      (k0_t3_body (F := F) i arg2 harg2 arg3 harg3 arg4 harg4 arg5 harg5 arg6 harg6 arg7 harg7 arg8 harg8 arg9 harg9 hc5 v23 v25) where
  inv := inv2 c i arg4 arg7 arg8 arg9 hc5 v23 v25 X4 X7 X8 X9
  step := step2 c i arg2 harg2 arg3 harg3 arg4 harg4 arg5 harg5 arg6 harg6 arg7 harg7 arg8 harg8 arg9 harg9 hc5 v23 v25 X4 X7 X8 X9 E

/-- The strips the body leaves in the output's buffer. -/
abbrev out2 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc5 : cond5 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips2 i arg4 arg8 arg9 hc5 x3 x4 (harg4.unread x2) (harg8.unread xs0) (harg9.unread xs1) 16

set_option maxHeartbeats 1000000 in
/-- The body at step 24. -/
theorem runR2 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : ¬cond3 i) (hc4 : ¬cond4 i) (hc5 : cond5 i) (hc6 : ¬cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out2 i arg2 harg2 arg3 harg3 arg4 harg4 arg5 harg5 arg6 harg6 arg7 harg7 arg8 harg8 arg9 harg9 hc5 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop2 (F := F) c i arg2 harg2 arg3 harg3 arg4 harg4 arg5 harg5 arg6 harg6 arg7 harg7 arg8 harg8 arg9 harg9 hc5 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel6Ideal.DownPrompt

end
-- ==== Proof.DownPrompt.RunR3.lean ====
/-
  The body at step 25: in 16 strips of 16 rows it writes the last quarter of the row tile.
-/
module

public import proofs.«01_k».proof.Proof.DownPrompt.Setup

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The strip a trip of the loop writes: its place, and the value from what the trip loads. -/
def strip3 (i : grid0.Coords) (arg4 : Memref sig .tc .vmem S256x4096 .f32) (arg8 : Memref sig .tc .vmem S1024x4096 .f32) (arg9 : Memref sig .tc .vmem S1024x1 .f32) (hc6 : cond6 i) (v23 : Vec F S1x1x4096 .f32) (v25 : Vec F S1x4096 .f32)
    (X4 : arg4.view.ty.Contents (Elt F)) (X8 : arg8.view.ty.Contents (Elt F)) (X9 : arg9.view.ty.Contents (Elt F)) (k : Fin k0_t4_loop.trips) : View.Piece (Elt F) S256x4096 .f32 :=
  ⟨Rect.unit (s := S256x4096) (k0_off10 k) S16x4096.size (k0_off10_inb i k hc6),
    k0_pay9 v23 v25 (arg4.view.readAt (Elt F) (Rect.unit (s := S256x4096) (k0_off10 k) S16x4096.size (k0_off10_inb i k hc6)).toLoadRect X4)
      (arg8.view.readAt (Elt F) (Rect.unit (s := S1024x4096) (k0_off11 k) S16x4096.size (k0_off11_inb i k hc6)).toLoadRect X8)
      (arg9.view.readAt (Elt F) (Rect.unit (s := S1024x1) (k0_off12 k) S16x1.size (k0_off12_inb i k hc6)).toLoadRect X9)⟩

/-- The strips of the trips before `k`, the last first. -/
def strips3 (i : grid0.Coords) (arg4 : Memref sig .tc .vmem S256x4096 .f32) (arg8 : Memref sig .tc .vmem S1024x4096 .f32) (arg9 : Memref sig .tc .vmem S1024x1 .f32) (hc6 : cond6 i) (v23 : Vec F S1x1x4096 .f32) (v25 : Vec F S1x4096 .f32)
    (X4 : arg4.view.ty.Contents (Elt F)) (X8 : arg8.view.ty.Contents (Elt F)) (X9 : arg9.view.ty.Contents (Elt F)) : ℕ → List (View.Piece (Elt F) S256x4096 .f32)
  | 0 => []
  | k + 1 => if h : k < k0_t4_loop.trips then strip3 i arg4 arg8 arg9 hc6 v23 v25 X4 X8 X9 ⟨k, h⟩ :: strips3 i arg4 arg8 arg9 hc6 v23 v25 X4 X8 X9 k
      else strips3 i arg4 arg8 arg9 hc6 v23 v25 X4 X8 X9 k

/-- What holds before trip `k`: the strips of the trips before it are written. -/
def inv3 (c : Dev nD) (i : grid0.Coords) (arg4 : Memref sig .tc .vmem S256x4096 .f32) (arg7 : Memref sig .tc .vmem S256x4096 .f32) (arg8 : Memref sig .tc .vmem S1024x4096 .f32) (arg9 : Memref sig .tc .vmem S1024x1 .f32) (hc6 : cond6 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (k : ℕ) (_ : Unit) : sProp 𝕄 :=
  iprop((arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9)
    ∗ (∃ f, (arg7.view.loc (c : Thread nD τ) ↦[arg7.view.set]{fullShare} f) ∗ ⌜f = arg7.view.writes (Elt F) X7 (strips3 i arg4 arg8 arg9 hc6 v23 v25 X4 X8 X9 k)⌝))

set_option maxHeartbeats 1000000 in
/-- One trip. -/
theorem step3 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc6 : cond6 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) (k : Fin k0_t4_loop.trips) (u : Unit) :
    inv3 c i arg4 arg7 arg8 arg9 hc6 v23 v25 X4 X7 X8 X9 k u
      ⊢ wp frame (wpE (defs₀ (F := F)) Variants.none (c : Thread nD τ) none) E (k0_t4_body (F := F) i arg2 harg2 arg3 harg3 arg4 harg4 arg5 harg5 arg6 harg6 arg7 harg7 arg8 harg8 arg9 harg9 hc6 v23 v25 k u)
          (inv3 c i arg4 arg7 arg8 arg9 hc6 v23 v25 X4 X7 X8 X9 (k.val + 1)) := by
  unfold inv3 k0_t4_body
  iintro ⟨H4, H8, H9, ⟨%f, H7, %hf⟩⟩
  sl_exec
  sl_step
  isplitl [H4]; · iexact H4
  isplitl [H8]; · iexact H8
  isplitl [H9]; · iexact H9
  iexists _; isplitl [H7]; · iexact H7
  ipureintro
  rw [hf]
  show _ = View.writes _ _ _ (strips3 i arg4 arg8 arg9 hc6 v23 v25 X4 X8 X9 (k.val + 1))
  rw [strips3, dif_pos k.isLt]; rfl

set_option warn.classDefReducibility false in
/-- The loop, by its invariant. -/
def loop3 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc6 : cond6 i) (v23 : Vec F S1x1x4096 .f32) (v25 : Vec F S1x4096 .f32)
    (X4 : arg4.view.ty.Contents (Elt F)) (X7 : arg7.view.ty.Contents (Elt F)) (X8 : arg8.view.ty.Contents (Elt F)) (X9 : arg9.view.ty.Contents (Elt F)) (E : Set ℕ) :
    LoopInv (M := 𝕄) frame (wpE (defs₀ (F := F)) Variants.none (c : Thread nD τ) none) E k0_t4_loop.lb k0_t4_loop.ub k0_t4_loop.st (k0_t4_ok i hc6) ⟨⟩
      (k0_t4_body (F := F) i arg2 harg2 arg3 harg3 arg4 harg4 arg5 harg5 arg6 harg6 arg7 harg7 arg8 harg8 arg9 harg9 hc6 v23 v25) where
  inv := inv3 c i arg4 arg7 arg8 arg9 hc6 v23 v25 X4 X7 X8 X9
  step := step3 c i arg2 harg2 arg3 harg3 arg4 harg4 arg5 harg5 arg6 harg6 arg7 harg7 arg8 harg8 arg9 harg9 hc6 v23 v25 X4 X7 X8 X9 E

/-- The strips the body leaves in the output's buffer. -/
abbrev out3 (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc6 : cond6 i)
    (x2 : Vec F S256x4096 .f32) (x3 : Vec F S1x1x4096 .f32) (x4 : Vec F S1x4096 .f32) (xs0 : Vec F S1024x4096 .f32) (xs1 : Vec F S1024x1 .f32) : List (View.Piece (Elt F) S256x4096 .f32) :=
  strips3 i arg4 arg8 arg9 hc6 x3 x4 (harg4.unread x2) (harg8.unread xs0) (harg9.unread xs1) 16

set_option maxHeartbeats 1000000 in
/-- The body at step 25. -/
theorem runR3 (c : Dev nD) (i : grid0.Coords) (arg2 : Memref sig .tc .vmem S1024x512 .bf16) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S1024x4096 .f32) (harg8 : arg8.IsWhole) (arg9 : Memref sig .tc .vmem S1024x1 .f32) (harg9 : arg9.IsWhole) (hc0 : ¬cond0 i) (hc1 : ¬cond1 i) (hc2 : ¬cond2 i) (hc3 : ¬cond3 i) (hc4 : ¬cond4 i) (hc5 : ¬cond5 i) (hc6 : cond6 i)
    (x0 : Vec F S1024x512 .bf16) (x1 : Vec F S512x4096 .bf16) (x2 : Vec F S256x4096 .f32) (x3 : Vec F S1x1x4096 .f32) (x4 : Vec F S1x4096 .f32) (xs0 : Vec F S1024x4096 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (out3 i arg2 harg2 arg3 harg3 arg4 harg4 arg5 harg5 arg6 harg6 arg7 harg7 arg8 harg8 arg9 harg9 hc6 x2 x3 x4 xs0 xs1)) ∗ owns (c : Thread nD τ) arg8 fullShare xs0 ∗ owns (c : Thread nD τ) arg9 fullShare xs1) -∗ K ⟨⟩))
      ⊢ wp frame (wpE (defs₀ (F := F)) Variants.none c none) E (cc0_mm_res i arg2 harg2 arg3 harg3 arg4 harg4 arg5 harg5 arg6 harg6 arg7 harg7 arg8 harg8 arg9 harg9) K := by
  simp only [cc0_mm_res_eq_skeleton]; unfold cc0_mm_res_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
  let L := loop3 (F := F) c i arg2 harg2 arg3 harg3 arg4 harg4 arg5 harg5 arg6 harg6 arg7 harg7 arg8 harg8 arg9 harg9 hc6 (View.readAt (Elt F) arg5.view (Rect.unit (s := S1x1x4096) ![0, 0, 0] S1x1x4096.size inb_S1x1x4096_S1x1x4096_0_0_0).toLoadRect (harg5.unread x3)) (View.readAt (Elt F) arg6.view (Rect.unit (s := S1x4096) ![0, 0] S1x4096.size inb_S1x4096_S1x4096_0_0).toLoadRect (harg6.unread x4)) (harg4.unread x2) f5 (harg8.unread xs0) (harg9.unread xs1) E
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5
    have e3 : View.readAt (Elt F) arg5.view (Rect.unit (s := S1x1x4096) ![0, 0, 0] S1x1x4096.size inb_S1x1x4096_S1x1x4096_0_0_0).toLoadRect (harg5.unread x3) = x3 := (View.readAt_full _ _ _).trans hf3
    have e4 : View.readAt (Elt F) arg6.view (Rect.unit (s := S1x4096) ![0, 0] S1x4096.size inb_S1x4096_S1x4096_0_0).toLoadRect (harg6.unread x4) = x4 := (View.readAt_full _ _ _).trans hf4
    rw [e3, e4]
    iexact H5
  isplitl [HS0]
  · iexists _; isplitr; · ipureintro; exact harg8.read_unread _
    iexact HS0
  iexists _; isplitr; · ipureintro; exact harg9.read_unread _
  iexact HS1

end Cert.Kernel6Ideal.DownPrompt

end
-- ==== Proof.DownPrompt.Frame.lean ====
/-
  What the two scratch buffers and the output's buffer hold at each grid point, and the run of the whole
  grid with them.
-/
module

public import proofs.«01_k».proof.Proof.DownPrompt.RunA
public import proofs.«01_k».proof.Proof.DownPrompt.RunB
public import proofs.«01_k».proof.Proof.DownPrompt.RunC
public import proofs.«01_k».proof.Proof.DownPrompt.RunR0
public import proofs.«01_k».proof.Proof.DownPrompt.RunR1
public import proofs.«01_k».proof.Proof.DownPrompt.RunR2
public import proofs.«01_k».proof.Proof.DownPrompt.RunR3
public import Idealize.ShloMosaic.Lib.Claim
public import Idealize.ShloMosaic.Lib.Pipeline.ValueKit

@[expose] public section

set_option maxRecDepth 16384

noncomputable section

namespace Cert.Kernel6Ideal.DownPrompt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of tokens and the block of weights a point multiplies. The last step's blocks overhang the
    arrays; outside them a filler stands here, and the body does not use it. -/
def x0At (c : Dev nD) (t : Fin cfg0.N) : Vec F S1024x512 .bf16 :=
  (cfg0.win 0).fill (grid0.coords t) (fun _ => Scalar.ofBits .bf16 0#16) (iblk m c 0 t)
def x1At (c : Dev nD) (t : Fin cfg0.N) : Vec F S512x4096 .bf16 :=
  (cfg0.win 1).fill (grid0.coords t) (fun _ => Scalar.ofBits .bf16 0#16) (iblk m c 1 t)

/-- What the sums' scratch buffer holds after a point. -/
def accN (c : Dev nD) : (n : ℕ) → n < cfg0.N → Vec F S1024x4096 .f32
  | 0, h => k0_pay1 (x0At m c ⟨0, h⟩) (x1At m c ⟨0, h⟩)
  | n + 1, h =>
    if (n + 1) % 26 = 0 then k0_pay1 (x0At m c ⟨n + 1, h⟩) (x1At m c ⟨n + 1, h⟩)
    else if (n + 1) % 26 ≤ 20 then k0_pay2 (x0At m c ⟨n + 1, h⟩) (x1At m c ⟨n + 1, h⟩) (accN c n (Nat.lt_of_succ_lt h))
    else if (n + 1) % 26 = 21 then k0_pay4 (leftHalf (x0At m c ⟨n + 1, h⟩)) (topHalf (x1At m c ⟨n + 1, h⟩)) (accN c n (Nat.lt_of_succ_lt h))
    else accN c n (Nat.lt_of_succ_lt h)

/-- What the scales' scratch buffer holds after a point, from the first step 21 on. -/
def rsN (c : Dev nD) : (n : ℕ) → n < cfg0.N → Vec F S1024x1 .f32
  | 0, h => fun _ => Scalar.ofBits .f32 0#32
  | n + 1, h =>
    if (n + 1) % 26 = 21 then k0_pay5 (leftHalf (x0At m c ⟨n + 1, h⟩)) (topHalf (x1At m c ⟨n + 1, h⟩)) (accN m c n (Nat.lt_of_succ_lt h))
    else rsN c n (Nat.lt_of_succ_lt h)

theorem accN_A (c : Dev nD) (n : ℕ) (h : n < cfg0.N) (h0 : n % 26 = 0) : accN m c n h = k0_pay1 (x0At m c ⟨n, h⟩) (x1At m c ⟨n, h⟩) := by
  cases n with
  | zero => rw [accN]
  | succ n => rw [accN, if_pos h0]

theorem accN_B (c : Dev nD) (n : ℕ) (h : n < cfg0.N) (h1 : 1 ≤ n % 26) (h2 : n % 26 ≤ 20) :
    accN m c n h = k0_pay2 (x0At m c ⟨n, h⟩) (x1At m c ⟨n, h⟩) (accN m c (n - 1) (by omega)) := by
  cases n with
  | zero => exact absurd h1 (by decide)
  | succ n => rw [accN, if_neg (by omega), if_pos h2]; rfl

theorem accN_C (c : Dev nD) (n : ℕ) (h : n < cfg0.N) (h1 : n % 26 = 21) :
    accN m c n h = k0_pay4 (leftHalf (x0At m c ⟨n, h⟩)) (topHalf (x1At m c ⟨n, h⟩)) (accN m c (n - 1) (by omega)) := by
  cases n with
  | zero => exact absurd h1 (by decide)
  | succ n => rw [accN, if_neg (by omega), if_neg (by omega), if_pos h1]; rfl

theorem accN_R (c : Dev nD) (n : ℕ) (h : n < cfg0.N) (h1 : 22 ≤ n % 26) : accN m c n h = accN m c (n - 1) (by omega) := by
  cases n with
  | zero => exact absurd h1 (by decide)
  | succ n => rw [accN, if_neg (by omega), if_neg (by omega), if_neg (by omega)]; rfl

theorem rsN_C (c : Dev nD) (n : ℕ) (h : n < cfg0.N) (h1 : n % 26 = 21) :
    rsN m c n h = k0_pay5 (leftHalf (x0At m c ⟨n, h⟩)) (topHalf (x1At m c ⟨n, h⟩)) (accN m c (n - 1) (by omega)) := by
  cases n with
  | zero => exact absurd h1 (by decide)
  | succ n => rw [rsN, if_pos h1]; rfl

theorem rsN_R (c : Dev nD) (n : ℕ) (h : n < cfg0.N) (h1 : 22 ≤ n % 26) : rsN m c n h = rsN m c (n - 1) (by omega) := by
  cases n with
  | zero => exact absurd h1 (by decide)
  | succ n => rw [rsN, if_neg (by omega)]; rfl

/-- What they hold before and after point `t`. -/
abbrev accAt (c : Dev nD) (t : Fin cfg0.N) : Vec F S1024x4096 .f32 := accN m c t.val t.isLt
abbrev rsAt (c : Dev nD) (t : Fin cfg0.N) : Vec F S1024x1 .f32 := rsN m c t.val t.isLt

/-- The strips step 22 leaves in the output's buffer, and what is read back from them. -/
abbrev stripsAt0 (c : Dev nD) (t : Fin cfg0.N) (h : t.val % 26 = 22) : List (View.Piece (Elt F) S256x4096 .f32) :=
  out0 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond3 t).mpr h) (iblk m c 2 t) (iblk m c 3 t) (iblk m c 4 t) (accAt m c t) (rsAt m c t)
def quarter0 (c : Dev nD) (t : Fin cfg0.N) (h : t.val % 26 = 22) : Vec F S256x4096 .f32 :=
  VO.read (Elt F) (VO.writes (Elt F) VO.junk (stripsAt0 m c t h))
theorem cover0 (c : Dev nD) (t : Fin cfg0.N) (h : t.val % 26 = 22) (y : S256x4096.Idx) : ∃ pc ∈ stripsAt0 m c t h, y ∈ pc.1.set :=
  View.cover_of_tiledL (stripsAt0 m c t h) S16x4096.size (by sl_kernel_rfl) y

/-- The strips step 23 leaves in the output's buffer, and what is read back from them. -/
abbrev stripsAt1 (c : Dev nD) (t : Fin cfg0.N) (h : t.val % 26 = 23) : List (View.Piece (Elt F) S256x4096 .f32) :=
  out1 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond4 t).mpr h) (iblk m c 2 t) (iblk m c 3 t) (iblk m c 4 t) (accAt m c t) (rsAt m c t)
def quarter1 (c : Dev nD) (t : Fin cfg0.N) (h : t.val % 26 = 23) : Vec F S256x4096 .f32 :=
  VO.read (Elt F) (VO.writes (Elt F) VO.junk (stripsAt1 m c t h))
theorem cover1 (c : Dev nD) (t : Fin cfg0.N) (h : t.val % 26 = 23) (y : S256x4096.Idx) : ∃ pc ∈ stripsAt1 m c t h, y ∈ pc.1.set :=
  View.cover_of_tiledL (stripsAt1 m c t h) S16x4096.size (by sl_kernel_rfl) y

/-- The strips step 24 leaves in the output's buffer, and what is read back from them. -/
abbrev stripsAt2 (c : Dev nD) (t : Fin cfg0.N) (h : t.val % 26 = 24) : List (View.Piece (Elt F) S256x4096 .f32) :=
  out2 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond5 t).mpr h) (iblk m c 2 t) (iblk m c 3 t) (iblk m c 4 t) (accAt m c t) (rsAt m c t)
def quarter2 (c : Dev nD) (t : Fin cfg0.N) (h : t.val % 26 = 24) : Vec F S256x4096 .f32 :=
  VO.read (Elt F) (VO.writes (Elt F) VO.junk (stripsAt2 m c t h))
theorem cover2 (c : Dev nD) (t : Fin cfg0.N) (h : t.val % 26 = 24) (y : S256x4096.Idx) : ∃ pc ∈ stripsAt2 m c t h, y ∈ pc.1.set :=
  View.cover_of_tiledL (stripsAt2 m c t h) S16x4096.size (by sl_kernel_rfl) y

/-- The strips step 25 leaves in the output's buffer, and what is read back from them. -/
abbrev stripsAt3 (c : Dev nD) (t : Fin cfg0.N) (h : t.val % 26 = 25) : List (View.Piece (Elt F) S256x4096 .f32) :=
  out3 (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond6 t).mpr h) (iblk m c 2 t) (iblk m c 3 t) (iblk m c 4 t) (accAt m c t) (rsAt m c t)
def quarter3 (c : Dev nD) (t : Fin cfg0.N) (h : t.val % 26 = 25) : Vec F S256x4096 .f32 :=
  VO.read (Elt F) (VO.writes (Elt F) VO.junk (stripsAt3 m c t h))
theorem cover3 (c : Dev nD) (t : Fin cfg0.N) (h : t.val % 26 = 25) (y : S256x4096.Idx) : ∃ pc ∈ stripsAt3 m c t h, y ∈ pc.1.set :=
  View.cover_of_tiledL (stripsAt3 m c t h) S16x4096.size (by sl_kernel_rfl) y

/-- What a point leaves in the output's buffer, where it writes there. -/
def blockAt (c : Dev nD) (t : Fin cfg0.N) : Vec F S256x4096 .f32 :=
  if h : t.val % 26 = 22 then quarter0 m c t h
  else if h : t.val % 26 = 23 then quarter1 m c t h
  else if h : t.val % 26 = 24 then quarter2 m c t h
  else if h : t.val % 26 = 25 then quarter3 m c t h
  else fun _ => Scalar.ofBits .f32 0#32
theorem blockAt_0 (c : Dev nD) (t : Fin cfg0.N) (h : t.val % 26 = 22) : blockAt m c t = quarter0 m c t h := by
  unfold blockAt
  rw [dif_pos h]
theorem blockAt_1 (c : Dev nD) (t : Fin cfg0.N) (h : t.val % 26 = 23) : blockAt m c t = quarter1 m c t h := by
  unfold blockAt
  rw [dif_neg (by omega), dif_pos h]
theorem blockAt_2 (c : Dev nD) (t : Fin cfg0.N) (h : t.val % 26 = 24) : blockAt m c t = quarter2 m c t h := by
  unfold blockAt
  rw [dif_neg (by omega), dif_neg (by omega), dif_pos h]
theorem blockAt_3 (c : Dev nD) (t : Fin cfg0.N) (h : t.val % 26 = 25) : blockAt m c t = quarter3 m c t h := by
  unfold blockAt
  rw [dif_neg (by omega), dif_neg (by omega), dif_neg (by omega), dif_pos h]

/-- What holds between points: before the first the scratch buffers at anything, afterwards the sums, and
    from a step 21 to the end of the row tile the scales. -/
def PhiS (c : Dev nD) : (n : ℕ) → n ≤ cfg0.N → sProp 𝕄
  | 0, _ => Pipeline.ΦA spec0 c
  | n + 1, hn => iprop(iprop(owns (c : Thread nD τ) accM fullShare (accN m c n hn) ∗ (∃ d, ⌜21 ≤ n % 26 → d = rsN m c n hn⌝ ∗ owns (c : Thread nD τ) rsM fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accN m c n hn) ∗ (∃ d, ⌜21 ≤ n % 26 → d = rsN m c n hn⌝ ∗ owns (c : Thread nD τ) rsM fullShare d)) ∗ (∃ r, prngReg c r)) := rfl
theorem PhiS_pos (c : Dev nD) (n : ℕ) (h : n ≤ cfg0.N) (hz : n ≠ 0) :
    PhiS m c n h = iprop(iprop(owns (c : Thread nD τ) accM fullShare (accN m c (n - 1) (by omega)) ∗ (∃ d, ⌜21 ≤ (n - 1) % 26 → d = rsN m c (n - 1) (by omega)⌝ ∗ owns (c : Thread nD τ) rsM fullShare d)) ∗ (∃ r, prngReg c r)) := by
  cases n with
  | zero => exact absurd rfl hz
  | succ n => rfl

/-- The contents the run is proved with. -/
def dats (_ : Fin 1) (c : Dev nD) : Dat τ (Elt F) Unit ℕ (UR sig nD τ) ℕ cfg0 c where
  A w := V m c (Pipeline.arrRef spec0 w)
  after w t := match w with
    | ⟨0, _⟩ => x0At m c t
    | ⟨1, _⟩ => x1At m c t
    | ⟨2, _⟩ => iblk m c 2 t
    | ⟨3, _⟩ => iblk m c 3 t
    | ⟨4, _⟩ => iblk m c 4 t
    | ⟨5, _⟩ => blockAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = x0At m c t := by dsimp only [dats]
theorem after1 (c : Dev nD) (t : Fin cfg0.N) : (dats m 0 c).after 1 t = x1At m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = blockAt m c t := by dsimp only [dats]

/-- What the buffer of window 0 holds: the part of the block inside the array, and outside it anything. -/
theorem before0 (c : Dev nD) (t : Fin cfg0.N) (d) :
    (dats m 0 c).before 0 t d = (cfg0.win 0).fill (grid0.coords t) d (iblk m c 0 t) :=
  ((dats m 0 c).before_in_eq_fetched 0 rfl (fun _ => rfl)
      (fun t t' h => funext fun a => congrArg (fun x => Pipeline.Clip.of x _ _) (congrFun h a))
      (fun t => by rw [after0]; unfold x0At; rw [Window.cut_fill]; unfold Dat.blockOf iblk; rw [A_eq]) t d).trans
    (by unfold Dat.fetched Dat.blockOf iblk; rw [A_eq])
theorem cut0 (c : Dev nD) (t : Fin cfg0.N) : (cfg0.win 0).cut (grid0.coords t) ((dats m 0 c).after 0 t) = iblk m c 0 t := by
  rw [after0]; exact Window.cut_fill _ _ _ _
/-- Before the last step of the sums the block lies inside the array. -/
theorem inside0 : ∀ t : Fin cfg0.N, t.val % 26 ≤ 20 → (cfg0.win 0).clipped (grid0.coords t) = false :=
  (by decide +kernel : ∀ t : Fin grid0.N, t.val % 26 ≤ 20 → (cfg0.win 0).clipped (grid0.coords t) = false)
theorem fill0 (c : Dev nD) (t : Fin cfg0.N) (h : t.val % 26 ≤ 20) (d) :
    (cfg0.win 0).fill (grid0.coords t) d (iblk m c 0 t) = x0At m c t :=
  Pipeline.fill_of_clip_none (cfg := cfg0) 0 (grid0.coords t) (((cfg0.win 0).clipped_eq_false_iff _).mp (inside0 t h)) _ _ _

/-- What the buffer of window 1 holds: the part of the block inside the array, and outside it anything. -/
theorem before1 (c : Dev nD) (t : Fin cfg0.N) (d) :
    (dats m 0 c).before 1 t d = (cfg0.win 1).fill (grid0.coords t) d (iblk m c 1 t) :=
  ((dats m 0 c).before_in_eq_fetched 1 rfl (fun _ => rfl)
      (fun t t' h => funext fun a => congrArg (fun x => Pipeline.Clip.of x _ _) (congrFun h a))
      (fun t => by rw [after1]; unfold x1At; rw [Window.cut_fill]; unfold Dat.blockOf iblk; rw [A_eq]) t d).trans
    (by unfold Dat.fetched Dat.blockOf iblk; rw [A_eq])
theorem cut1 (c : Dev nD) (t : Fin cfg0.N) : (cfg0.win 1).cut (grid0.coords t) ((dats m 0 c).after 1 t) = iblk m c 1 t := by
  rw [after1]; exact Window.cut_fill _ _ _ _
/-- Before the last step of the sums the block lies inside the array. -/
theorem inside1 : ∀ t : Fin cfg0.N, t.val % 26 ≤ 20 → (cfg0.win 1).clipped (grid0.coords t) = false :=
  (by decide +kernel : ∀ t : Fin grid0.N, t.val % 26 ≤ 20 → (cfg0.win 1).clipped (grid0.coords t) = false)
theorem fill1 (c : Dev nD) (t : Fin cfg0.N) (h : t.val % 26 ≤ 20) (d) :
    (cfg0.win 1).fill (grid0.coords t) d (iblk m c 1 t) = x1At m c t :=
  Pipeline.fill_of_clip_none (cfg := cfg0) 1 (grid0.coords t) (((cfg0.win 1).clipped_eq_false_iff _).mp (inside1 t h)) _ _ _

/-- At that step the halves that are used lie inside. -/
theorem xsize0 : ∀ t : Fin cfg0.N, t.val % 26 = 21 → (cfg0.win 0).xsize (grid0.coords t) 0 = 1024 ∧ (cfg0.win 0).xsize (grid0.coords t) 1 = 256 :=
  (by decide +kernel : ∀ t : Fin grid0.N, t.val % 26 = 21 → (cfg0.win 0).xsize (grid0.coords t) 0 = 1024 ∧ (cfg0.win 0).xsize (grid0.coords t) 1 = 256)
theorem xsize1 : ∀ t : Fin cfg0.N, t.val % 26 = 21 → (cfg0.win 1).xsize (grid0.coords t) 0 = 256 ∧ (cfg0.win 1).xsize (grid0.coords t) 1 = 4096 :=
  (by decide +kernel : ∀ t : Fin grid0.N, t.val % 26 = 21 → (cfg0.win 1).xsize (grid0.coords t) 0 = 256 ∧ (cfg0.win 1).xsize (grid0.coords t) 1 = 4096)
theorem fill_moved (w : Fin cfg0.W) (i : grid0.Coords) {α : Type} (d d' : (cfg0.win w).block.Idx → α) (g : ((cfg0.win w).xblock i).Idx → α)
    (j : (cfg0.win w).block.Idx) (h : ∀ a, (j a).val < (cfg0.win w).xsize i a) : (cfg0.win w).fill i d g j = (cfg0.win w).fill i d' g j := by
  have hm := ((cfg0.win w).moved_iff i j).mpr h
  unfold Window.fill
  rw [dif_pos hm, dif_pos hm]
theorem half0 (c : Dev nD) (t : Fin cfg0.N) (h : t.val % 26 = 21) (d) :
    leftHalf ((cfg0.win 0).fill (grid0.coords t) d (iblk m c 0 t)) = leftHalf (x0At m c t) := by
  funext j
  unfold leftHalf x0At
  refine fill_moved 0 (grid0.coords t) _ _ _ _ fun a => ?_
  match a with
  | ⟨0, _⟩ => exact lt_of_lt_of_eq (lt_of_eq_of_lt ((Rect.idx_unit_val (s := S1024x512) ![0, 0] S1024x256.size inb_S1024x512_S1024x256_0_0 j 0).trans (Nat.zero_add _)) (j 0).isLt) (xsize0 t h).1.symm
  | ⟨1, _⟩ => exact lt_of_lt_of_eq (lt_of_eq_of_lt ((Rect.idx_unit_val (s := S1024x512) ![0, 0] S1024x256.size inb_S1024x512_S1024x256_0_0 j 1).trans (Nat.zero_add _)) (j 1).isLt) (xsize0 t h).2.symm
theorem half1 (c : Dev nD) (t : Fin cfg0.N) (h : t.val % 26 = 21) (d) :
    topHalf ((cfg0.win 1).fill (grid0.coords t) d (iblk m c 1 t)) = topHalf (x1At m c t) := by
  funext j
  unfold topHalf x1At
  refine fill_moved 1 (grid0.coords t) _ _ _ _ fun a => ?_
  match a with
  | ⟨0, _⟩ => exact lt_of_lt_of_eq (lt_of_eq_of_lt ((Rect.idx_unit_val (s := S512x4096) ![0, 0] S256x4096.size inb_S512x4096_S256x4096_0_0 j 0).trans (Nat.zero_add _)) (j 0).isLt) (xsize1 t h).1.symm
  | ⟨1, _⟩ => exact lt_of_lt_of_eq (lt_of_eq_of_lt ((Rect.idx_unit_val (s := S512x4096) ![0, 0] S256x4096.size inb_S512x4096_S256x4096_0_0 j 1).trans (Nat.zero_add _)) (j 1).isLt) (xsize1 t h).2.symm
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is run from at a point … -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
/-- … what it returns at the steps of the sums, which leave the output alone … -/
def postSum (c : Dev nD) (t : Fin cfg0.N) : sProp 𝕄 :=
  iprop((dats m 0 c).Φ t.succ ∗ (dats m 0 c).owesAt () t.succ
    ∗ (∃ d, owns (c : Thread nD τ) (ms0 t) fullShare ((cfg0.win 0).fill (grid0.coords t) d ((cfg0.win 0).cut (grid0.coords t) ((dats m 0 c).after 0 t))))
    ∗ (∃ d, owns (c : Thread nD τ) (ms1 t) fullShare ((cfg0.win 1).fill (grid0.coords t) d ((cfg0.win 1).cut (grid0.coords t) ((dats m 0 c).after 1 t))))
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare ((dats m 0 c).before 5 t d)))

/-- … and at the steps that write it. -/
def postOut (c : Dev nD) (t : Fin cfg0.N) : sProp 𝕄 :=
  iprop((dats m 0 c).Φ t.succ ∗ (dats m 0 c).owesAt () t.succ
    ∗ (∃ d, owns (c : Thread nD τ) (ms0 t) fullShare ((cfg0.win 0).fill (grid0.coords t) d ((cfg0.win 0).cut (grid0.coords t) ((dats m 0 c).after 0 t))))
    ∗ (∃ d, owns (c : Thread nD τ) (ms1 t) fullShare ((cfg0.win 1).fill (grid0.coords t) d ((cfg0.win 1).cut (grid0.coords t) ((dats m 0 c).after 1 t))))
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-! The body at a point, case by case. -/

set_option maxHeartbeats 4000000 in
theorem soundA (c : Dev nD) (t : Fin cfg0.N) (h : t.val % 26 = 0) :
    bodyPre m c t ⊢ wp frame (wpE (defs₀ (F := F)) Variants.none c none) Set.univ (bodyAt0 t) (fun _ => postSum m c t) := by
  unfold bodyPre postSum bodyAt0
  simp only [before0, before1, before2, before3, before4]
  rw [show (dats m 0 c).owesAt () t.succ = (dats m 0 c).owesAt () t.castSucc from rfl, cut0, cut1, after2, after3, after4]
  rw [show (dats m 0 c).Φ t.succ = PhiS m c (t.val + 1) t.isLt from rfl, PhiS_succ]
  have hN : t.val < 104 := lt_of_lt_of_eq t.isLt (show cfg0.N = 104 from N_0)
  rw [accN_A m c t.val t.isLt h]
  by_cases hz : t.val = 0
  · rw [PhiS_castSucc m c t, PhiS_zero m c _ _ hz, PhiA0_eq]
    iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩⟩
    iapply (runA c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond0 t).mpr (by omega)) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) ds1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    have eacc : k0_pay1 ((cfg0.win 0).fill (grid0.coords t) d0 (iblk m c 0 t)) ((cfg0.win 1).fill (grid0.coords t) d1 (iblk m c 1 t)) = k0_pay1 (x0At m c t) (x1At m c t) := by
      rw [fill0 m c t (by omega) d0, fill1 m c t (by omega) d1]
    rw [eacc]
    isplitl [HS0 HS1 Hg]
    · isplitl [HS0 HS1]
      · isplitl [HS0]
        · iexact HS0
        · iexists _; isplitr
          swap; · iexact HS1
          ipureintro; intro hh; omega
      iexact Hg
    isplitl [Ho]; · iexact Ho
    isplitl [H0]; · iexists d0; iexact H0
    isplitl [H1]; · iexists d1; iexact H1
    isplitl [H2]; · iexact H2
    isplitl [H3]; · iexact H3
    isplitl [H4]; · iexact H4
    iexists d5; iexact H5
  · rw [PhiS_castSucc m c t, PhiS_pos m c _ _ hz]
    iintro ⟨⟨⟨HS0, ⟨%ds1, -, HS1⟩⟩, Hg⟩, Ho, ⟨%d0, H0⟩, ⟨%d1, H1⟩, ⟨%d2, H2⟩, ⟨%d3, H3⟩, ⟨%d4, H4⟩, ⟨%d5, H5⟩⟩
    iapply (runA c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) ((hcond0 t).mpr (by omega)) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) ds1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexact HS1
    iintro ⟨H0, H1, H2, H3, H4, H5, HS0, HS1⟩
    have eacc : k0_pay1 ((cfg0.win 0).fill (grid0.coords t) d0 (iblk m c 0 t)) ((cfg0.win 1).fill (grid0.coords t) d1 (iblk m c 1 t)) = k0_pay1 (x0At m c t) (x1At m c t) := by
      rw [fill0 m c t (by omega) d0, fill1 m c t (by omega) d1]
    rw [eacc]
    isplitl [HS0 HS1 Hg]
    · isplitl [HS0 HS1]
      · isplitl [HS0]
        · iexact HS0
        · iexists _; isplitr
          swap; · iexact HS1
          ipureintro; intro hh; omega
      iexact Hg
    isplitl [Ho]; · iexact Ho
    isplitl [H0]; · iexists d0; iexact H0
    isplitl [H1]; · iexists d1; iexact H1
    isplitl [H2]; · iexact H2
    isplitl [H3]; · iexact H3
    isplitl [H4]; · iexact H4
    iexists d5; iexact H5

set_option maxHeartbeats 4000000 in
theorem soundB (c : Dev nD) (t : Fin cfg0.N) (h1 : 1 ≤ t.val % 26) (h2 : t.val % 26 ≤ 20) :
    bodyPre m c t ⊢ wp frame (wpE (defs₀ (F := F)) Variants.none c none) Set.univ (bodyAt0 t) (fun _ => postSum m c t) := by
  unfold bodyPre postSum bodyAt0
  simp only [before0, before1, before2, before3, before4]
  rw [show (dats m 0 c).owesAt () t.succ = (dats m 0 c).owesAt () t.castSucc from rfl, cut0, cut1, after2, after3, after4]
  rw [show (dats m 0 c).Φ t.succ = PhiS m c (t.val + 1) t.isLt from rfl, PhiS_succ]
  have hN : t.val < 104 := lt_of_lt_of_eq t.isLt (show cfg0.N = 104 from N_0)
  rw [accN_B m c t.val t.isLt h1 h2]
  have hz : t.val ≠ 0 := fun e => by rw [e] at h1; exact absurd h1 (by decide)
  rw [PhiS_castSucc m c t, PhiS_pos m c _ _ hz]
  iintro ⟨⟨⟨HS0, ⟨%ds1, -, HS1⟩⟩, Hg⟩, Ho, ⟨%d0, H0⟩, ⟨%d1, H1⟩, ⟨%d2, H2⟩, ⟨%d3, H3⟩, ⟨%d4, H4⟩, ⟨%d5, H5⟩⟩
  iapply (runB c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) ((hcond1 t).mpr (by omega)) (fun h => by have := (hcond2 t).mp h; omega) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) (accN m c (t.val - 1) (by omega)) ds1 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  have eacc : k0_pay2 ((cfg0.win 0).fill (grid0.coords t) d0 (iblk m c 0 t)) ((cfg0.win 1).fill (grid0.coords t) d1 (iblk m c 1 t)) (accN m c (t.val - 1) (by omega)) = k0_pay2 (x0At m c t) (x1At m c t) (accN m c (t.val - 1) (by omega)) := by
    rw [fill0 m c t h2 d0, fill1 m c t h2 d1]
  rw [eacc]
  isplitl [HS0 HS1 Hg]
  · isplitl [HS0 HS1]
    · isplitl [HS0]
      · iexact HS0
      · iexists _; isplitr
        swap; · iexact HS1
        ipureintro; intro hh; omega
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  iexists d5; iexact H5

set_option maxHeartbeats 4000000 in
theorem soundC (c : Dev nD) (t : Fin cfg0.N) (h : t.val % 26 = 21) :
    bodyPre m c t ⊢ wp frame (wpE (defs₀ (F := F)) Variants.none c none) Set.univ (bodyAt0 t) (fun _ => postSum m c t) := by
  unfold bodyPre postSum bodyAt0
  simp only [before0, before1, before2, before3, before4]
  rw [show (dats m 0 c).owesAt () t.succ = (dats m 0 c).owesAt () t.castSucc from rfl, cut0, cut1, after2, after3, after4]
  rw [show (dats m 0 c).Φ t.succ = PhiS m c (t.val + 1) t.isLt from rfl, PhiS_succ]
  have hN : t.val < 104 := lt_of_lt_of_eq t.isLt (show cfg0.N = 104 from N_0)
  rw [accN_C m c t.val t.isLt h, rsN_C m c t.val t.isLt h]
  have hz : t.val ≠ 0 := fun e => by rw [e] at h; exact absurd h (by decide)
  rw [PhiS_castSucc m c t, PhiS_pos m c _ _ hz]
  iintro ⟨⟨⟨HS0, ⟨%ds1, -, HS1⟩⟩, Hg⟩, Ho, ⟨%d0, H0⟩, ⟨%d1, H1⟩, ⟨%d2, H2⟩, ⟨%d3, H3⟩, ⟨%d4, H4⟩, ⟨%d5, H5⟩⟩
  iapply (runC c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) ((hcond2 t).mpr (by omega)) (fun h => by have := (hcond3 t).mp h; omega) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) ((dats m 0 c).before 5 t d5) (accN m c (t.val - 1) (by omega)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexists _; iexact HS1
  iintro ⟨H0, H1, H2, H3, H4, H5, HS0, HS1⟩
  rw [half0 m c t h d0, half1 m c t h d1]
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  iexists d5; iexact H5

set_option maxHeartbeats 4000000 in
theorem soundR0 (c : Dev nD) (t : Fin cfg0.N) (h : t.val % 26 = 22) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 104 := lt_of_lt_of_eq t.isLt (show cfg0.N = 104 from N_0)
  rw [blockAt_0 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR0 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) ((hcond3 t).mpr (by omega)) (fun h => by have := (hcond4 t).mp h; omega) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover0 m c t h)

set_option maxHeartbeats 4000000 in
theorem soundR1 (c : Dev nD) (t : Fin cfg0.N) (h : t.val % 26 = 23) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 104 := lt_of_lt_of_eq t.isLt (show cfg0.N = 104 from N_0)
  rw [blockAt_1 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR1 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) (fun h => by have := (hcond3 t).mp h; omega) ((hcond4 t).mpr (by omega)) (fun h => by have := (hcond5 t).mp h; omega) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover1 m c t h)

set_option maxHeartbeats 4000000 in
theorem soundR2 (c : Dev nD) (t : Fin cfg0.N) (h : t.val % 26 = 24) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 104 := lt_of_lt_of_eq t.isLt (show cfg0.N = 104 from N_0)
  rw [blockAt_2 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR2 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) (fun h => by have := (hcond3 t).mp h; omega) (fun h => by have := (hcond4 t).mp h; omega) ((hcond5 t).mpr (by omega)) (fun h => by have := (hcond6 t).mp h; omega) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover2 m c t h)

set_option maxHeartbeats 4000000 in
theorem soundR3 (c : Dev nD) (t : Fin cfg0.N) (h : t.val % 26 = 25) :
    bodyPre m c t ⊢ wp frame (wpE (defs₀ (F := F)) Variants.none c none) Set.univ (bodyAt0 t) (fun _ => postOut m c t) := by
  unfold bodyPre postOut bodyAt0
  simp only [before0, before1, before2, before3, before4]
  rw [show (dats m 0 c).owesAt () t.succ = (dats m 0 c).owesAt () t.castSucc from rfl, cut0, cut1, after2, after3, after4, after5]
  rw [show (dats m 0 c).Φ t.succ = PhiS m c (t.val + 1) t.isLt from rfl, PhiS_succ]
  have hN : t.val < 104 := lt_of_lt_of_eq t.isLt (show cfg0.N = 104 from N_0)
  rw [blockAt_3 m c t h]
  have hz : t.val ≠ 0 := fun e => by rw [e] at h; exact absurd h (by decide)
  rw [PhiS_castSucc m c t, PhiS_pos m c _ _ hz, ← accN_R m c t.val t.isLt (by omega), ← rsN_R m c t.val t.isLt (by omega)]
  iintro ⟨⟨⟨HS0, ⟨%ds1, %hds, HS1⟩⟩, Hg⟩, Ho, ⟨%d0, H0⟩, ⟨%d1, H1⟩, ⟨%d2, H2⟩, ⟨%d3, H3⟩, ⟨%d4, H4⟩, ⟨%d5, H5⟩⟩
  obtain rfl := hds (by omega)
  iapply (runR3 c (grid0.coords t) (ms0 t) (hs0 t) (ms1 t) (hs1 t) (ms2 t) (hs2 t) (ms3 t) (hs3 t) (ms4 t) (hs4 t) (ms5 t) (hs5 t) accM (Memref.isWhole_whole _) rsM (Memref.isWhole_whole _) (fun h => by have := (hcond0 t).mp h; omega) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr (by omega)) ((cfg0.win 0).fill (grid0.coords t) d0 (iblk m c 0 t)) ((cfg0.win 1).fill (grid0.coords t) d1 (iblk m c 1 t)) (iblk m c 2 t) (iblk m c 3 t) (iblk m c 4 t) (accAt m c t) (rsAt m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%f5, H5⟩, HS0, HS1⟩
  isplitl [HS0 HS1 Hg]
  · isplitl [HS0 HS1]
    · isplitl [HS0]
      · iexact HS0
      · iexists _; isplitr
        swap; · iexact HS1
        ipureintro; intro _; rfl
    iexact Hg
  isplitl [Ho]; · iexact Ho
  isplitl [H0]; · iexists d0; iexact H0
  isplitl [H1]; · iexists d1; iexact H1
  isplitl [H2]; · iexact H2
  isplitl [H3]; · iexact H3
  isplitl [H4]; · iexact H4
  unfold owns; iexists _; isplitr
  swap; · iexact H5
  ipureintro; exact View.read_writes_of_cover _ _ VO VO.junk _ (cover3 m c t h)

theorem defs₀_row (t : Fin cfg0.N) :
    defs₀ (F := F) .tc cfg0.body (cfg0.bodyArgs t (cfg0.slots t)) = bodyAt0 t := by
  unfold defs₀; rw [Defs.onTc_tc]

/-- Of the two overhanging inputs only the part inside the array is asked for. -/
theorem loose0 : cfg0.loose 0 = true := rfl
theorem loose1 : cfg0.loose 1 = true := rfl

/-- The steps of the sums leave the output's buffer alone and do not write it back; the others write it. -/
theorem idle5 : ∀ t : Fin cfg0.N, t.val % 26 ≤ 21 → idle0 5 (grid0.coords t) = true :=
  (by decide +kernel : ∀ t : Fin grid0.N, t.val % 26 ≤ 21 → idle0 5 (grid0.coords t) = true)
theorem live5 : ∀ t : Fin cfg0.N, 22 ≤ t.val % 26 → idle0 5 (grid0.coords t) = false :=
  (by decide +kernel : ∀ t : Fin grid0.N, 22 ≤ t.val % 26 → idle0 5 (grid0.coords t) = false)
theorem stay5 : ∀ t : Fin cfg0.N, t.val % 26 ≤ 21 → (cfg0.win 5).flush t = false :=
  (by decide +kernel : ∀ t : Fin grid0.N, t.val % 26 ≤ 21 → (cfg0.win 5).flush t = false)

theorem sound_sum (c : Dev nD) (t : Fin cfg0.N) (h : t.val % 26 ≤ 21) :
    bodyPre m c t ⊢ wp frame (wpE (defs₀ (F := F)) Variants.none c none) Set.univ (bodyAt0 t) (fun _ => postSum m c t) := by
  by_cases h0 : t.val % 26 = 0
  · exact soundA m c t h0
  · by_cases h1 : t.val % 26 ≤ 20
    · exact soundB m c t (by omega) h1
    · exact soundC m c t (by omega)

theorem sound_out (c : Dev nD) (t : Fin cfg0.N) (h : 22 ≤ t.val % 26) :
    bodyPre m c t ⊢ wp frame (wpE (defs₀ (F := F)) Variants.none c none) Set.univ (bodyAt0 t) (fun _ => postOut m c t) := by
  by_cases h0 : t.val % 26 = 22
  · exact soundR0 m c t h0
  · by_cases h1 : t.val % 26 = 23
    · exact soundR1 m c t h1
    · by_cases h2 : t.val % 26 = 24
      · exact soundR2 m c t h2
      · exact soundR3 m c t (by omega)

theorem body_obligation (c : Dev nD) : BodyObligationLoose (dats (F := F) m 0 c) (defs₀ (F := F)) Variants.none () Set.univ := fun t => by
  rw [bigSep_W0, bigSep_W0, defs₀_row]
  simp only [loose0, loose1]
  by_cases h : t.val % 26 ≤ 21
  · refine triple_restated (sound_sum m c t h) rfl .rfl fun _ => ?_
    unfold postSum
    rw [show idle0 5 (cfg0.grid.coords t) = true from idle5 t h, stay5 t h]
    iintro H; iexact H
  · refine triple_restated (sound_out m c t (by omega)) rfl .rfl fun _ => ?_
    unfold postOut
    rw [show idle0 5 (cfg0.grid.coords t) = false from live5 t (by omega)]
    iintro H; iexact H

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d, -, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 104 := N_0; omega)

set_option backward.isDefEq.respectTransparency.types false in
/-- The run of the grid: it ends with every array at what the blocks written make of it, and with no
    semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged by the run … -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- … and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel6Ideal.DownPrompt

end
-- ==== Proof.Words.DownPrompt.lean ====
/-
  The run of the down-projection on the prompt tokens on words. Its text is the one read over the extended reals,
  and the run of that text is proved for any reading of the floats: here it is taken over. The two body tables are
  compared label by label.
-/
module

public import proofs.«01_k».proof.Proof.DownPrompt.Frame
public import proofs.«01_k».proof.Proof.Gen.Kernel6.Frame
public import Idealize.ShloMosaic.Lib.Claim

@[expose] public section

set_option maxRecDepth 16384

noncomputable section

namespace Cert.Kernel6.DownPrompt

open Cert.Kernel6 Cert.Kernel6.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The kernel's body is the same under its label in both texts. -/
theorem bodies : defs₀ (F := F) = Cert.Kernel6Ideal.defs₀ (F := F) := by
  funext p l a
  cases p
  · match l, a with
    | 0, (t, s) => rfl
  · rfl
  · rfl

/-- So the body tables are equal. -/
theorem table : defs (F := F) = Cert.Kernel6Ideal.defs (F := F) :=
  congrArg (Pipeline.defs (pcfgs (F := F))) bodies

/-- The arguments are unchanged by the run, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [table]
  exact Cert.Kernel6Ideal.DownPrompt.frame (F := F) m ρ

end Cert.Kernel6.DownPrompt

end
-- ==== Proof.DownPrompt.Spec.lean ====
/-
  The down-projection on the prompt rows as a function of its arguments: a matrix product, a root mean square norm of each of its rows, and
  a gated sum.
-/
module

public import Idealize.ShloMosaic.PureOps.Ideal

@[expose] public section

noncomputable section

open Idealize.ShloMosaic

namespace Cert.DownPrompt

/-- A row's scale, of the row. -/
def scaleOf (y : Fin 4096 → EReal) : EReal :=
  Ideal.rsqrt (Ideal.div (∑ q, y q * y q) (Ideal.ofBits .f32 0x45800000#32) + Ideal.ofBits .f32 0x358637BD#32)

/-- The arguments: the tokens, the weights by column, the array added to, the gates, and the norm's scale. -/
structure Arrays where
  tokens : Fin 4096 → Fin 11008 → EReal
  weight : Fin 4096 → Fin 11008 → EReal
  rest : Fin 4096 → Fin 4096 → EReal
  gate : Fin 4096 → EReal
  scale : Fin 4096 → EReal

namespace Arrays
variable (A : Arrays)

/-- The matrix product. -/
def dot (i : Fin 4096) (q : Fin 4096) : EReal := ∑ l, A.tokens i l * A.weight q l

/-- The result. -/
def result (i : Fin 4096) (q : Fin 4096) : EReal :=
  A.rest i q + A.gate q * (A.dot i q * scaleOf (A.dot i) * A.scale q)

end Arrays
end Cert.DownPrompt
-- ==== Proof.DownPrompt.Entry.lean ====
/-
  The blocks the down-projection's launch stages, as parts of its arguments.
-/
module

public import proofs.«01_k».proof.Proof.DownPrompt.Frame
public import proofs.«01_k».proof.Proof.DownPrompt.Spec
public import Idealize.ShloMosaic.Lib.Pointwise
public import Idealize.ShloMosaic.Lib.Pipeline.Covers

@[expose] public section

set_option maxRecDepth 16384

noncomputable section

open Idealize.ShloMosaic Idealize.ShloMosaic.TcCoe Idealize.SL.Sem
open Idealize.ShloMosaic.Pipeline (Window)

namespace Cert.Kernel6Ideal.DownPrompt

open Cert.Kernel6Ideal Cert.Kernel6Ideal.Gen Cert.DownPrompt

variable (m : (ℓ : Loc nD τ sig) → Buf (Elt Ideal) ℓ) (c : Dev nD)

/-- The arguments as functions. -/
def arrays : Arrays where
  tokens i l := m ((c : Thread nD τ).loc main_arg0) (ix2 i l)
  weight q l := m ((c : Thread nD τ).loc main_arg1) (ix2 l q)
  rest i q := m ((c : Thread nD τ).loc main_arg2) (ix2 i q)
  gate q := m ((c : Thread nD τ).loc main_arg3) (ix3 (0 : Fin 1) (0 : Fin 1) q)
  scale q := m ((c : Thread nD τ).loc main_arg4) (ix1 q)

/-- The weights as the launch holds them. -/
theorem V_weight (l : Fin 11008) (q : Fin 4096) : V m c main_v0 (ix2 l q) = m ((c : Thread nD τ).loc main_arg1) (ix2 l q) := by
  unfold V
  entry_read
  pointwise

/-- The norm's scale as the launch holds it. -/
theorem V_scale (q : Fin 4096) : V m c main_v1 (ix2 (0 : Fin 1) q) = m ((c : Thread nD τ).loc main_arg4) (ix1 q) := by
  unfold V
  entry_read
  pointwise

/-- The block each window reads or writes at a grid point. -/
theorem indices : ∀ t : Fin cfg0.N, win0_0.index t = ![(grid0.coords t 0).val, min (grid0.coords t 1).val 21] ∧ win0_1.index t = ![min (grid0.coords t 1).val 21, 0]
    ∧ win0_2.index t = ![4 * (grid0.coords t 0).val + ((grid0.coords t 1).val - 22), 0]
    ∧ win0_3.index t = ![0, 0, 0] ∧ win0_4.index t = ![0, 0]
    ∧ win0_5.index t = ![4 * (grid0.coords t 0).val + ((grid0.coords t 1).val - 22), 0] := by decide +kernel

/-- A grid point's coordinates. -/
theorem coords_val : ∀ t : Fin cfg0.N, (grid0.coords t 0).val = t.val / 26 ∧ (grid0.coords t 1).val = t.val % 26 := by decide +kernel

/-- How much of a point's blocks of tokens and weights lies in the arrays. -/
theorem sizes : ∀ t : Fin cfg0.N, t.val % 26 ≤ 21 → (win0_0.xsize (grid0.coords t) 0 = 1024 ∧ win0_0.xsize (grid0.coords t) 1 = min 512 (11008 - 512 * (t.val % 26)))
    ∧ win0_1.xsize (grid0.coords t) 0 = min 512 (11008 - 512 * (t.val % 26)) ∧ win0_1.xsize (grid0.coords t) 1 = 4096 := by decide +kernel

/-- The block of tokens, inside the array. -/
theorem tokens_apply (t : Fin cfg0.N) (ht : t.val % 26 ≤ 21) (r : Fin 1024) (k : Fin 512) (i : Fin 4096) (l : Fin 11008)
    (hi : i.val = t.val / 26 * 1024 + r.val) (hl : l.val = 512 * (t.val % 26) + k.val) : x0At m c t (ix2 r k) = (arrays m c).tokens i l := by
  have hs := (sizes t ht).1
  have hcv := coords_val t
  have hm : (cfg0.win 0).moved (grid0.coords t) (ix2 r k) = true := ((cfg0.win 0).moved_iff (grid0.coords t) (ix2 r k)).mpr fun a => match a with
    | ⟨0, _⟩ => lt_of_lt_of_eq r.isLt hs.1.symm
    | ⟨1, _⟩ => lt_of_lt_of_eq (show k.val < min 512 (11008 - 512 * (t.val % 26)) by omega) hs.2.symm
  unfold x0At Window.fill
  rw [dif_pos hm]
  unfold arrays
  blk_ext [iblk, V, indices t]

/-- The block of weights, inside the array. -/
theorem weight_apply (t : Fin cfg0.N) (ht : t.val % 26 ≤ 21) (k : Fin 512) (q : Fin 4096) (l : Fin 11008)
    (hl : l.val = 512 * (t.val % 26) + k.val) : x1At m c t (ix2 k q) = (arrays m c).weight q l := by
  have hs := (sizes t ht).2
  have hcv := coords_val t
  have hm : (cfg0.win 1).moved (grid0.coords t) (ix2 k q) = true := ((cfg0.win 1).moved_iff (grid0.coords t) (ix2 k q)).mpr fun a => match a with
    | ⟨0, _⟩ => lt_of_lt_of_eq (show k.val < min 512 (11008 - 512 * (t.val % 26)) by omega) hs.1.symm
    | ⟨1, _⟩ => lt_of_lt_of_eq q.isLt hs.2.symm
  unfold x1At Window.fill
  rw [dif_pos hm]
  refine Eq.trans ?_ (V_weight m c l q)
  blk_ext [iblk, indices t]

/-- The quarter of a row tile that is added to. -/
theorem rest_apply (t : Fin cfg0.N) (ht : 22 ≤ t.val % 26) (p : Fin 256) (q : Fin 4096) (i : Fin 4096)
    (hi : i.val = t.val / 26 * 1024 + 256 * (t.val % 26 - 22) + p.val) : iblk m c 2 t (ix2 p q) = (arrays m c).rest i q := by
  have hcv := coords_val t
  unfold arrays
  blk_ext [iblk, V, indices t]

/-- The gates. -/
theorem gate_apply (t : Fin cfg0.N) (q : Fin 4096) :
    iblk m c 3 t (ix3 (0 : Fin 1) (0 : Fin 1) q) = (arrays m c).gate q := by
  have hcv := coords_val t
  unfold arrays
  blk_ext [iblk, V, indices t]

/-- The norm's scale. -/
theorem scale_apply (t : Fin cfg0.N) (q : Fin 4096) : iblk m c 4 t (ix2 (0 : Fin 1) q) = (arrays m c).scale q := by
  refine Eq.trans ?_ (V_scale m c q)
  blk_ext [iblk, indices t]

end Cert.Kernel6Ideal.DownPrompt
-- ==== Proof.DownPrompt.Tile.lean ====
/-
  The blocks the down-projection's steps compute, read one element at a time over the extended reals.
-/
module

public import proofs.«01_k».proof.Proof.Gen.Kernel6Ideal.Skeleton
public import proofs.«01_k».proof.Proof.DownPrompt.Spec
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Kernel6Ideal.DownPrompt

open Cert.Kernel6Ideal Cert.Kernel6Ideal.Gen Cert.DownPrompt

/-- The first product. -/
theorem pay1_apply (x : Vec Ideal S1024x512 .bf16) (w : Vec Ideal S512x4096 .bf16) (r : Fin 1024) (q : Fin 4096) :
    k0_pay1 x w (ix2 r q) = ∑ l : Fin 512, HMul.hMul (α := EReal) (β := EReal) (x (ix2 r l)) (w (ix2 l q)) := by
  pointwise [k0_pay1]

/-- A product added to the sums. -/
theorem pay2_apply (x : Vec Ideal S1024x512 .bf16) (w : Vec Ideal S512x4096 .bf16) (a : Vec Ideal S1024x4096 .f32) (r : Fin 1024) (q : Fin 4096) :
    k0_pay2 x w a (ix2 r q) = HAdd.hAdd (α := EReal) (β := EReal) (a (ix2 r q)) (∑ l : Fin 512, HMul.hMul (α := EReal) (β := EReal) (x (ix2 r l)) (w (ix2 l q))) := by
  pointwise [k0_pay2]

/-- The last, half a product. -/
theorem pay3_apply (x : Vec Ideal S1024x256 .bf16) (w : Vec Ideal S256x4096 .bf16) (a : Vec Ideal S1024x4096 .f32) (r : Fin 1024) (q : Fin 4096) :
    k0_pay3 x w a (ix2 r q) = HAdd.hAdd (α := EReal) (β := EReal) (a (ix2 r q)) (∑ l : Fin 256, HMul.hMul (α := EReal) (β := EReal) (x (ix2 r l)) (w (ix2 l q))) := by
  pointwise [k0_pay3]

theorem pay4_apply (x : Vec Ideal S1024x256 .bf16) (w : Vec Ideal S256x4096 .bf16) (a : Vec Ideal S1024x4096 .f32) (r : Fin 1024) (q : Fin 4096) :
    k0_pay4 x w a (ix2 r q) = k0_pay3 x w a (ix2 r q) := by
  pointwise [k0_pay4]

/-- The rows' scales. -/
theorem pay5_apply (x : Vec Ideal S1024x256 .bf16) (w : Vec Ideal S256x4096 .bf16) (a : Vec Ideal S1024x4096 .f32) (r : Fin 1024) :
    k0_pay5 x w a (ix2 r (0 : Fin 1)) = scaleOf (fun q => k0_pay3 x w a (ix2 r q)) := by
  unfold scaleOf
  pointwise [k0_pay5]

section
variable (v23 : Vec Ideal S1x1x4096 .f32) (v25 : Vec Ideal S1x4096 .f32) (v33 v35 : Vec Ideal S16x4096 .f32) (v37 : Vec Ideal S16x1 .f32) (p : Fin 16) (q : Fin 4096)

/-- An element of a strip. -/
def stripAt : EReal :=
  HAdd.hAdd (α := EReal) (β := EReal) (v33 (ix2 p q)) (HMul.hMul (α := EReal) (β := EReal) (HMul.hMul (α := EReal) (β := EReal) (v23 (ix3 (0 : Fin 1) (0 : Fin 1) q)) (v25 (ix2 (0 : Fin 1) q)))
    (HMul.hMul (α := EReal) (β := EReal) (v35 (ix2 p q)) (v37 (ix2 p (0 : Fin 1)))))

theorem pay6_apply : k0_pay6 v23 v25 v33 v35 v37 (ix2 p q) = stripAt v23 v25 v33 v35 v37 p q := by
  unfold stripAt
  pointwise [k0_pay6]
theorem pay7_apply : k0_pay7 v23 v25 v33 v35 v37 (ix2 p q) = stripAt v23 v25 v33 v35 v37 p q := by
  unfold stripAt
  pointwise [k0_pay7]
theorem pay8_apply : k0_pay8 v23 v25 v33 v35 v37 (ix2 p q) = stripAt v23 v25 v33 v35 v37 p q := by
  unfold stripAt
  pointwise [k0_pay8]
theorem pay9_apply : k0_pay9 v23 v25 v33 v35 v37 (ix2 p q) = stripAt v23 v25 v33 v35 v37 p q := by
  unfold stripAt
  pointwise [k0_pay9]
end

end Cert.Kernel6Ideal.DownPrompt
-- ==== Proof.DownPrompt.Sum.lean ====
/-
  The sums and the scales the scratch buffers hold, of the arguments.
-/
module

public import proofs.«01_k».proof.Proof.DownPrompt.Entry
public import proofs.«01_k».proof.Proof.DownPrompt.Tile
public import Idealize.ShloMosaic.Lib.Pipeline.ValueKit

@[expose] public section

set_option maxRecDepth 16384

noncomputable section

open Idealize.ShloMosaic Idealize.ShloMosaic.TcCoe Idealize.SL.Sem

namespace Cert.Kernel6Ideal.DownPrompt

open Cert.Kernel6Ideal Cert.Kernel6Ideal.Gen Cert.DownPrompt

variable (m : (ℓ : Loc nD τ sig) → Buf (Elt Ideal) ℓ) (c : Dev nD)

/-- Term `l` of the product's element `(i, q)`, zero past the last. -/
def term (i : Fin 4096) (q : Fin 4096) (l : ℕ) : EReal :=
  if h : l < 11008 then (arrays m c).tokens i ⟨l, h⟩ * (arrays m c).weight q ⟨l, h⟩ else 0

/-- The sum of its first `n` terms. -/
def part (i : Fin 4096) (q : Fin 4096) (n : ℕ) : EReal := ∑ l ∈ Finset.range n, term m c i q l

theorem part_add (i : Fin 4096) (q : Fin 4096) (n k : ℕ) : part m c i q (n + k) = part m c i q n + ∑ l ∈ Finset.range k, term m c i q (n + l) :=
  Finset.sum_range_add _ n k

/-- All its terms make the element. -/
theorem part_all (i : Fin 4096) (q : Fin 4096) : part m c i q 11008 = (arrays m c).dot i q := by
  unfold part Arrays.dot
  rw [Finset.sum_range]
  exact Finset.sum_congr rfl fun l _ => dif_pos l.isLt

/-- The product of a step's blocks. -/
theorem step_apply (t : Fin cfg0.N) (ht : t.val % 26 ≤ 20) (r : Fin 1024) (q : Fin 4096) (i : Fin 4096) (hi : i.val = t.val / 26 * 1024 + r.val) :
    (∑ l : Fin 512, HMul.hMul (α := EReal) (β := EReal) (x0At m c t (ix2 r l)) (x1At m c t (ix2 l q)))
      = ∑ l ∈ Finset.range 512, term m c i q (512 * (t.val % 26) + l) := by
  rw [Finset.sum_range]
  refine Finset.sum_congr rfl fun l _ => ?_
  have hl : 512 * (t.val % 26) + l.val < 11008 := by omega
  refine Eq.trans ?_ (dif_pos hl).symm
  rw [tokens_apply m c t (by omega) r l i ⟨_, hl⟩ hi rfl, weight_apply m c t (by omega) l q ⟨_, hl⟩ rfl]

/-- The product of the last step's halves. -/
theorem last_apply (t : Fin cfg0.N) (ht : t.val % 26 = 21) (r : Fin 1024) (q : Fin 4096) (i : Fin 4096) (hi : i.val = t.val / 26 * 1024 + r.val) :
    (∑ l : Fin 256, HMul.hMul (α := EReal) (β := EReal) (leftHalf (x0At m c t) (ix2 r l)) (topHalf (x1At m c t) (ix2 l q)))
      = ∑ l ∈ Finset.range 256, term m c i q (10752 + l) := by
  rw [Finset.sum_range]
  refine Finset.sum_congr rfl fun l _ => ?_
  have hl : 10752 + l.val < 11008 := by omega
  refine Eq.trans ?_ (dif_pos hl).symm
  have e0 : leftHalf (x0At m c t) (ix2 r l) = x0At m c t (ix2 r (⟨l.val, by omega⟩ : Fin 512)) := by
    unfold leftHalf
    refine congrArg (x0At m c t) (funext fun a => Fin.ext ?_)
    match a with
    | ⟨0, _⟩ => exact (Rect.idx_unit_val (s := S1024x512) ![0, 0] S1024x256.size inb_S1024x512_S1024x256_0_0 (ix2 r l) 0).trans (Nat.zero_add _)
    | ⟨1, _⟩ => exact (Rect.idx_unit_val (s := S1024x512) ![0, 0] S1024x256.size inb_S1024x512_S1024x256_0_0 (ix2 r l) 1).trans (Nat.zero_add _)
  have e1 : topHalf (x1At m c t) (ix2 l q) = x1At m c t (ix2 (⟨l.val, by omega⟩ : Fin 512) q) := by
    unfold topHalf
    refine congrArg (x1At m c t) (funext fun a => Fin.ext ?_)
    match a with
    | ⟨0, _⟩ => exact (Rect.idx_unit_val (s := S512x4096) ![0, 0] S256x4096.size inb_S512x4096_S256x4096_0_0 (ix2 l q) 0).trans (Nat.zero_add _)
    | ⟨1, _⟩ => exact (Rect.idx_unit_val (s := S512x4096) ![0, 0] S256x4096.size inb_S512x4096_S256x4096_0_0 (ix2 l q) 1).trans (Nat.zero_add _)
  rw [e0, e1, tokens_apply m c t (by omega) r _ i ⟨_, hl⟩ hi (by show 10752 + l.val = 512 * (t.val % 26) + l.val; omega),
    weight_apply m c t (by omega) _ q ⟨_, hl⟩ (by show 10752 + l.val = 512 * (t.val % 26) + l.val; omega)]

/-- The sums after a step of whole products. -/
theorem acc_apply : ∀ (n : ℕ) (hn : n < cfg0.N) (_ : n % 26 ≤ 20) (r : Fin 1024) (q : Fin 4096) (i : Fin 4096) (_ : i.val = n / 26 * 1024 + r.val),
    accN m c n hn (ix2 r q) = part m c i q (512 * (n % 26) + 512)
  | n, hn, h, r, q, i, hi => by
    rw [part_add]
    by_cases h0 : n % 26 = 0
    · rw [accN_A m c n hn h0, pay1_apply, step_apply m c ⟨n, hn⟩ h r q i hi]
      have hz : part m c i q (512 * (n % 26)) = 0 := by rw [h0]; rfl
      rw [hz, zero_add]
    · rw [accN_B m c n hn (by omega) h, pay2_apply, step_apply m c ⟨n, hn⟩ h r q i hi,
        acc_apply (n - 1) (by omega) (by omega) r q i (by rw [hi]; omega), show 512 * ((n - 1) % 26) + 512 = 512 * (n % 26) by omega]

/-- After the last product they are the matrix product's elements … -/
theorem sum_apply (n : ℕ) (hn : n < cfg0.N) (h : n % 26 = 21) (r : Fin 1024) (q : Fin 4096) (i : Fin 4096) (hi : i.val = n / 26 * 1024 + r.val) :
    k0_pay3 (leftHalf (x0At m c ⟨n, hn⟩)) (topHalf (x1At m c ⟨n, hn⟩)) (accN m c (n - 1) (by omega)) (ix2 r q) = (arrays m c).dot i q := by
  rw [pay3_apply, last_apply m c ⟨n, hn⟩ h r q i hi, acc_apply m c (n - 1) (by omega) (by omega) r q i (by rw [hi]; omega), ← part_all,
    show 512 * ((n - 1) % 26) + 512 = 10752 by omega, ← part_add]

/-- … and stay so to the end of the row tile. -/
theorem accs_apply : ∀ (n : ℕ) (hn : n < cfg0.N) (_ : 21 ≤ n % 26) (r : Fin 1024) (q : Fin 4096) (i : Fin 4096) (_ : i.val = n / 26 * 1024 + r.val),
    accN m c n hn (ix2 r q) = (arrays m c).dot i q
  | n, hn, h, r, q, i, hi => by
    by_cases h0 : n % 26 = 21
    · rw [accN_C m c n hn h0, pay4_apply]
      exact sum_apply m c n hn h0 r q i hi
    · rw [accN_R m c n hn (by omega)]
      exact accs_apply (n - 1) (by omega) (by omega) r q i (by rw [hi]; omega)

/-- The scales likewise. -/
theorem rs_apply : ∀ (n : ℕ) (hn : n < cfg0.N) (_ : 21 ≤ n % 26) (r : Fin 1024) (i : Fin 4096) (_ : i.val = n / 26 * 1024 + r.val),
    rsN m c n hn (ix2 r (0 : Fin 1)) = scaleOf ((arrays m c).dot i)
  | n, hn, h, r, i, hi => by
    by_cases h0 : n % 26 = 21
    · rw [rsN_C m c n hn h0, pay5_apply]
      exact congrArg scaleOf (funext fun q => sum_apply m c n hn h0 r q i hi)
    · rw [rsN_R m c n hn (by omega)]
      exact rs_apply (n - 1) (by omega) (by omega) r i (by rw [hi]; omega)

end Cert.Kernel6Ideal.DownPrompt
-- ==== Proof.DownPrompt.Block.lean ====
/-
  The quarters of a row tile that the last four steps write, of what the buffers hold.
-/
module

public import proofs.«01_k».proof.Proof.DownPrompt.Frame
public import proofs.«01_k».proof.Proof.DownPrompt.Tile
public import Idealize.ShloMosaic.Lib.WholeRead
public import Idealize.ShloMosaic.Lib.Pipeline.ValueKit

@[expose] public section

set_option maxRecDepth 16384

noncomputable section

open Idealize.ShloMosaic Idealize.ShloMosaic.TcCoe Idealize.SL.Sem

namespace Cert.Kernel6Ideal.DownPrompt

open Cert.Kernel6Ideal Cert.Kernel6Ideal.Gen Cert.DownPrompt

/-- A load through a rectangle of a whole buffer, at an index. -/
theorem load {S : Shape} {e : EltTy} {M : Memref sig .tc .vmem S e} (h : M.IsWhole) (X : S.Idx → Elt Ideal e) (off size : Fin S.rank → ℕ) (inb)
    (x : (Rect.unit off size inb).shape.Idx) (i : S.Idx) (hi : ∀ a, (i a).val = off a + (x a).val) :
    View.readAt (Elt Ideal) M.view (Rect.unit off size inb).toLoadRect (h.unread X) x = X i :=
  (h.readAt_unread X _ x).trans (congrArg X (funext fun a => Fin.ext ((Rect.idx_unit_val off size inb x a).trans (hi a).symm)))

/-- Two coordinates placed at an offset. -/
theorem placed {A B : ℕ} {off : Fin 2 → ℕ} {x : Fin 2 → ℕ} (p : Fin A) (q : Fin B) (h0 : p.val = off 0 + x 0) (h1 : q.val = off 1 + x 1) :
    ∀ a : Fin 2, ((ix2 p q : (⟨2, ![A, B]⟩ : Shape).Idx) a).val = off a + x a := fun a => by
  match a with
  | ⟨0, _⟩ => exact h0
  | ⟨1, _⟩ => exact h1

/-- Element `(p, q)` of a quarter whose row `p` is row `r` of the row tile. -/
def cell (x2 : Vec Ideal S256x4096 .f32) (x3 : Vec Ideal S1x1x4096 .f32) (x4 : Vec Ideal S1x4096 .f32) (xs0 : Vec Ideal S1024x4096 .f32)
    (xs1 : Vec Ideal S1024x1 .f32) (p : Fin 256) (r : Fin 1024) (q : Fin 4096) : EReal :=
  HAdd.hAdd (α := EReal) (β := EReal) (x2 (ix2 p q)) (HMul.hMul (α := EReal) (β := EReal) (HMul.hMul (α := EReal) (β := EReal) (x3 (ix3 (0 : Fin 1) (0 : Fin 1) q)) (x4 (ix2 (0 : Fin 1) q)))
    (HMul.hMul (α := EReal) (β := EReal) (xs0 (ix2 r q)) (xs1 (ix2 r (0 : Fin 1)))))

variable (m : (ℓ : Loc nD τ sig) → Buf (Elt Ideal) ℓ) (c : Dev nD)

/-! The first quarter. -/

/-- Where a trip of its loop reads and writes. -/
theorem place0 : ∀ k : Fin k0_t1_loop.trips, k0_off1 k = ![16 * k.val, 0] ∧ k0_off2 k = ![0 + 16 * k.val, 0] ∧ k0_off3 k = ![0 + 16 * k.val, 0] := by
  decide +kernel

/-- Every strip of its loop that holds an element has its value there. -/
theorem allAt0 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond3 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 0 + p.val) :
    ∀ n : ℕ, View.AllAt (strips0 i arg4 arg8 arg9 hc x3 x4 (harg4.unread x2) (harg8.unread xs0) (harg9.unread xs1) n) (ix2 p q) (cell x2 x3 x4 xs0 xs1 p r q)
  | 0 => View.allAt_nil _ _
  | n + 1 => by
    rw [strips0]
    by_cases h : n < k0_t1_loop.trips
    · rw [dif_pos h]
      unfold strip0
      refine View.allAt_cons_unit _ _ _ _ _ (fun x hx => ?_) (allAt0 i arg4 harg4 arg8 harg8 arg9 harg9 hc x2 x3 x4 xs0 xs1 p r q hr n)
      obtain ⟨e1, e2, e3⟩ := place0 ⟨n, h⟩
      have h0 : p.val = k0_off1 ⟨n, h⟩ 0 + (x 0).val := hx 0
      have h1 : q.val = k0_off1 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off2 ⟨n, h⟩ 0 + (x 0).val := by rw [e2]; show r.val = 0 + 16 * n + (x 0).val; omega
      have g3 : q.val = k0_off2 ⟨n, h⟩ 1 + (x 1).val := by rw [e2]; exact g1.trans (Nat.zero_add _).symm
      have g4 : r.val = k0_off3 ⟨n, h⟩ 0 + (x 0).val := by rw [e3]; show r.val = 0 + 16 * n + (x 0).val; omega
      have g5 : (0 : Fin 1).val = k0_off3 ⟨n, h⟩ 1 + (0 : Fin 1).val := by rw [e3]; rfl
      have hq : (x 1 : Fin 4096) = q := Fin.ext g1.symm
      refine (congrArg _ (eq_ix2 x)).trans ((pay6_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt0 i arg4 harg4 arg8 harg8 arg9 harg9 hc x2 x3 x4 xs0 xs1 p r q hr n

theorem quarter0_apply (t : Fin cfg0.N) (h : t.val % 26 = 22) (p : Fin 256) (r : Fin 1024) (q : Fin 4096) (hr : r.val = 0 + p.val) :
    quarter0 m c t h (ix2 p q) = cell (iblk m c 2 t) (iblk m c 3 t) (iblk m c 4 t) (accAt m c t) (rsAt m c t) p r q := by
  have hc := cover0 m c t h (ix2 p q)
  unfold quarter0
  rw [View.read_writes_junk_eq_canon]
  exact View.canon_eq_of_allAt _ _ _ hc (allAt0 _ _ _ _ _ _ _ _ _ _ _ _ _ p r q hr 16)

/-! The second quarter. -/

/-- Where a trip of its loop reads and writes. -/
theorem place1 : ∀ k : Fin k0_t2_loop.trips, k0_off4 k = ![16 * k.val, 0] ∧ k0_off5 k = ![256 + 16 * k.val, 0] ∧ k0_off6 k = ![256 + 16 * k.val, 0] := by
  decide +kernel

/-- Every strip of its loop that holds an element has its value there. -/
theorem allAt1 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond4 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 256 + p.val) :
    ∀ n : ℕ, View.AllAt (strips1 i arg4 arg8 arg9 hc x3 x4 (harg4.unread x2) (harg8.unread xs0) (harg9.unread xs1) n) (ix2 p q) (cell x2 x3 x4 xs0 xs1 p r q)
  | 0 => View.allAt_nil _ _
  | n + 1 => by
    rw [strips1]
    by_cases h : n < k0_t2_loop.trips
    · rw [dif_pos h]
      unfold strip1
      refine View.allAt_cons_unit _ _ _ _ _ (fun x hx => ?_) (allAt1 i arg4 harg4 arg8 harg8 arg9 harg9 hc x2 x3 x4 xs0 xs1 p r q hr n)
      obtain ⟨e1, e2, e3⟩ := place1 ⟨n, h⟩
      have h0 : p.val = k0_off4 ⟨n, h⟩ 0 + (x 0).val := hx 0
      have h1 : q.val = k0_off4 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off5 ⟨n, h⟩ 0 + (x 0).val := by rw [e2]; show r.val = 256 + 16 * n + (x 0).val; omega
      have g3 : q.val = k0_off5 ⟨n, h⟩ 1 + (x 1).val := by rw [e2]; exact g1.trans (Nat.zero_add _).symm
      have g4 : r.val = k0_off6 ⟨n, h⟩ 0 + (x 0).val := by rw [e3]; show r.val = 256 + 16 * n + (x 0).val; omega
      have g5 : (0 : Fin 1).val = k0_off6 ⟨n, h⟩ 1 + (0 : Fin 1).val := by rw [e3]; rfl
      have hq : (x 1 : Fin 4096) = q := Fin.ext g1.symm
      refine (congrArg _ (eq_ix2 x)).trans ((pay7_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt1 i arg4 harg4 arg8 harg8 arg9 harg9 hc x2 x3 x4 xs0 xs1 p r q hr n

theorem quarter1_apply (t : Fin cfg0.N) (h : t.val % 26 = 23) (p : Fin 256) (r : Fin 1024) (q : Fin 4096) (hr : r.val = 256 + p.val) :
    quarter1 m c t h (ix2 p q) = cell (iblk m c 2 t) (iblk m c 3 t) (iblk m c 4 t) (accAt m c t) (rsAt m c t) p r q := by
  have hc := cover1 m c t h (ix2 p q)
  unfold quarter1
  rw [View.read_writes_junk_eq_canon]
  exact View.canon_eq_of_allAt _ _ _ hc (allAt1 _ _ _ _ _ _ _ _ _ _ _ _ _ p r q hr 16)

/-! The third quarter. -/

/-- Where a trip of its loop reads and writes. -/
theorem place2 : ∀ k : Fin k0_t3_loop.trips, k0_off7 k = ![16 * k.val, 0] ∧ k0_off8 k = ![512 + 16 * k.val, 0] ∧ k0_off9 k = ![512 + 16 * k.val, 0] := by
  decide +kernel

/-- Every strip of its loop that holds an element has its value there. -/
theorem allAt2 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond5 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 512 + p.val) :
    ∀ n : ℕ, View.AllAt (strips2 i arg4 arg8 arg9 hc x3 x4 (harg4.unread x2) (harg8.unread xs0) (harg9.unread xs1) n) (ix2 p q) (cell x2 x3 x4 xs0 xs1 p r q)
  | 0 => View.allAt_nil _ _
  | n + 1 => by
    rw [strips2]
    by_cases h : n < k0_t3_loop.trips
    · rw [dif_pos h]
      unfold strip2
      refine View.allAt_cons_unit _ _ _ _ _ (fun x hx => ?_) (allAt2 i arg4 harg4 arg8 harg8 arg9 harg9 hc x2 x3 x4 xs0 xs1 p r q hr n)
      obtain ⟨e1, e2, e3⟩ := place2 ⟨n, h⟩
      have h0 : p.val = k0_off7 ⟨n, h⟩ 0 + (x 0).val := hx 0
      have h1 : q.val = k0_off7 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off8 ⟨n, h⟩ 0 + (x 0).val := by rw [e2]; show r.val = 512 + 16 * n + (x 0).val; omega
      have g3 : q.val = k0_off8 ⟨n, h⟩ 1 + (x 1).val := by rw [e2]; exact g1.trans (Nat.zero_add _).symm
      have g4 : r.val = k0_off9 ⟨n, h⟩ 0 + (x 0).val := by rw [e3]; show r.val = 512 + 16 * n + (x 0).val; omega
      have g5 : (0 : Fin 1).val = k0_off9 ⟨n, h⟩ 1 + (0 : Fin 1).val := by rw [e3]; rfl
      have hq : (x 1 : Fin 4096) = q := Fin.ext g1.symm
      refine (congrArg _ (eq_ix2 x)).trans ((pay8_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt2 i arg4 harg4 arg8 harg8 arg9 harg9 hc x2 x3 x4 xs0 xs1 p r q hr n

theorem quarter2_apply (t : Fin cfg0.N) (h : t.val % 26 = 24) (p : Fin 256) (r : Fin 1024) (q : Fin 4096) (hr : r.val = 512 + p.val) :
    quarter2 m c t h (ix2 p q) = cell (iblk m c 2 t) (iblk m c 3 t) (iblk m c 4 t) (accAt m c t) (rsAt m c t) p r q := by
  have hc := cover2 m c t h (ix2 p q)
  unfold quarter2
  rw [View.read_writes_junk_eq_canon]
  exact View.canon_eq_of_allAt _ _ _ hc (allAt2 _ _ _ _ _ _ _ _ _ _ _ _ _ p r q hr 16)

/-! The last quarter. -/

/-- Where a trip of its loop reads and writes. -/
theorem place3 : ∀ k : Fin k0_t4_loop.trips, k0_off10 k = ![16 * k.val, 0] ∧ k0_off11 k = ![768 + 16 * k.val, 0] ∧ k0_off12 k = ![768 + 16 * k.val, 0] := by
  decide +kernel

/-- Every strip of its loop that holds an element has its value there. -/
theorem allAt3 (i : grid0.Coords) (arg4 : Memref sig .tc .vmem S256x4096 .f32) (harg4 : arg4.IsWhole) (arg8 : Memref sig .tc .vmem S1024x4096 .f32) (harg8 : arg8.IsWhole)
    (arg9 : Memref sig .tc .vmem S1024x1 .f32) (harg9 : arg9.IsWhole) (hc : cond6 i) (x2 : Vec Ideal S256x4096 .f32) (x3 : Vec Ideal S1x1x4096 .f32)
    (x4 : Vec Ideal S1x4096 .f32) (xs0 : Vec Ideal S1024x4096 .f32) (xs1 : Vec Ideal S1024x1 .f32) (p : Fin 256) (r : Fin 1024) (q : Fin 4096) (hr : r.val = 768 + p.val) :
    ∀ n : ℕ, View.AllAt (strips3 i arg4 arg8 arg9 hc x3 x4 (harg4.unread x2) (harg8.unread xs0) (harg9.unread xs1) n) (ix2 p q) (cell x2 x3 x4 xs0 xs1 p r q)
  | 0 => View.allAt_nil _ _
  | n + 1 => by
    rw [strips3]
    by_cases h : n < k0_t4_loop.trips
    · rw [dif_pos h]
      unfold strip3
      refine View.allAt_cons_unit _ _ _ _ _ (fun x hx => ?_) (allAt3 i arg4 harg4 arg8 harg8 arg9 harg9 hc x2 x3 x4 xs0 xs1 p r q hr n)
      obtain ⟨e1, e2, e3⟩ := place3 ⟨n, h⟩
      have h0 : p.val = k0_off10 ⟨n, h⟩ 0 + (x 0).val := hx 0
      have h1 : q.val = k0_off10 ⟨n, h⟩ 1 + (x 1).val := hx 1
      have g0 : p.val = 16 * n + (x 0).val := by rw [e1] at h0; exact h0
      have g1 : q.val = (x 1).val := by rw [e1] at h1; exact h1.trans (Nat.zero_add _)
      have g2 : r.val = k0_off11 ⟨n, h⟩ 0 + (x 0).val := by rw [e2]; show r.val = 768 + 16 * n + (x 0).val; omega
      have g3 : q.val = k0_off11 ⟨n, h⟩ 1 + (x 1).val := by rw [e2]; exact g1.trans (Nat.zero_add _).symm
      have g4 : r.val = k0_off12 ⟨n, h⟩ 0 + (x 0).val := by rw [e3]; show r.val = 768 + 16 * n + (x 0).val; omega
      have g5 : (0 : Fin 1).val = k0_off12 ⟨n, h⟩ 1 + (0 : Fin 1).val := by rw [e3]; rfl
      have hq : (x 1 : Fin 4096) = q := Fin.ext g1.symm
      refine (congrArg _ (eq_ix2 x)).trans ((pay9_apply _ _ _ _ _ (x 0) (x 1)).trans ?_)
      unfold stripAt cell
      exact congrArg₂ (HAdd.hAdd (α := EReal) (β := EReal)) (load harg4 x2 _ _ _ _ (ix2 p q) (placed p q h0 h1))
        (congrArg₂ (HMul.hMul (α := EReal) (β := EReal)) (congrArg (fun z : Fin 4096 => HMul.hMul (α := EReal) (β := EReal) (x3 (ix3 (0 : Fin 1) (0 : Fin 1) z)) (x4 (ix2 (0 : Fin 1) z))) hq)
          (congrArg₂ (HMul.hMul (α := EReal) (β := EReal))
            (load harg8 xs0 _ _ _ _ (ix2 r q) (placed r q g2 g3))
            (load harg9 xs1 _ _ _ _ (ix2 r (0 : Fin 1)) (placed r (0 : Fin 1) g4 g5))))
    · rw [dif_neg h]
      exact allAt3 i arg4 harg4 arg8 harg8 arg9 harg9 hc x2 x3 x4 xs0 xs1 p r q hr n

theorem quarter3_apply (t : Fin cfg0.N) (h : t.val % 26 = 25) (p : Fin 256) (r : Fin 1024) (q : Fin 4096) (hr : r.val = 768 + p.val) :
    quarter3 m c t h (ix2 p q) = cell (iblk m c 2 t) (iblk m c 3 t) (iblk m c 4 t) (accAt m c t) (rsAt m c t) p r q := by
  have hc := cover3 m c t h (ix2 p q)
  unfold quarter3
  rw [View.read_writes_junk_eq_canon]
  exact View.canon_eq_of_allAt _ _ _ hc (allAt3 _ _ _ _ _ _ _ _ _ _ _ _ _ p r q hr 16)

/-- A quarter's element, at whichever of the four steps. -/
theorem cell_apply (t : Fin cfg0.N) (h : 22 ≤ t.val % 26) (p : Fin 256) (r : Fin 1024) (q : Fin 4096) (hr : r.val = 256 * (t.val % 26 - 22) + p.val) :
    blockAt m c t (ix2 p q) = cell (iblk m c 2 t) (iblk m c 3 t) (iblk m c 4 t) (accAt m c t) (rsAt m c t) p r q := by
  obtain h0 | h0 | h0 | h0 : t.val % 26 = 22 ∨ t.val % 26 = 23 ∨ t.val % 26 = 24 ∨ t.val % 26 = 25 := by omega
  · rw [blockAt_0 m c t h0, quarter0_apply m c t h0 p r q (by omega)]
  · rw [blockAt_1 m c t h0, quarter1_apply m c t h0 p r q (by omega)]
  · rw [blockAt_2 m c t h0, quarter2_apply m c t h0 p r q (by omega)]
  · rw [blockAt_3 m c t h0, quarter3_apply m c t h0 p r q (by omega)]

end Cert.Kernel6Ideal.DownPrompt
-- ==== Proof.DownPrompt.Array.lean ====
/-
  The down-projection's result after the run.
-/
module

public import proofs.«01_k».proof.Proof.DownPrompt.Sum
public import proofs.«01_k».proof.Proof.DownPrompt.Block

@[expose] public section

set_option maxRecDepth 16384

noncomputable section

open Idealize.ShloMosaic Idealize.ShloMosaic.TcCoe Idealize.SL.Sem
open Idealize.ShloMosaic.Pipeline

namespace Cert.Kernel6Ideal.DownPrompt

open Cert.Kernel6Ideal Cert.Kernel6Ideal.Gen Cert.DownPrompt

variable (m : (ℓ : Loc nD τ sig) → Buf (Elt Ideal) ℓ) (ρ : Dev nD → PrngReg) (c : Dev nD)

/-- The kernel multiplies the gate by the norm's scale first; the product is the same. -/
theorem regroup (g s y r : EReal) : g * s * (y * r) = g * (y * r * s) := by
  rw [mul_assoc, mul_comm s]

/-- An element of the quarter a point writes is the result's. -/
theorem block_apply (t : Fin cfg0.N) (h : 22 ≤ t.val % 26) (p : Fin 256) (q : Fin 4096) (i : Fin 4096)
    (hi : i.val = t.val / 26 * 1024 + 256 * (t.val % 26 - 22) + p.val) : blockAt m c t (ix2 p q) = (arrays m c).result i q := by
  have hr : i.val = t.val / 26 * 1024 + (⟨256 * (t.val % 26 - 22) + p.val, by omega⟩ : Fin 1024).val := by
    show i.val = t.val / 26 * 1024 + (256 * (t.val % 26 - 22) + p.val)
    omega
  rw [cell_apply m c t h p ⟨256 * (t.val % 26 - 22) + p.val, by omega⟩ q rfl]
  unfold cell
  rw [rest_apply m c t h p q i hi, gate_apply m c t q, scale_apply m c t q,
    show accAt m c t (ix2 _ q) = _ from accs_apply m c t.val t.isLt (by omega) _ q i hr, show rsAt m c t (ix2 _ (0 : Fin 1)) = _ from rs_apply m c t.val t.isLt (by omega) _ i hr, regroup]
  rfl

/-- The result array after the run. -/
theorem final : (dats m 0 c).arrAt 5 cfg0.N = fun y : S4096x4096.Idx => ((arrays m c).result (y 0) (y 1) : EReal) := by
  refine (dats m 0 c).arrAt_eq_of_covers 5 _ ((cfg0.win 5).covers_of_index_surj rfl (by decide) fun β => ?_) fun t hfl y => ?_
  · have h0 : (β (0 : Fin 2)).val < 16 := lt_of_lt_of_eq (β (0 : Fin 2)).isLt (by decide +kernel : (cfg0.win 5).nblk (0 : Fin 2) = 16)
    have h1 : (β (1 : Fin 2)).val < 1 := lt_of_lt_of_eq (β (1 : Fin 2)).isLt (by decide +kernel : (cfg0.win 5).nblk (1 : Fin 2) = 1)
    let t : Fin cfg0.N := ⟨(β (0 : Fin 2)).val / 4 * 26 + (22 + (β (0 : Fin 2)).val % 4), lt_of_lt_of_eq (by omega) (show 104 = cfg0.N from N_0.symm)⟩
    have hcv := coords_val t
    have hv : t.val = (β (0 : Fin 2)).val / 4 * 26 + (22 + (β (0 : Fin 2)).val % 4) := rfl
    have hix : (cfg0.win 5).index t = ![4 * (grid0.coords t 0).val + ((grid0.coords t 1).val - 22), 0] := (indices t).2.2.2.2.2
    refine ⟨t, fun a => ?_⟩
    rw [hix]
    match a with
    | ⟨0, _⟩ =>
      show 4 * (grid0.coords t 0).val + ((grid0.coords t 1).val - 22) = (β (0 : Fin 2)).val
      rw [hcv.1, hcv.2, hv]
      omega
    | ⟨1, _⟩ =>
      show 0 = (β (1 : Fin 2)).val
      omega
  · have hcv := coords_val t
    have h22 : 22 ≤ t.val % 26 := by
      by_contra hlt
      exact absurd hfl (by rw [stay5 t (by omega)]; decide)
    blk_simp
    rw [after5]
    refine (congrArg (blockAt m c t) (eq_ix2 _)).trans ((block_apply m c t h22 _ _ ⟨t.val / 26 * 1024 + 256 * (t.val % 26 - 22) + (y 0).val, ?_⟩ rfl).trans
      (congrArg₂ (arrays m c).result (Fin.ext ?_) (Fin.ext ?_)))
    · have hp : (y 0).val < 256 := (y 0).isLt
      have hN : t.val < 104 := lt_of_lt_of_eq t.isLt (show cfg0.N = 104 from N_0)
      omega
    · blk_simp [indices t]
      rw [hcv.1, hcv.2]
      show t.val / 26 * 1024 + 256 * (t.val % 26 - 22) + (y 0).val = _
      omega
    · blk_simp [indices t]

/-- The run ends with the result array at that, and the arguments unchanged. -/
theorem run_result : θ_run defs (onTc (τ := τ) (main (F := Ideal))) ⟨m, fun _ => 0, ρ⟩ (fun r => ∀ c : Dev nD,
      r.2.mem ((c.tc : Thread nD τ).loc main_v2) = (fun y : S4096x4096.Idx => ((arrays m c).result (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩) (run_main m ρ)

end Cert.Kernel6Ideal.DownPrompt
-- ==== Proof.DownPrompt.Reference.lean ====
/-
  The reference's down-projection on the prompt rows, read one element at a time.
-/
module

public import proofs.«01_k».proof.Proof.Gen.Reference6Ideal.Read
public import proofs.«01_k».proof.Proof.DownPrompt.Spec
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Reference6Ideal.DownPrompt

open Cert.Reference6Ideal Cert.Reference6Ideal.Gen Cert.Reference6Ideal.Read Cert.DownPrompt

/-- The reference's arguments hold the arrays `A`. -/
structure Holds (A : Arrays) (x0 : Vec Ideal S4096x11008 .bf16) (x1 : Vec Ideal S11008x4096 .f32) (x2 : Vec Ideal S4096x4096 .f32)
    (x3 : Vec Ideal S1x1x4096 .f32) (x4 : Vec Ideal S4096 .f32) : Prop where
  tokens : ∀ i l, x0 (ix2 i l) = A.tokens i l
  weight : ∀ l q, x1 (ix2 l q) = A.weight q l
  rest : ∀ i q, x2 (ix2 i q) = A.rest i q
  gate : ∀ q, x3 (ix3 (0 : Fin 1) (0 : Fin 1) q) = A.gate q
  scale : ∀ q, x4 (ix1 q) = A.scale q

variable {A : Arrays} {x0 : Vec Ideal S4096x11008 .bf16} {x1 : Vec Ideal S11008x4096 .f32} {x2 : Vec Ideal S4096x4096 .f32}
    {x3 : Vec Ideal S1x1x4096 .f32} {x4 : Vec Ideal S4096 .f32}

theorem dot_apply (h : Holds A x0 x1 x2 x3 x4) (i : Fin 4096) (q : Fin 4096) : val_main_v1 (F := Ideal) x0 x1 (ix2 i q) = A.dot i q := by
  refine (val_main_v1_apply x0 x1 _).trans ?_
  refine Finset.sum_congr rfl fun l _ => ?_
  rw [show lidx_main_v1 (ix2 i q) l = ix2 i l from eq_ix2 _, show ridx_main_v1 (ix2 i q) l = ix2 l q from eq_ix2 _]
  exact congrArg₂ (HMul.hMul (α := EReal) (β := EReal)) (h.tokens i l) (h.weight l q)

/-- The sum of a row's squares. -/
theorem squares_apply (h : Holds A x0 x1 x2 x3 x4) (i : Fin 4096) :
    val_main_v3 (F := Ideal) x0 x1 (ix1 i) = ∑ q, A.dot i q * A.dot i q := by
  refine (val_main_v3_apply x0 x1 _).trans ?_
  refine (congrArg₂ (HAdd.hAdd (α := EReal) (β := EReal)) (show _ = (0 : EReal) from ?_) (Finset.sum_congr rfl fun q _ => ?_)).trans (zero_add _)
  · pointwise [val_main_cst]
  · rw [show idx_main_v3 (ix1 i) q = ix2 i q from eq_ix2 _]
    exact (val_main_v2_apply x0 x1 _).trans (congrArg₂ (HMul.hMul (α := EReal) (β := EReal)) (dot_apply h i q) (dot_apply h i q))

/-- A row's scale. -/
theorem scale_apply (h : Holds A x0 x1 x2 x3 x4) (i : Fin 4096) :
    val_main_v9 (F := Ideal) x0 x1 (ix2 i (0 : Fin 1)) = scaleOf (A.dot i) := by
  unfold scaleOf
  rw [← squares_apply h i]
  pointwise [val_main_v9, val_main_v8, val_main_v7, val_main_v6, val_main_v5, val_main_v4, val_main_cst_0, val_main_cst_1]

/-- The reference's result. -/
theorem result_apply (h : Holds A x0 x1 x2 x3 x4) (i : Fin 4096) (q : Fin 4096) :
    val_main_v20 (F := Ideal) x0 x1 x2 x3 x4 (ix2 i q) = A.result i q := by
  unfold Arrays.result
  rw [← dot_apply h, ← scale_apply h, ← h.rest, ← h.gate, ← h.scale]
  pointwise [val_main_v20, val_main_v19, val_main_v18, val_main_v17, val_main_v16, val_main_v15, val_main_v14, val_main_v13, val_main_v12, val_main_v11, val_main_v10]

end Cert.Reference6Ideal.DownPrompt
-- ==== Proof.DownPrompt.Equal.lean ====
/-
  The down-projection's kernel on the prompt rows and its reference compute one array.
-/
module

public import proofs.«01_k».proof.Defs
public import proofs.«01_k».proof.Proof.DownPrompt.Array
public import proofs.«01_k».proof.Proof.DownPrompt.Reference
public import proofs.«01_k».proof.Proof.Gen.Reference6Ideal
public import Idealize.ShloMosaic.Lib.Claim

@[expose] public section

set_option maxRecDepth 16384

noncomputable section

open Idealize.ShloMosaic Idealize.ShloMosaic.TcCoe Idealize.SL.Sem

namespace Cert.DownPrompt

/-- The frame of the reference. -/
theorem frame_reference : haveI := Cert.Reference6Ideal.Gen.facts; Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From arguments that agree, the kernel and the reference end with one array. -/
theorem algebraic : haveI := Cert.Kernel6Ideal.Gen.facts; haveI := Cert.Reference6Ideal.Gen.facts; Cert.algebraic_Kernel6Ideal_Reference6Ideal := by
  intro m ρ m' ρ' _ hagree
  refine ⟨fun c => fun y : Cert.Kernel6Ideal.S4096x4096.Idx => ((Cert.Kernel6Ideal.DownPrompt.arrays m c).result (y 0) (y 1) : EReal),
    Cert.Kernel6Ideal.DownPrompt.run_result m ρ, ?_⟩
  refine (θ_run Cert.Reference6Ideal.defs _ _).mono (fun r h c => ⟨(h c).1.trans ?_, (h c).2⟩) (Cert.Reference6Ideal.Value.run (F := Ideal) m' ρ')
  refine (Cert.Reference6Ideal.Read.val_main_v20_eq (F := Ideal) _ _ _ _ _).trans ?_
  obtain ⟨e0, e1, e2, e3, e4⟩ := hagree c
  funext y
  refine (congrArg (Cert.Reference6Ideal.Read.val_main_v20 (F := Ideal) _ _ _ _ _) (eq_ix2 y)).trans
    (Cert.Reference6Ideal.DownPrompt.result_apply (A := Cert.Kernel6Ideal.DownPrompt.arrays m c) ?_ (y 0) (y 1))
  exact ⟨fun i l => congrFun e0 _, fun l q => congrFun e1 _, fun i q => congrFun e2 _, fun q => congrFun e3 _, fun q => congrFun e4 _⟩

end Cert.DownPrompt
-- ==== Proof.lean ====
/-
  The claims of the certificate, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Swa.Equal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Words.Up
public import proofs.«01_k».proof.Proof.Up.Equal
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Words.Down
public import proofs.«01_k».proof.Proof.Down.Equal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Proj.PromptEqual
public import proofs.«01_k».proof.Proof.Proj.LatentEqual
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Words.DownPrompt
public import proofs.«01_k».proof.Proof.DownPrompt.Equal
public import Idealize.ShloMosaic.Adequacy
public import Idealize.ShloMosaic.Init

@[expose] public section

noncomputable section

namespace Cert.Proof

open Idealize.ShloMosaic Idealize.SL.Sem

/-- Of each call: the frames, what its idealization names, and the equality with its reference. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    Cert.Swa.frame_reference, fun m ρ _ => Cert.Swa.frame_reference m ρ trivial,
    fun m ρ _ => Cert.Kernel3.Up.frame m ρ, fun m ρ _ => Cert.Kernel3Ideal.Up.frame m ρ, Cert.Up.frame_reference,
    fun m ρ _ => Cert.Kernel2.Down.frame m ρ, fun m ρ _ => Cert.Kernel2Ideal.Down.frame m ρ, Cert.Down.frame_reference,
    fun m ρ _ => Cert.Kernel4.Gen.frame m ρ, fun m ρ _ => Cert.Kernel4Ideal.Gen.frame m ρ, Cert.Proj.Prompt.frame_reference,
    fun m ρ _ => Cert.Kernel5.Gen.frame m ρ, fun m ρ _ => Cert.Kernel5Ideal.Gen.frame m ρ, Cert.Proj.Latent.frame_reference,
    fun m ρ _ => Cert.Kernel6.DownPrompt.frame m ρ, fun m ρ _ => Cert.Kernel6Ideal.DownPrompt.frame m ρ, Cert.DownPrompt.frame_reference,
    Cert.Swa.preserves, Cert.Swa.algebraic, trivial, Cert.Up.algebraic, trivial, Cert.Down.algebraic,
    trivial, Cert.Proj.Prompt.algebraic, trivial, Cert.Proj.Latent.algebraic,
    trivial, Cert.DownPrompt.algebraic⟩

end Cert.Proof

end
